-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v78_0)) (v1 : (c : Dev Cert.Kernel3Ideal.nD) → Buf (Elt Ideal) ((c.tc : Thread Cert.Kernel3Ideal.nD Cert.Kernel3Ideal.τ).loc Cert.Kernel3Ideal.main_v78_1)) (v2 : (c : Dev Cert.Kernel3Ideal.nD) → Buf (Elt Ideal) ((c.tc : Thread Cert.Kernel3Ideal.nD Cert.Kernel3Ideal.τ).loc Cert.Kernel3Ideal.main_v78_2)) (v3 : (c : Dev Cert.Kernel3Ideal.nD) → Buf (Elt Ideal) ((c.tc : Thread Cert.Kernel3Ideal.nD Cert.Kernel3Ideal.τ).loc Cert.Kernel3Ideal.main_v78_3)) (v4 : (c : Dev Cert.Kernel3Ideal.nD) → Buf (Elt Ideal) ((c.tc : Thread Cert.Kernel3Ideal.nD Cert.Kernel3Ideal.τ).loc Cert.Kernel3Ideal.main_v78_4)) (v5 : (c : Dev Cert.Kernel3Ideal.nD) → Buf (Elt Ideal) ((c.tc : Thread Cert.Kernel3Ideal.nD Cert.Kernel3Ideal.τ).loc Cert.Kernel3Ideal.main_v78_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v78_0) = v0 c
          ∧ r.2.mem ((c.tc : Thread Cert.Kernel3Ideal.nD Cert.Kernel3Ideal.τ).loc Cert.Kernel3Ideal.main_v78_1) = v1 c
          ∧ r.2.mem ((c.tc : Thread Cert.Kernel3Ideal.nD Cert.Kernel3Ideal.τ).loc Cert.Kernel3Ideal.main_v78_2) = v2 c
          ∧ r.2.mem ((c.tc : Thread Cert.Kernel3Ideal.nD Cert.Kernel3Ideal.τ).loc Cert.Kernel3Ideal.main_v78_3) = v3 c
          ∧ r.2.mem ((c.tc : Thread Cert.Kernel3Ideal.nD Cert.Kernel3Ideal.τ).loc Cert.Kernel3Ideal.main_v78_4) = v4 c
          ∧ r.2.mem ((c.tc : Thread Cert.Kernel3Ideal.nD Cert.Kernel3Ideal.τ).loc Cert.Kernel3Ideal.main_v78_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v119) = v0 c
          ∧ r.2.mem ((c.tc : Thread Cert.Reference3Ideal.nD Cert.Reference3Ideal.τ).loc Cert.Reference3Ideal.main_v120) = v1 c
          ∧ r.2.mem ((c.tc : Thread Cert.Reference3Ideal.nD Cert.Reference3Ideal.τ).loc Cert.Reference3Ideal.main_v122) = v2 c
          ∧ r.2.mem ((c.tc : Thread Cert.Reference3Ideal.nD Cert.Reference3Ideal.τ).loc Cert.Reference3Ideal.main_v123) = v3 c
          ∧ r.2.mem ((c.tc : Thread Cert.Reference3Ideal.nD Cert.Reference3Ideal.τ).loc Cert.Reference3Ideal.main_v124) = v4 c
          ∧ r.2.mem ((c.tc : Thread Cert.Reference3Ideal.nD Cert.Reference3Ideal.τ).loc Cert.Reference3Ideal.main_v125) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v77_0)) (v1 : (c : Dev Cert.Kernel4Ideal.nD) → Buf (Elt Ideal) ((c.tc : Thread Cert.Kernel4Ideal.nD Cert.Kernel4Ideal.τ).loc Cert.Kernel4Ideal.main_v77_1)) (v2 : (c : Dev Cert.Kernel4Ideal.nD) → Buf (Elt Ideal) ((c.tc : Thread Cert.Kernel4Ideal.nD Cert.Kernel4Ideal.τ).loc Cert.Kernel4Ideal.main_v77_2)) (v3 : (c : Dev Cert.Kernel4Ideal.nD) → Buf (Elt Ideal) ((c.tc : Thread Cert.Kernel4Ideal.nD Cert.Kernel4Ideal.τ).loc Cert.Kernel4Ideal.main_v77_3)) (v4 : (c : Dev Cert.Kernel4Ideal.nD) → Buf (Elt Ideal) ((c.tc : Thread Cert.Kernel4Ideal.nD Cert.Kernel4Ideal.τ).loc Cert.Kernel4Ideal.main_v77_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v77_0) = v0 c
          ∧ r.2.mem ((c.tc : Thread Cert.Kernel4Ideal.nD Cert.Kernel4Ideal.τ).loc Cert.Kernel4Ideal.main_v77_1) = v1 c
          ∧ r.2.mem ((c.tc : Thread Cert.Kernel4Ideal.nD Cert.Kernel4Ideal.τ).loc Cert.Kernel4Ideal.main_v77_2) = v2 c
          ∧ r.2.mem ((c.tc : Thread Cert.Kernel4Ideal.nD Cert.Kernel4Ideal.τ).loc Cert.Kernel4Ideal.main_v77_3) = v3 c
          ∧ r.2.mem ((c.tc : Thread Cert.Kernel4Ideal.nD Cert.Kernel4Ideal.τ).loc Cert.Kernel4Ideal.main_v77_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v116) = v0 c
          ∧ r.2.mem ((c.tc : Thread Cert.Reference4Ideal.nD Cert.Reference4Ideal.τ).loc Cert.Reference4Ideal.main_v117) = v1 c
          ∧ r.2.mem ((c.tc : Thread Cert.Reference4Ideal.nD Cert.Reference4Ideal.τ).loc Cert.Reference4Ideal.main_v119) = v2 c
          ∧ r.2.mem ((c.tc : Thread Cert.Reference4Ideal.nD Cert.Reference4Ideal.τ).loc Cert.Reference4Ideal.main_v120) = v3 c
          ∧ r.2.mem ((c.tc : Thread Cert.Reference4Ideal.nD Cert.Reference4Ideal.τ).loc Cert.Reference4Ideal.main_v121) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v53)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v53) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v137) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x8208x1024 : Shape := ⟨3, ![4, 8208, 1024]⟩
abbrev S4x8208x512 : Shape := ⟨3, ![4, 8208, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩
abbrev S4x8320x1024 : Shape := ⟨3, ![4, 8320, 1024]⟩
abbrev S4x8320x512 : Shape := ⟨3, ![4, 8320, 512]⟩
abbrev S1x1024 : Shape := ⟨2, ![1, 1024]⟩
abbrev S1024 : Shape := ⟨1, ![1024]⟩
abbrev S4x8192x1024 : Shape := ⟨3, ![4, 8192, 1024]⟩
abbrev S1x512x1024 : Shape := ⟨3, ![1, 512, 1024]⟩
abbrev S1x512x512 : Shape := ⟨3, ![1, 512, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 25
  | .vmem => 12
  | .smem => 0
  | _ => 0

abbrev bufTy : (tb : Table) → Fin (tcTables nBuf tb) → BufTy
  | .hbm, ⟨0, _⟩ => ⟨S4x8208x1024, .f32⟩
  | .hbm, ⟨1, _⟩ => ⟨S4x8208x512, .f32⟩
  | .hbm, ⟨2, _⟩ => ⟨S4x8208x512, .f32⟩
  | .hbm, ⟨3, _⟩ => ⟨S2x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S2x1024x1024, .bf16⟩
  | .hbm, ⟨8, _⟩ => ⟨S2x1024x5632, .bf16⟩
  | .hbm, ⟨9, _⟩ => ⟨S2x2816x1024, .bf16⟩
  | .hbm, ⟨10, _⟩ => ⟨S_, .i32⟩
  | .hbm, ⟨11, _⟩ => ⟨S_, .f32⟩
  | .hbm, ⟨12, _⟩ => ⟨S4x8320x1024, .f32⟩
  | .hbm, ⟨13, _⟩ => ⟨S_, .i32⟩
  | .hbm, ⟨14, _⟩ => ⟨S_, .f32⟩
  | .hbm, ⟨15, _⟩ => ⟨S4x8320x512, .f32⟩
  | .hbm, ⟨16, _⟩ => ⟨S4x8320x512, .bf16⟩
  | .hbm, ⟨17, _⟩ => ⟨S_, .i32⟩
  | .hbm, ⟨18, _⟩ => ⟨S_, .f32⟩
  | .hbm, ⟨19, _⟩ => ⟨S4x8320x512, .f32⟩
  | .hbm, ⟨20, _⟩ => ⟨S4x8320x512, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x512x1024, .f32⟩
  | .local _ .vmem, ⟨11, _⟩ => ⟨S1x512x1024, .f32⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c128_i32 : BitVec 32 := 128#32
  let arg1 : BitVec 32 := BitVec.ofNat 32 (i 1).val
  let c512_i32 : BitVec 32 := 512#32
  let v0 : BitVec 32 := Scalar.muli arg1 c512_i32
  let v1 : BitVec 32 := Scalar.addi c128_i32 v0
  v1
def k0_mult2 (i : grid0.Coords) : BitVec 32 :=
  let c128_i32 : BitVec 32 := 128#32
  let arg1 : BitVec 32 := BitVec.ofNat 32 (i 1).val
  let c512_i32 : BitVec 32 := 512#32
  let v0 : BitVec 32 := Scalar.muli arg1 c512_i32
  let v1 : BitVec 32 := Scalar.addi c128_i32 v0
  v1
def k0_mult3 (i : grid0.Coords) : BitVec 32 :=
  let c128_i32 : BitVec 32 := 128#32
  let arg1 : BitVec 32 := BitVec.ofNat 32 (i 1).val
  let c512_i32 : BitVec 32 := 512#32
  let v0 : BitVec 32 := Scalar.muli arg1 c512_i32
  let v1 : BitVec 32 := Scalar.addi c128_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8208x1024 : Shape := ⟨3, ![4, 8208, 1024]⟩
abbrev S4x8208x512 : Shape := ⟨3, ![4, 8208, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8208x5632 : Shape := ⟨3, ![4, 8208, 5632]⟩
abbrev S4x8208x2816 : Shape := ⟨3, ![4, 8208, 2816]⟩
abbrev S1x2816x1024 : Shape := ⟨3, ![1, 2816, 1024]⟩
abbrev S2816x1024 : Shape := ⟨2, ![2816, 1024]⟩
abbrev S4x8192x1024 : Shape := ⟨3, ![4, 8192, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x8208x1024, .f32⟩
  | .hbm, ⟨1, _⟩ => ⟨S4x8208x512, .f32⟩
  | .hbm, ⟨2, _⟩ => ⟨S4x8208x512, .f32⟩
  | .hbm, ⟨3, _⟩ => ⟨S2x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S4x8208x1024, .f32⟩
  | .hbm, ⟨8, _⟩ => ⟨S1x1024x1024, .f32⟩
  | .hbm, ⟨9, _⟩ => ⟨S1024x1024, .f32⟩
  | .hbm, ⟨10, _⟩ => ⟨S4x8208x1024, .f32⟩
  | .hbm, ⟨11, _⟩ => ⟨S4x8208x1024, .f32⟩
  | .hbm, ⟨12, _⟩ => ⟨S1x1024, .f32⟩
  | .hbm, ⟨13, _⟩ => ⟨S1024, .f32⟩
  | .hbm, ⟨14, _⟩ => ⟨S4x8208x1024, .f32⟩
  | .hbm, ⟨15, _⟩ => ⟨S_, .f32⟩
  | .hbm, ⟨16, _⟩ => ⟨S4x8208, .f32⟩
  | .hbm, ⟨17, _⟩ => ⟨S4x8208x1, .f32⟩
  | .hbm, ⟨18, _⟩ => ⟨S_, .f32⟩
  | .hbm, ⟨19, _⟩ => ⟨S4x8208x1, .f32⟩
  | .hbm, ⟨20, _⟩ => ⟨S4x8208x1, .f32⟩
  | .hbm, ⟨21, _⟩ => ⟨S_, .f32⟩
  | .hbm, ⟨22, _⟩ => ⟨S4x8208x1, .f32⟩
  | .hbm, ⟨23, _⟩ => ⟨S4x8208x1, .f32⟩
  | .hbm, ⟨24, _⟩ => ⟨S4x8208x1, .f32⟩
  | .hbm, ⟨25, _⟩ => ⟨S4x8208x1024, .f32⟩
  | .hbm, ⟨26, _⟩ => ⟨S4x8208x1024, .f32⟩
  | .hbm, ⟨27, _⟩ => ⟨S1x1x1024, .f32⟩
  | .hbm, ⟨28, _⟩ => ⟨S4x8208x1024, .f32⟩
  | .hbm, ⟨29, _⟩ => ⟨S4x8208x1024, .f32⟩
  | .hbm, ⟨30, _⟩ => ⟨S1x1024x5632, .f32⟩
  | .hbm, ⟨31, _⟩ => ⟨S1024x5632, .f32⟩
  | .hbm, ⟨32, _⟩ => ⟨S4x8208x5632, .f32⟩
  | .hbm, ⟨33, _⟩ => ⟨S4x8208x2816, .f32⟩
  | .hbm, ⟨34, _⟩ => ⟨S4x8208x2816, .f32⟩
  | .hbm, ⟨35, _⟩ => ⟨S4x8208x2816, .f32⟩
  | .hbm, ⟨36, _⟩ => ⟨S4x8208x2816, .f32⟩
  | .hbm, ⟨37, _⟩ => ⟨S_, .f32⟩
  | .hbm, ⟨38, _⟩ => ⟨S4x8208x2816, .f32⟩
  | .hbm, ⟨39, _⟩ => ⟨S4x8208x2816, .f32⟩
  | .hbm, ⟨40, _⟩ => ⟨S_, .f32⟩
  | .hbm, ⟨41, _⟩ => ⟨S4x8208x2816, .f32⟩
  | .hbm, ⟨42, _⟩ => ⟨S4x8208x2816, .f32⟩
  | .hbm, ⟨43, _⟩ => ⟨S4x8208x2816, .f32⟩
  | .hbm, ⟨44, _⟩ => ⟨S4x8208x2816, .f32⟩
  | .hbm, ⟨45, _⟩ => ⟨S1x2816x1024, .f32⟩
  | .hbm, ⟨46, _⟩ => ⟨S2816x1024, .f32⟩
  | .hbm, ⟨47, _⟩ => ⟨S4x8208x1024, .f32⟩
  | .hbm, ⟨48, _⟩ => ⟨S4x8208x1024, .f32⟩
  | .hbm, ⟨49, _⟩ => ⟨S4x8192x1024, .f32⟩
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel2.lean ====
abbrev S4x8208x1024 : Shape := ⟨3, ![4, 8208, 1024]⟩
abbrev S4x8208x512 : Shape := ⟨3, ![4, 8208, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩
abbrev S4x8320x1024 : Shape := ⟨3, ![4, 8320, 1024]⟩
abbrev S4x8320x512 : Shape := ⟨3, ![4, 8320, 512]⟩
abbrev S1x1024 : Shape := ⟨2, ![1, 1024]⟩
abbrev S1024 : Shape := ⟨1, ![1024]⟩
abbrev S33280x1024 : Shape := ⟨2, ![33280, 1024]⟩
abbrev S33280x512 : Shape := ⟨2, ![33280, 512]⟩
abbrev S512x1024 : Shape := ⟨2, ![512, 1024]⟩
abbrev S512x512 : Shape := ⟨2, ![512, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x512x1024 : Shape := ⟨3, ![1, 512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 28
  | .vmem => 12
  | .smem => 0
  | _ => 0

abbrev bufTy : (tb : Table) → Fin (tcTables nBuf tb) → BufTy
  | .hbm, ⟨0, _⟩ => ⟨S4x8208x1024, .f32⟩
  | .hbm, ⟨1, _⟩ => ⟨S4x8208x512, .f32⟩
  | .hbm, ⟨2, _⟩ => ⟨S4x8208x512, .f32⟩
  | .hbm, ⟨3, _⟩ => ⟨S2x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S2x1024x1024, .bf16⟩
  | .hbm, ⟨8, _⟩ => ⟨S2x1024x5632, .bf16⟩
  | .hbm, ⟨9, _⟩ => ⟨S2x2816x1024, .bf16⟩
  | .hbm, ⟨10, _⟩ => ⟨S_, .i32⟩
  | .hbm, ⟨11, _⟩ => ⟨S_, .f32⟩
  | .hbm, ⟨12, _⟩ => ⟨S4x8320x1024, .f32⟩
  | .hbm, ⟨13, _⟩ => ⟨S_, .i32⟩
  | .hbm, ⟨14, _⟩ => ⟨S_, .f32⟩
  | .hbm, ⟨15, _⟩ => ⟨S4x8320x512, .f32⟩
  | .hbm, ⟨16, _⟩ => ⟨S4x8320x512, .bf16⟩
  | .hbm, ⟨17, _⟩ => ⟨S_, .i32⟩
  | .hbm, ⟨18, _⟩ => ⟨S_, .f32⟩
  | .hbm, ⟨19, _⟩ => ⟨S4x8320x512, .f32⟩
  | .hbm, ⟨20, _⟩ => ⟨S4x8320x512, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S33280x1024, .f32⟩
  | .hbm, ⟨25, _⟩ => ⟨S33280x512, .bf16⟩
  | .hbm, ⟨26, _⟩ => ⟨S33280x512, .bf16⟩
  | .hbm, ⟨27, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S512x1024, .f32⟩
  | .local _ .vmem, ⟨11, _⟩ => ⟨S512x1024, .f32⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x8208x1024 : Shape := ⟨3, ![4, 8208, 1024]⟩
abbrev S4x8208x512 : Shape := ⟨3, ![4, 8208, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8208x5632 : Shape := ⟨3, ![4, 8208, 5632]⟩
abbrev S4x8208x2816 : Shape := ⟨3, ![4, 8208, 2816]⟩
abbrev S1x2816x1024 : Shape := ⟨3, ![1, 2816, 1024]⟩
abbrev S2816x1024 : Shape := ⟨2, ![2816, 1024]⟩
abbrev S4x8320x1024 : Shape := ⟨3, ![4, 8320, 1024]⟩
abbrev S33280x1024 : Shape := ⟨2, ![33280, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x8208x1024, .f32⟩
  | .hbm, ⟨1, _⟩ => ⟨S4x8208x512, .f32⟩
  | .hbm, ⟨2, _⟩ => ⟨S4x8208x512, .f32⟩
  | .hbm, ⟨3, _⟩ => ⟨S2x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S4x8208x1024, .f32⟩
  | .hbm, ⟨8, _⟩ => ⟨S1x1024x1024, .f32⟩
  | .hbm, ⟨9, _⟩ => ⟨S1024x1024, .f32⟩
  | .hbm, ⟨10, _⟩ => ⟨S4x8208x1024, .f32⟩
  | .hbm, ⟨11, _⟩ => ⟨S4x8208x1024, .f32⟩
  | .hbm, ⟨12, _⟩ => ⟨S1x1024, .f32⟩
  | .hbm, ⟨13, _⟩ => ⟨S1024, .f32⟩
  | .hbm, ⟨14, _⟩ => ⟨S4x8208x1024, .f32⟩
  | .hbm, ⟨15, _⟩ => ⟨S_, .f32⟩
  | .hbm, ⟨16, _⟩ => ⟨S4x8208, .f32⟩
  | .hbm, ⟨17, _⟩ => ⟨S4x8208x1, .f32⟩
  | .hbm, ⟨18, _⟩ => ⟨S_, .f32⟩
  | .hbm, ⟨19, _⟩ => ⟨S4x8208x1, .f32⟩
  | .hbm, ⟨20, _⟩ => ⟨S4x8208x1, .f32⟩
  | .hbm, ⟨21, _⟩ => ⟨S_, .f32⟩
  | .hbm, ⟨22, _⟩ => ⟨S4x8208x1, .f32⟩
  | .hbm, ⟨23, _⟩ => ⟨S4x8208x1, .f32⟩
  | .hbm, ⟨24, _⟩ => ⟨S4x8208x1, .f32⟩
  | .hbm, ⟨25, _⟩ => ⟨S4x8208x1024, .f32⟩
  | .hbm, ⟨26, _⟩ => ⟨S4x8208x1024, .f32⟩
  | .hbm, ⟨27, _⟩ => ⟨S1x1x1024, .f32⟩
  | .hbm, ⟨28, _⟩ => ⟨S4x8208x1024, .f32⟩
  | .hbm, ⟨29, _⟩ => ⟨S4x8208x1024, .f32⟩
  | .hbm, ⟨30, _⟩ => ⟨S1x1024x5632, .f32⟩
  | .hbm, ⟨31, _⟩ => ⟨S1024x5632, .f32⟩
  | .hbm, ⟨32, _⟩ => ⟨S4x8208x5632, .f32⟩
  | .hbm, ⟨33, _⟩ => ⟨S4x8208x2816, .f32⟩
  | .hbm, ⟨34, _⟩ => ⟨S4x8208x2816, .f32⟩
  | .hbm, ⟨35, _⟩ => ⟨S4x8208x2816, .f32⟩
  | .hbm, ⟨36, _⟩ => ⟨S4x8208x2816, .f32⟩
  | .hbm, ⟨37, _⟩ => ⟨S_, .f32⟩
  | .hbm, ⟨38, _⟩ => ⟨S4x8208x2816, .f32⟩
  | .hbm, ⟨39, _⟩ => ⟨S4x8208x2816, .f32⟩
  | .hbm, ⟨40, _⟩ => ⟨S_, .f32⟩
  | .hbm, ⟨41, _⟩ => ⟨S4x8208x2816, .f32⟩
  | .hbm, ⟨42, _⟩ => ⟨S4x8208x2816, .f32⟩
  | .hbm, ⟨43, _⟩ => ⟨S4x8208x2816, .f32⟩
  | .hbm, ⟨44, _⟩ => ⟨S4x8208x2816, .f32⟩
  | .hbm, ⟨45, _⟩ => ⟨S1x2816x1024, .f32⟩
  | .hbm, ⟨46, _⟩ => ⟨S2816x1024, .f32⟩
  | .hbm, ⟨47, _⟩ => ⟨S4x8208x1024, .f32⟩
  | .hbm, ⟨48, _⟩ => ⟨S4x8208x1024, .f32⟩
  | .hbm, ⟨49, _⟩ => ⟨S_, .i32⟩
  | .hbm, ⟨50, _⟩ => ⟨S_, .f32⟩
  | .hbm, ⟨51, _⟩ => ⟨S4x8320x1024, .f32⟩
  | .hbm, ⟨52, _⟩ => ⟨S33280x1024, .f32⟩
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S4x8192x1024 : Shape := ⟨3, ![4, 8192, 1024]⟩
abbrev S16x1024 : Shape := ⟨2, ![16, 1024]⟩
abbrev S2x1024 : Shape := ⟨2, ![2, 1024]⟩
abbrev S2x1024x2560 : Shape := ⟨3, ![2, 1024, 2560]⟩
abbrev S2x64 : Shape := ⟨2, ![2, 64]⟩
abbrev S_ : Shape := ⟨0, ![]⟩
abbrev S112x1024 : Shape := ⟨2, ![112, 1024]⟩
abbrev S128x1024 : Shape := ⟨2, ![128, 1024]⟩
abbrev S8 : Shape := ⟨1, ![8]⟩
abbrev S8320 : Shape := ⟨1, ![8320]⟩
abbrev S8320x1 : Shape := ⟨2, ![8320, 1]⟩
abbrev S1x8 : Shape := ⟨2, ![1, 8]⟩
abbrev S8320x8 : Shape := ⟨2, ![8320, 8]⟩
abbrev S128 : Shape := ⟨1, ![128]⟩
abbrev S128x1 : Shape := ⟨2, ![128, 1]⟩
abbrev S8320x128 : Shape := ⟨2, ![8320, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S4x512x8320 : Shape := ⟨3, ![4, 512, 8320]⟩
abbrev S4x8320x512 : Shape := ⟨3, ![4, 8320, 512]⟩
abbrev S4x4x128x8320 : Shape := ⟨4, ![4, 4, 128, 8320]⟩
abbrev S4x8320x1024 : Shape := ⟨3, ![4, 8320, 1024]⟩
abbrev S1x640x1024 : Shape := ⟨3, ![1, 640, 1024]⟩
abbrev S1x1024x2560 : Shape := ⟨3, ![1, 1024, 2560]⟩
abbrev S640x128 : Shape := ⟨2, ![640, 128]⟩
abbrev S1x512x640 : Shape := ⟨3, ![1, 512, 640]⟩
abbrev S1x640x512 : Shape := ⟨3, ![1, 640, 512]⟩
abbrev S1x4x128x640 : Shape := ⟨4, ![1, 4, 128, 640]⟩
abbrev S1x128x1024 : Shape := ⟨3, ![1, 128, 1024]⟩
abbrev S1x512x1024 : Shape := ⟨3, ![1, 512, 1024]⟩
abbrev S512x1024 : Shape := ⟨2, ![512, 1024]⟩
abbrev S640x1024 : Shape := ⟨2, ![640, 1024]⟩
abbrev S640x1 : Shape := ⟨2, ![640, 1]⟩
abbrev S640 : Shape := ⟨1, ![640]⟩
abbrev S1x1024x512 : Shape := ⟨3, ![1, 1024, 512]⟩
abbrev S1024x512 : Shape := ⟨2, ![1024, 512]⟩
abbrev S640x512 : Shape := ⟨2, ![640, 512]⟩
abbrev S640x256 : Shape := ⟨2, ![640, 256]⟩
abbrev S512x640 : Shape := ⟨2, ![512, 640]⟩
abbrev S128x640 : Shape := ⟨2, ![128, 640]⟩
abbrev S1x1x128x640 : Shape := ⟨4, ![1, 1, 128, 640]⟩

abbrev nBuf : Space → Nat
  | .hbm => 199
  | .vmem => 26
  | .smem => 0
  | _ => 0

abbrev hbmTy0_0 (i : Nat) : BufTy := match i % 128 with
  | 0 => ⟨S4x8192x1024, .f32⟩
  | 1 => ⟨S16x1024, .f32⟩
  | 2 => ⟨S2x1024, .f32⟩
  | 3 => ⟨S2x1024x2560, .f32⟩
  | 4 => ⟨S2x64, .f32⟩
  | 5 => ⟨S2x64, .f32⟩
  | 6 => ⟨S_, .f32⟩
  | 7 => ⟨S112x1024, .f32⟩
  | 8 => ⟨S128x1024, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8320, .i32⟩
  | 24 => ⟨S_, .i32⟩
  | 25 => ⟨S8320, .i32⟩
  | 26 => ⟨S8320, .i32⟩
  | 27 => ⟨S8320, .f32⟩
  | 28 => ⟨S8320x1, .f32⟩
  | 29 => ⟨S1x8, .f32⟩
  | 30 => ⟨S8320x8, .f32⟩
  | 31 => ⟨S8320x8, .f32⟩
  | 32 => ⟨S8320x8, .f32⟩
  | 33 => ⟨S128, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S128, .i32⟩
  | 41 => ⟨S128, .i32⟩
  | 42 => ⟨S_, .i32⟩
  | 43 => ⟨S128, .i32⟩
  | 44 => ⟨S128, .i1⟩
  | 45 => ⟨S_, .i32⟩
  | 46 => ⟨S128, .i32⟩
  | 47 => ⟨S128, .i1⟩
  | 48 => ⟨S_, .i32⟩
  | 49 => ⟨S_, .i1⟩
  | 50 => ⟨S128, .i1⟩
  | 51 => ⟨S128, .i1⟩
  | 52 => ⟨S128, .i1⟩
  | 53 => ⟨S128, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i1⟩
  | 62 => ⟨S_, .i32⟩
  | 63 => ⟨S128, .i32⟩
  | 64 => ⟨S128, .i1⟩
  | 65 => ⟨S128, .i1⟩
  | 66 => ⟨S8320x8, .f32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S128, .i32⟩
  | 74 => ⟨S128, .i32⟩
  | 75 => ⟨S_, .i32⟩
  | 76 => ⟨S128, .i32⟩
  | 77 => ⟨S128, .i1⟩
  | 78 => ⟨S_, .i32⟩
  | 79 => ⟨S128, .i32⟩
  | 80 => ⟨S128, .i1⟩
  | 81 => ⟨S_, .i32⟩
  | 82 => ⟨S_, .i1⟩
  | 83 => ⟨S128, .i1⟩
  | 84 => ⟨S128, .i1⟩
  | 85 => ⟨S128, .i1⟩
  | 86 => ⟨S128, .i32⟩
  | 87 => ⟨S128, .i32⟩
  | 88 => ⟨S128, .i32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S128x1, .i32⟩
  | 97 => ⟨S8320x128, .f32⟩
  | 98 => ⟨S8320x8, .f32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S128, .i32⟩
  | 106 => ⟨S128, .i32⟩
  | 107 => ⟨S_, .i32⟩
  | 108 => ⟨S128, .i32⟩
  | 109 => ⟨S128, .i1⟩
  | 110 => ⟨S_, .i32⟩
  | 111 => ⟨S128, .i32⟩
  | 112 => ⟨S128, .i1⟩
  | 113 => ⟨S_, .i32⟩
  | 114 => ⟨S_, .i1⟩
  | 115 => ⟨S128, .i1⟩
  | 116 => ⟨S128, .i1⟩
  | 117 => ⟨S128, .i1⟩
  | 118 => ⟨S128, .i32⟩
  | 119 => ⟨S128, .i32⟩
  | 120 => ⟨S128, .i32⟩
  | 121 => ⟨S_, .i32⟩
  | 122 => ⟨S128, .i32⟩
  | 123 => ⟨S128, .i1⟩
  | 124 => ⟨S_, .i32⟩
  | 125 => ⟨S128, .i32⟩
  | 126 => ⟨S128, .i32⟩
  | 127 => ⟨S128, .i32⟩
  | _ => ⟨S4x8192x1024, .f32⟩

abbrev hbmTy0_1 (i : Nat) : BufTy := match i % 128 with
  | 0 => ⟨S128x1, .i32⟩
  | 1 => ⟨S8320x128, .f32⟩
  | 2 => ⟨S128, .i1⟩
  | 3 => ⟨S_, .f32⟩
  | 4 => ⟨S_, .f32⟩
  | 5 => ⟨S8320x128, .i1⟩
  | 6 => ⟨S8320x128, .f32⟩
  | 7 => ⟨S8320x128, .f32⟩
  | 8 => ⟨S8320x128, .f32⟩
  | 9 => ⟨S_, .f32⟩
  | 10 => ⟨S_, .f32⟩
  | 11 => ⟨S8320x128, .i1⟩
  | 12 => ⟨S8320x128, .f32⟩
  | 13 => ⟨S8320x128, .f32⟩
  | 14 => ⟨S_, .f32⟩
  | 15 => ⟨S_, .f32⟩
  | 16 => ⟨S8320x128, .i1⟩
  | 17 => ⟨S8320x128, .f32⟩
  | 18 => ⟨S8320x128, .f32⟩
  | 19 => ⟨S256, .i32⟩
  | 20 => ⟨S_, .i32⟩
  | 21 => ⟨S_, .i32⟩
  | 22 => ⟨S256, .i32⟩
  | 23 => ⟨S256, .i32⟩
  | 24 => ⟨S256, .i32⟩
  | 25 => ⟨S_, .i32⟩
  | 26 => ⟨S256, .i32⟩
  | 27 => ⟨S256, .i1⟩
  | 28 => ⟨S256, .i32⟩
  | 29 => ⟨S256, .i32⟩
  | 30 => ⟨S_, .i32⟩
  | 31 => ⟨S256, .i32⟩
  | 32 => ⟨S256, .i1⟩
  | 33 => ⟨S256, .i1⟩
  | 34 => ⟨S_, .i32⟩
  | 35 => ⟨S256, .i32⟩
  | 36 => ⟨S256, .i32⟩
  | 37 => ⟨S256, .i32⟩
  | 38 => ⟨S256x1, .i32⟩
  | 39 => ⟨S1x256, .i32⟩
  | 40 => ⟨S256x256, .i32⟩
  | 41 => ⟨S256x256, .i32⟩
  | 42 => ⟨S256x256, .i1⟩
  | 43 => ⟨S_, .f32⟩
  | 44 => ⟨S_, .f32⟩
  | 45 => ⟨S256x256, .f32⟩
  | 46 => ⟨S256x256, .f32⟩
  | 47 => ⟨S256x256, .f32⟩
  | 48 => ⟨S256x256, .bf16⟩
  | 49 => ⟨S2x1024x2560, .bf16⟩
  | 50 => ⟨S1x1024, .f32⟩
  | 51 => ⟨S1024, .f32⟩
  | 52 => ⟨S1x1024, .f32⟩
  | 53 => ⟨S1x64, .f32⟩
  | 54 => ⟨S64, .f32⟩
  | 55 => ⟨S1x64, .f32⟩
  | 56 => ⟨S8x64, .f32⟩
  | 57 => ⟨S512, .f32⟩
  | 58 => ⟨S1x512, .f32⟩
  | 59 => ⟨S1x64, .f32⟩
  | 60 => ⟨S64, .f32⟩
  | 61 => ⟨S1x64, .f32⟩
  | 62 => ⟨S8x64, .f32⟩
  | 63 => ⟨S512, .f32⟩
  | 64 => ⟨S1x512, .f32⟩
  | 65 => ⟨S4x512x8320, .bf16⟩
  | 66 => ⟨S4x8320x512, .bf16⟩
  | 67 => ⟨S4x4x128x8320, .bf16⟩
  | 68 => ⟨S4x8320x512, .f32⟩
  | 69 => ⟨S4x8320x512, .f32⟩
  | 70 => ⟨S4x8320x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x640x1024, .f32⟩
  | .local _ .vmem, ⟨1, _⟩ => ⟨S1x640x1024, .f32⟩
  | .local _ .vmem, ⟨2, _⟩ => ⟨S128x1024, .f32⟩
  | .local _ .vmem, ⟨3, _⟩ => ⟨S1x1024, .f32⟩
  | .local _ .vmem, ⟨4, _⟩ => ⟨S1x1024x2560, .bf16⟩
  | .local _ .vmem, ⟨5, _⟩ => ⟨S1x512, .f32⟩
  | .local _ .vmem, ⟨6, _⟩ => ⟨S1x512, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S256x256, .bf16⟩
  | .local _ .vmem, ⟨14, _⟩ => ⟨S1x512x640, .bf16⟩
  | .local _ .vmem, ⟨15, _⟩ => ⟨S1x512x640, .bf16⟩
  | .local _ .vmem, ⟨16, _⟩ => ⟨S1x640x512, .bf16⟩
  | .local _ .vmem, ⟨17, _⟩ => ⟨S1x640x512, .bf16⟩
  | .local _ .vmem, ⟨18, _⟩ => ⟨S1x4x128x640, .bf16⟩
  | .local _ .vmem, ⟨19, _⟩ => ⟨S1x4x128x640, .bf16⟩
  | .local _ .vmem, ⟨20, _⟩ => ⟨S1x640x512, .f32⟩
  | .local _ .vmem, ⟨21, _⟩ => ⟨S1x640x512, .f32⟩
  | .local _ .vmem, ⟨22, _⟩ => ⟨S1x640x512, .f32⟩
  | .local _ .vmem, ⟨23, _⟩ => ⟨S1x640x512, .f32⟩
  | .local _ .vmem, ⟨24, _⟩ => ⟨S1x640x1024, .f32⟩
  | .local _ .vmem, ⟨25, _⟩ => ⟨S1x640x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_c_6 : Ref sig .tc := ⟨.hbm, 59, rfl⟩
abbrev main_v25 : Ref sig .tc := ⟨.hbm, 60, rfl⟩
abbrev main_v26 : Ref sig .tc := ⟨.hbm, 61, rfl⟩
abbrev main_c_7 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_8 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_1 : Ref sig .tc := ⟨.hbm, 75, rfl⟩
abbrev main_call1_v5 : Ref sig .tc := ⟨.hbm, 76, rfl⟩
abbrev main_call1_v6 : Ref sig .tc := ⟨.hbm, 77, rfl⟩
abbrev main_call1_c_2 : Ref sig .tc := ⟨.hbm, 78, rfl⟩
abbrev main_call1_v7 : Ref sig .tc := ⟨.hbm, 79, rfl⟩
abbrev main_call1_v8 : Ref sig .tc := ⟨.hbm, 80, rfl⟩
abbrev main_call1_c_3 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_v31 : Ref sig .tc := ⟨.hbm, 88, rfl⟩
abbrev main_c_9 : Ref sig .tc := ⟨.hbm, 89, rfl⟩
abbrev main_v32 : Ref sig .tc := ⟨.hbm, 90, rfl⟩
abbrev main_v33 : Ref sig .tc := ⟨.hbm, 91, rfl⟩
abbrev main_c_10 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_c_11 : Ref sig .tc := ⟨.hbm, 99, rfl⟩
abbrev main_call2_v0 : Ref sig .tc := ⟨.hbm, 100, rfl⟩
abbrev main_call2_c : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_c_1 : Ref sig .tc := ⟨.hbm, 107, rfl⟩
abbrev main_call2_v5 : Ref sig .tc := ⟨.hbm, 108, rfl⟩
abbrev main_call2_v6 : Ref sig .tc := ⟨.hbm, 109, rfl⟩
abbrev main_call2_c_2 : Ref sig .tc := ⟨.hbm, 110, rfl⟩
abbrev main_call2_v7 : Ref sig .tc := ⟨.hbm, 111, rfl⟩
abbrev main_call2_v8 : Ref sig .tc := ⟨.hbm, 112, rfl⟩
abbrev main_call2_c_3 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_v40 : Ref sig .tc := ⟨.hbm, 120, rfl⟩
abbrev main_c_12 : Ref sig .tc := ⟨.hbm, 121, rfl⟩
abbrev main_v41 : Ref sig .tc := ⟨.hbm, 122, rfl⟩
abbrev main_v42 : Ref sig .tc := ⟨.hbm, 123, rfl⟩
abbrev main_c_13 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_14 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v49 : Ref sig .tc := ⟨.hbm, 135, rfl⟩
abbrev main_v50 : Ref sig .tc := ⟨.hbm, 136, rfl⟩
abbrev main_cst_15 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v51 : Ref sig .tc := ⟨.hbm, 141, rfl⟩
abbrev main_cst_16 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v52 : Ref sig .tc := ⟨.hbm, 146, rfl⟩
abbrev main_v53 : Ref sig .tc := ⟨.hbm, 147, rfl⟩
abbrev main_c_17 : Ref sig .tc := ⟨.hbm, 148, rfl⟩
abbrev main_call6_v0 : Ref sig .tc := ⟨.hbm, 149, rfl⟩
abbrev main_call6_v1 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_v5 : Ref sig .tc := ⟨.hbm, 154, rfl⟩
abbrev main_call6_v6 : Ref sig .tc := ⟨.hbm, 155, rfl⟩
abbrev main_call6_v7 : Ref sig .tc := ⟨.hbm, 156, rfl⟩
abbrev main_call6_v8 : Ref sig .tc := ⟨.hbm, 157, rfl⟩
abbrev main_call6_c : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_call6_c_0 : Ref sig .tc := ⟨.hbm, 162, rfl⟩
abbrev main_call6_v12 : Ref sig .tc := ⟨.hbm, 163, rfl⟩
abbrev main_call6_v13 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_cst_18 : Ref sig .tc := ⟨.hbm, 171, rfl⟩
abbrev main_cst_19 : Ref sig .tc := ⟨.hbm, 172, rfl⟩
abbrev main_call7_v0 : Ref sig .tc := ⟨.hbm, 173, rfl⟩
abbrev main_call7_v1 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_v77 : Ref sig .tc := ⟨.hbm, 192, rfl⟩
abbrev main_v78_0 : Ref sig .tc := ⟨.hbm, 193, rfl⟩
abbrev main_v78_1 : Ref sig .tc := ⟨.hbm, 194, rfl⟩
abbrev main_v78_2 : Ref sig .tc := ⟨.hbm, 195, rfl⟩
abbrev main_v78_3 : Ref sig .tc := ⟨.hbm, 196, rfl⟩
abbrev main_v78_4 : Ref sig .tc := ⟨.hbm, 197, rfl⟩
abbrev main_v78_5 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 13], ![false, false]⟩

def k0_mult1 (i : grid0.Coords) : BitVec 32 :=
  let arg1 : BitVec 32 := BitVec.ofNat 32 (i 1).val
  let c640_i32 : BitVec 32 := 640#32
  let v0 : BitVec 32 := Scalar.muli arg1 c640_i32
  let c128_i32 : BitVec 32 := 128#32
  let v1 : BitVec 32 := Scalar.subi v0 c128_i32
  let c0_i32 : BitVec 32 := 0#32
  let v2 : BitVec 32 := Scalar.maxsi v1 c0_i32
  v2
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c640_i32 : BitVec 32 := 640#32
  let v0 : BitVec 32 := Scalar.muli arg1 c640_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x640x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x640x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S4x8192x1024 : Shape := ⟨3, ![4, 8192, 1024]⟩
abbrev S16x1024 : Shape := ⟨2, ![16, 1024]⟩
abbrev S2x1024 : Shape := ⟨2, ![2, 1024]⟩
abbrev S2x1024x2560 : Shape := ⟨3, ![2, 1024, 2560]⟩
abbrev S2x64 : Shape := ⟨2, ![2, 64]⟩
abbrev S1x16x1024 : Shape := ⟨3, ![1, 16, 1024]⟩
abbrev S4x16x1024 : Shape := ⟨3, ![4, 16, 1024]⟩
abbrev S4x8208x1024 : Shape := ⟨3, ![4, 8208, 1024]⟩
abbrev S8 : Shape := ⟨1, ![8]⟩
abbrev S_ : Shape := ⟨0, ![]⟩
abbrev S8208 : Shape := ⟨1, ![8208]⟩
abbrev S8208x1 : Shape := ⟨2, ![8208, 1]⟩
abbrev S1x8 : Shape := ⟨2, ![1, 8]⟩
abbrev S8208x8 : Shape := ⟨2, ![8208, 8]⟩
abbrev S1x1024 : Shape := ⟨2, ![1, 1024]⟩
abbrev S1024 : Shape := ⟨1, ![1024]⟩
abbrev S4x8208 : Shape := ⟨2, ![4, 8208]⟩
abbrev S4x8208x1 : Shape := ⟨3, ![4, 8208, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S4x8208x2560 : Shape := ⟨3, ![4, 8208, 2560]⟩
abbrev S4x8208x512 : Shape := ⟨3, ![4, 8208, 512]⟩
abbrev S4x8208x4x2x64 : Shape := ⟨5, ![4, 8208, 4, 2, 64]⟩
abbrev S4x8208x4x128 : Shape := ⟨4, ![4, 8208, 4, 128]⟩
abbrev S1x64 : Shape := ⟨2, ![1, 64]⟩
abbrev S64 : Shape := ⟨1, ![64]⟩
abbrev S4x8208x4x2 : Shape := ⟨4, ![4, 8208, 4, 2]⟩
abbrev S4x8208x4x2x1 : Shape := ⟨5, ![4, 8208, 4, 2, 1]⟩
abbrev S1x1x1x1x64 : Shape := ⟨5, ![1, 1, 1, 1, 64]⟩
abbrev S1x8208x1x1x8 : Shape := ⟨5, ![1, 8208, 1, 1, 8]⟩
abbrev S4x8208x4x2x8 : Shape := ⟨5, ![4, 8208, 4, 2, 8]⟩
abbrev S4x8208x4x2x48 : Shape := ⟨5, ![4, 8208, 4, 2, 48]⟩
abbrev S4x8320x512 : Shape := ⟨3, ![4, 8320, 512]⟩
abbrev S4x8320x4x128 : Shape := ⟨4, ![4, 8320, 4, 128]⟩
abbrev S4x512x8320 : Shape := ⟨3, ![4, 512, 8320]⟩
abbrev S4x4x128x8320 : Shape := ⟨4, ![4, 4, 128, 8320]⟩
abbrev S4x8320x1024 : Shape := ⟨3, ![4, 8320, 1024]⟩

abbrev nBuf : Space → Nat
  | .hbm => 158
  | .vmem => 0
  | .smem => 0
  | _ => 0

abbrev hbmTy0_0 (i : Nat) : BufTy := match i % 128 with
  | 0 => ⟨S4x8192x1024, .f32⟩
  | 1 => ⟨S16x1024, .f32⟩
  | 2 => ⟨S2x1024, .f32⟩
  | 3 => ⟨S2x1024x2560, .f32⟩
  | 4 => ⟨S2x64, .f32⟩
  | 5 => ⟨S2x64, .f32⟩
  | 6 => ⟨S1x16x1024, .f32⟩
  | 7 => ⟨S4x16x1024, .f32⟩
  | 8 => ⟨S4x8208x1024, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8208, .f32⟩
  | 24 => ⟨S8208x1, .f32⟩
  | 25 => ⟨S1x8, .f32⟩
  | 26 => ⟨S8208x8, .f32⟩
  | 27 => ⟨S8208x8, .f32⟩
  | 28 => ⟨S8208x8, .f32⟩
  | 29 => ⟨S8208x8, .f32⟩
  | 30 => ⟨S8208x8, .f32⟩
  | 31 => ⟨S1x1024, .f32⟩
  | 32 => ⟨S1024, .f32⟩
  | 33 => ⟨S4x8208x1024, .f32⟩
  | 34 => ⟨S_, .f32⟩
  | 35 => ⟨S4x8208, .f32⟩
  | 36 => ⟨S4x8208x1, .f32⟩
  | 37 => ⟨S_, .f32⟩
  | 38 => ⟨S4x8208x1, .f32⟩
  | 39 => ⟨S4x8208x1, .f32⟩
  | 40 => ⟨S_, .f32⟩
  | 41 => ⟨S4x8208x1, .f32⟩
  | 42 => ⟨S4x8208x1, .f32⟩
  | 43 => ⟨S4x8208x1, .f32⟩
  | 44 => ⟨S4x8208x1024, .f32⟩
  | 45 => ⟨S4x8208x1024, .f32⟩
  | 46 => ⟨S1x1x1024, .f32⟩
  | 47 => ⟨S4x8208x1024, .f32⟩
  | 48 => ⟨S4x8208x1024, .f32⟩
  | 49 => ⟨S1x1024x2560, .f32⟩
  | 50 => ⟨S1024x2560, .f32⟩
  | 51 => ⟨S4x8208x2560, .f32⟩
  | 52 => ⟨S4x8208x512, .f32⟩
  | 53 => ⟨S4x8208x512, .f32⟩
  | 54 => ⟨S4x8208x512, .f32⟩
  | 55 => ⟨S4x8208x512, .f32⟩
  | 56 => ⟨S4x8208x512, .f32⟩
  | 57 => ⟨S4x8208x4x2x64, .f32⟩
  | 58 => ⟨S4x8208x4x2x64, .f32⟩
  | 59 => ⟨S4x8208x4x128, .f32⟩
  | 60 => ⟨S1x64, .f32⟩
  | 61 => ⟨S64, .f32⟩
  | 62 => ⟨S4x8208x4x2x64, .f32⟩
  | 63 => ⟨S_, .f32⟩
  | 64 => ⟨S4x8208x4x2, .f32⟩
  | 65 => ⟨S4x8208x4x2x1, .f32⟩
  | 66 => ⟨S_, .f32⟩
  | 67 => ⟨S4x8208x4x2x1, .f32⟩
  | 68 => ⟨S4x8208x4x2x1, .f32⟩
  | 69 => ⟨S_, .f32⟩
  | 70 => ⟨S4x8208x4x2x1, .f32⟩
  | 71 => ⟨S4x8208x4x2x1, .f32⟩
  | 72 => ⟨S4x8208x4x2x1, .f32⟩
  | 73 => ⟨S4x8208x4x2x64, .f32⟩
  | 74 => ⟨S4x8208x4x2x64, .f32⟩
  | 75 => ⟨S1x1x1x1x64, .f32⟩
  | 76 => ⟨S4x8208x4x2x64, .f32⟩
  | 77 => ⟨S4x8208x4x2x64, .f32⟩
  | 78 => ⟨S1x8208x1x1x8, .f32⟩
  | 79 => ⟨S1x8208x1x1x8, .f32⟩
  | 80 => ⟨S4x8208x4x2x8, .f32⟩
  | 81 => ⟨S4x8208x4x2x8, .f32⟩
  | 82 => ⟨S4x8208x4x2x8, .f32⟩
  | 83 => ⟨S4x8208x4x2x8, .f32⟩
  | 84 => ⟨S4x8208x4x2x8, .f32⟩
  | 85 => ⟨S4x8208x4x2x8, .f32⟩
  | 86 => ⟨S4x8208x4x2x8, .f32⟩
  | 87 => ⟨S4x8208x4x2x8, .f32⟩
  | 88 => ⟨S4x8208x4x2x8, .f32⟩
  | 89 => ⟨S4x8208x4x2x8, .f32⟩
  | 90 => ⟨S4x8208x4x2x8, .f32⟩
  | 91 => ⟨S4x8208x4x2x8, .f32⟩
  | 92 => ⟨S4x8208x4x2x48, .f32⟩
  | 93 => ⟨S4x8208x4x2x64, .f32⟩
  | 94 => ⟨S1x64, .f32⟩
  | 95 => ⟨S64, .f32⟩
  | 96 => ⟨S4x8208x4x2x64, .f32⟩
  | 97 => ⟨S_, .f32⟩
  | 98 => ⟨S4x8208x4x2, .f32⟩
  | 99 => ⟨S4x8208x4x2x1, .f32⟩
  | 100 => ⟨S_, .f32⟩
  | 101 => ⟨S4x8208x4x2x1, .f32⟩
  | 102 => ⟨S4x8208x4x2x1, .f32⟩
  | 103 => ⟨S_, .f32⟩
  | 104 => ⟨S4x8208x4x2x1, .f32⟩
  | 105 => ⟨S4x8208x4x2x1, .f32⟩
  | 106 => ⟨S4x8208x4x2x1, .f32⟩
  | 107 => ⟨S4x8208x4x2x64, .f32⟩
  | 108 => ⟨S4x8208x4x2x64, .f32⟩
  | 109 => ⟨S1x1x1x1x64, .f32⟩
  | 110 => ⟨S4x8208x4x2x64, .f32⟩
  | 111 => ⟨S4x8208x4x2x64, .f32⟩
  | 112 => ⟨S1x8208x1x1x8, .f32⟩
  | 113 => ⟨S1x8208x1x1x8, .f32⟩
  | 114 => ⟨S4x8208x4x2x8, .f32⟩
  | 115 => ⟨S4x8208x4x2x8, .f32⟩
  | 116 => ⟨S4x8208x4x2x8, .f32⟩
  | 117 => ⟨S4x8208x4x2x8, .f32⟩
  | 118 => ⟨S4x8208x4x2x8, .f32⟩
  | 119 => ⟨S4x8208x4x2x8, .f32⟩
  | 120 => ⟨S4x8208x4x2x8, .f32⟩
  | 121 => ⟨S4x8208x4x2x8, .f32⟩
  | 122 => ⟨S4x8208x4x2x8, .f32⟩
  | 123 => ⟨S4x8208x4x2x8, .f32⟩
  | 124 => ⟨S4x8208x4x2x8, .f32⟩
  | 125 => ⟨S4x8208x4x2x8, .f32⟩
  | 126 => ⟨S4x8208x4x2x48, .f32⟩
  | 127 => ⟨S4x8208x4x2x64, .f32⟩
  | _ => ⟨S4x8192x1024, .f32⟩

abbrev hbmTy0_1 (i : Nat) : BufTy := match i % 128 with
  | 0 => ⟨S_, .f32⟩
  | 1 => ⟨S4x8208x4x2x64, .f32⟩
  | 2 => ⟨S4x8208x4x2x64, .f32⟩
  | 3 => ⟨S4x8208x512, .f32⟩
  | 4 => ⟨S_, .i32⟩
  | 5 => ⟨S_, .f32⟩
  | 6 => ⟨S4x8320x512, .f32⟩
  | 7 => ⟨S4x8208x512, .f32⟩
  | 8 => ⟨S_, .i32⟩
  | 9 => ⟨S_, .f32⟩
  | 10 => ⟨S4x8320x512, .f32⟩
  | 11 => ⟨S4x8208x512, .f32⟩
  | 12 => ⟨S_, .i32⟩
  | 13 => ⟨S_, .f32⟩
  | 14 => ⟨S4x8320x512, .f32⟩
  | 15 => ⟨S4x8320x4x128, .f32⟩
  | 16 => ⟨S4x512x8320, .f32⟩
  | 17 => ⟨S4x512x8320, .bf16⟩
  | 18 => ⟨S4x8320x512, .bf16⟩
  | 19 => ⟨S4x4x128x8320, .f32⟩
  | 20 => ⟨S4x4x128x8320, .bf16⟩
  | 21 => ⟨S_, .i32⟩
  | 22 => ⟨S_, .f32⟩
  | 23 => ⟨S4x8320x512, .f32⟩
  | 24 => ⟨S_, .i32⟩
  | 25 => ⟨S_, .f32⟩
  | 26 => ⟨S4x8320x512, .f32⟩
  | 27 => ⟨S_, .i32⟩
  | 28 => ⟨S_, .f32⟩
  | 29 => ⟨S4x8320x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_9 : Ref sig .tc := ⟨.hbm, 97, rfl⟩
abbrev main_v81 : Ref sig .tc := ⟨.hbm, 98, rfl⟩
abbrev main_v82 : Ref sig .tc := ⟨.hbm, 99, rfl⟩
abbrev main_cst_10 : Ref sig .tc := ⟨.hbm, 100, rfl⟩
abbrev main_v83 : Ref sig .tc := ⟨.hbm, 101, rfl⟩
abbrev main_v84 : Ref sig .tc := ⟨.hbm, 102, rfl⟩
abbrev main_cst_11 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_12 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_c : Ref sig .tc := ⟨.hbm, 132, rfl⟩
abbrev main_call0_v0 : Ref sig .tc := ⟨.hbm, 133, rfl⟩
abbrev main_v112 : Ref sig .tc := ⟨.hbm, 134, rfl⟩
abbrev main_v113 : Ref sig .tc := ⟨.hbm, 135, rfl⟩
abbrev main_c_13 : Ref sig .tc := ⟨.hbm, 136, rfl⟩
abbrev main_call1_v0 : Ref sig .tc := ⟨.hbm, 137, rfl⟩
abbrev main_v114 : Ref sig .tc := ⟨.hbm, 138, rfl⟩
abbrev main_v115 : Ref sig .tc := ⟨.hbm, 139, rfl⟩
abbrev main_c_14 : Ref sig .tc := ⟨.hbm, 140, rfl⟩
abbrev main_call2_v0 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_c_15 : Ref sig .tc := ⟨.hbm, 149, rfl⟩
abbrev main_call3_v0 : Ref sig .tc := ⟨.hbm, 150, rfl⟩
abbrev main_v123 : Ref sig .tc := ⟨.hbm, 151, rfl⟩
abbrev main_c_16 : Ref sig .tc := ⟨.hbm, 152, rfl⟩
abbrev main_call4_v0 : Ref sig .tc := ⟨.hbm, 153, rfl⟩
abbrev main_v124 : Ref sig .tc := ⟨.hbm, 154, rfl⟩
abbrev main_c_17 : Ref sig .tc := ⟨.hbm, 155, rfl⟩
abbrev main_call5_v0 : Ref sig .tc := ⟨.hbm, 156, rfl⟩
abbrev main_v125 : Ref sig .tc := ⟨.hbm, 157, rfl⟩

abbrev nD : Nat := 1
abbrev τ : Topo := Topo.v7x

variable {F : FTy → Type} [FloatOps F]
-- ==== Kernel4.lean ====
abbrev S4x8208x1024 : Shape := ⟨3, ![4, 8208, 1024]⟩
abbrev S2x1024 : Shape := ⟨2, ![2, 1024]⟩
abbrev S2x1024x2560 : Shape := ⟨3, ![2, 1024, 2560]⟩
abbrev S2x64 : Shape := ⟨2, ![2, 64]⟩
abbrev S_ : Shape := ⟨0, ![]⟩
abbrev S4x8320x1024 : Shape := ⟨3, ![4, 8320, 1024]⟩
abbrev S8 : Shape := ⟨1, ![8]⟩
abbrev S8320 : Shape := ⟨1, ![8320]⟩
abbrev S8320x1 : Shape := ⟨2, ![8320, 1]⟩
abbrev S1x8 : Shape := ⟨2, ![1, 8]⟩
abbrev S8320x8 : Shape := ⟨2, ![8320, 8]⟩
abbrev S128 : Shape := ⟨1, ![128]⟩
abbrev S128x1 : Shape := ⟨2, ![128, 1]⟩
abbrev S8320x128 : Shape := ⟨2, ![8320, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S4x512x8320 : Shape := ⟨3, ![4, 512, 8320]⟩
abbrev S4x8320x512 : Shape := ⟨3, ![4, 8320, 512]⟩
abbrev S4x4x128x8320 : Shape := ⟨4, ![4, 4, 128, 8320]⟩
abbrev S1x640x1024 : Shape := ⟨3, ![1, 640, 1024]⟩
abbrev S1x1024x2560 : Shape := ⟨3, ![1, 1024, 2560]⟩
abbrev S640x128 : Shape := ⟨2, ![640, 128]⟩
abbrev S1x512x640 : Shape := ⟨3, ![1, 512, 640]⟩
abbrev S1x640x512 : Shape := ⟨3, ![1, 640, 512]⟩
abbrev S1x4x128x640 : Shape := ⟨4, ![1, 4, 128, 640]⟩
abbrev S640x1024 : Shape := ⟨2, ![640, 1024]⟩
abbrev S640x1 : Shape := ⟨2, ![640, 1]⟩
abbrev S640 : Shape := ⟨1, ![640]⟩
abbrev S1x1024x512 : Shape := ⟨3, ![1, 1024, 512]⟩
abbrev S1024x512 : Shape := ⟨2, ![1024, 512]⟩
abbrev S640x512 : Shape := ⟨2, ![640, 512]⟩
abbrev S640x256 : Shape := ⟨2, ![640, 256]⟩
abbrev S512x640 : Shape := ⟨2, ![512, 640]⟩
abbrev S128x640 : Shape := ⟨2, ![128, 640]⟩
abbrev S1x1x128x640 : Shape := ⟨4, ![1, 1, 128, 640]⟩

abbrev nBuf : Space → Nat
  | .hbm => 197
  | .vmem => 23
  | .smem => 0
  | _ => 0

abbrev hbmTy0_0 (i : Nat) : BufTy := match i % 128 with
  | 0 => ⟨S4x8208x1024, .f32⟩
  | 1 => ⟨S2x1024, .f32⟩
  | 2 => ⟨S2x1024x2560, .f32⟩
  | 3 => ⟨S2x64, .f32⟩
  | 4 => ⟨S2x64, .f32⟩
  | 5 => ⟨S_, .i32⟩
  | 6 => ⟨S_, .f32⟩
  | 7 => ⟨S4x8320x1024, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8320, .i32⟩
  | 23 => ⟨S_, .i32⟩
  | 24 => ⟨S8320, .i32⟩
  | 25 => ⟨S8320, .i32⟩
  | 26 => ⟨S8320, .f32⟩
  | 27 => ⟨S8320x1, .f32⟩
  | 28 => ⟨S1x8, .f32⟩
  | 29 => ⟨S8320x8, .f32⟩
  | 30 => ⟨S8320x8, .f32⟩
  | 31 => ⟨S8320x8, .f32⟩
  | 32 => ⟨S128, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S128, .i32⟩
  | 40 => ⟨S128, .i32⟩
  | 41 => ⟨S_, .i32⟩
  | 42 => ⟨S128, .i32⟩
  | 43 => ⟨S128, .i1⟩
  | 44 => ⟨S_, .i32⟩
  | 45 => ⟨S128, .i32⟩
  | 46 => ⟨S128, .i1⟩
  | 47 => ⟨S_, .i32⟩
  | 48 => ⟨S_, .i1⟩
  | 49 => ⟨S128, .i1⟩
  | 50 => ⟨S128, .i1⟩
  | 51 => ⟨S128, .i1⟩
  | 52 => ⟨S128, .i32⟩
  | 53 => ⟨S128, .i32⟩
  | 54 => ⟨S128, .i32⟩
  | 55 => ⟨S_, .i32⟩
  | 56 => ⟨S128, .i32⟩
  | 57 => ⟨S128, .i1⟩
  | 58 => ⟨S_, .i32⟩
  | 59 => ⟨S128, .i32⟩
  | 60 => ⟨S128, .i1⟩
  | 61 => ⟨S_, .i32⟩
  | 62 => ⟨S128, .i32⟩
  | 63 => ⟨S128, .i1⟩
  | 64 => ⟨S128, .i1⟩
  | 65 => ⟨S8320x8, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S128, .i32⟩
  | 73 => ⟨S128, .i32⟩
  | 74 => ⟨S_, .i32⟩
  | 75 => ⟨S128, .i32⟩
  | 76 => ⟨S128, .i1⟩
  | 77 => ⟨S_, .i32⟩
  | 78 => ⟨S128, .i32⟩
  | 79 => ⟨S128, .i1⟩
  | 80 => ⟨S_, .i32⟩
  | 81 => ⟨S_, .i1⟩
  | 82 => ⟨S128, .i1⟩
  | 83 => ⟨S128, .i1⟩
  | 84 => ⟨S128, .i1⟩
  | 85 => ⟨S128, .i32⟩
  | 86 => ⟨S128, .i32⟩
  | 87 => ⟨S128, .i32⟩
  | 88 => ⟨S_, .i32⟩
  | 89 => ⟨S128, .i32⟩
  | 90 => ⟨S128, .i1⟩
  | 91 => ⟨S_, .i32⟩
  | 92 => ⟨S128, .i32⟩
  | 93 => ⟨S128, .i32⟩
  | 94 => ⟨S128, .i32⟩
  | 95 => ⟨S128x1, .i32⟩
  | 96 => ⟨S8320x128, .f32⟩
  | 97 => ⟨S8320x8, .f32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S128, .i32⟩
  | 105 => ⟨S128, .i32⟩
  | 106 => ⟨S_, .i32⟩
  | 107 => ⟨S128, .i32⟩
  | 108 => ⟨S128, .i1⟩
  | 109 => ⟨S_, .i32⟩
  | 110 => ⟨S128, .i32⟩
  | 111 => ⟨S128, .i1⟩
  | 112 => ⟨S_, .i32⟩
  | 113 => ⟨S_, .i1⟩
  | 114 => ⟨S128, .i1⟩
  | 115 => ⟨S128, .i1⟩
  | 116 => ⟨S128, .i1⟩
  | 117 => ⟨S128, .i32⟩
  | 118 => ⟨S128, .i32⟩
  | 119 => ⟨S128, .i32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S128x1, .i32⟩
  | _ => ⟨S4x8208x1024, .f32⟩

abbrev hbmTy0_1 (i : Nat) : BufTy := match i % 128 with
  | 0 => ⟨S8320x128, .f32⟩
  | 1 => ⟨S128, .i1⟩
  | 2 => ⟨S_, .f32⟩
  | 3 => ⟨S_, .f32⟩
  | 4 => ⟨S8320x128, .i1⟩
  | 5 => ⟨S8320x128, .f32⟩
  | 6 => ⟨S8320x128, .f32⟩
  | 7 => ⟨S8320x128, .f32⟩
  | 8 => ⟨S_, .f32⟩
  | 9 => ⟨S_, .f32⟩
  | 10 => ⟨S8320x128, .i1⟩
  | 11 => ⟨S8320x128, .f32⟩
  | 12 => ⟨S8320x128, .f32⟩
  | 13 => ⟨S_, .f32⟩
  | 14 => ⟨S_, .f32⟩
  | 15 => ⟨S8320x128, .i1⟩
  | 16 => ⟨S8320x128, .f32⟩
  | 17 => ⟨S8320x128, .f32⟩
  | 18 => ⟨S256, .i32⟩
  | 19 => ⟨S_, .i32⟩
  | 20 => ⟨S_, .i32⟩
  | 21 => ⟨S256, .i32⟩
  | 22 => ⟨S256, .i32⟩
  | 23 => ⟨S256, .i32⟩
  | 24 => ⟨S_, .i32⟩
  | 25 => ⟨S256, .i32⟩
  | 26 => ⟨S256, .i1⟩
  | 27 => ⟨S256, .i32⟩
  | 28 => ⟨S256, .i32⟩
  | 29 => ⟨S_, .i32⟩
  | 30 => ⟨S256, .i32⟩
  | 31 => ⟨S256, .i1⟩
  | 32 => ⟨S256, .i1⟩
  | 33 => ⟨S_, .i32⟩
  | 34 => ⟨S256, .i32⟩
  | 35 => ⟨S256, .i32⟩
  | 36 => ⟨S256, .i32⟩
  | 37 => ⟨S256x1, .i32⟩
  | 38 => ⟨S1x256, .i32⟩
  | 39 => ⟨S256x256, .i32⟩
  | 40 => ⟨S256x256, .i32⟩
  | 41 => ⟨S256x256, .i1⟩
  | 42 => ⟨S_, .f32⟩
  | 43 => ⟨S_, .f32⟩
  | 44 => ⟨S256x256, .f32⟩
  | 45 => ⟨S256x256, .f32⟩
  | 46 => ⟨S256x256, .f32⟩
  | 47 => ⟨S256x256, .bf16⟩
  | 48 => ⟨S2x1024x2560, .bf16⟩
  | 49 => ⟨S1x1024, .f32⟩
  | 50 => ⟨S1024, .f32⟩
  | 51 => ⟨S1x1024, .f32⟩
  | 52 => ⟨S1x64, .f32⟩
  | 53 => ⟨S64, .f32⟩
  | 54 => ⟨S1x64, .f32⟩
  | 55 => ⟨S8x64, .f32⟩
  | 56 => ⟨S512, .f32⟩
  | 57 => ⟨S1x512, .f32⟩
  | 58 => ⟨S1x64, .f32⟩
  | 59 => ⟨S64, .f32⟩
  | 60 => ⟨S1x64, .f32⟩
  | 61 => ⟨S8x64, .f32⟩
  | 62 => ⟨S512, .f32⟩
  | 63 => ⟨S1x512, .f32⟩
  | 64 => ⟨S4x512x8320, .bf16⟩
  | 65 => ⟨S4x8320x512, .bf16⟩
  | 66 => ⟨S4x4x128x8320, .bf16⟩
  | 67 => ⟨S4x8320x512, .f32⟩
  | 68 => ⟨S4x8320x512, .f32⟩
  | _ => ⟨S4x8208x1024, .f32⟩

abbrev hbmTy (i : Nat) : BufTy := match i / 128 with
  | 0 => hbmTy0_0 i
  | 1 => hbmTy0_1 i
  | _ => ⟨S4x8208x1024, .f32⟩

abbrev bufTy : (tb : Table) → Fin (tcTables nBuf tb) → BufTy
  | .hbm, ⟨i, _⟩ => hbmTy i
  | .local _ .vmem, ⟨0, _⟩ => ⟨S1x640x1024, .f32⟩
  | .local _ .vmem, ⟨1, _⟩ => ⟨S1x640x1024, .f32⟩
  | .local _ .vmem, ⟨2, _⟩ => ⟨S1x1024, .f32⟩
  | .local _ .vmem, ⟨3, _⟩ => ⟨S1x1024x2560, .bf16⟩
  | .local _ .vmem, ⟨4, _⟩ => ⟨S1x512, .f32⟩
  | .local _ .vmem, ⟨5, _⟩ => ⟨S1x512, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S256x256, .bf16⟩
  | .local _ .vmem, ⟨13, _⟩ => ⟨S1x512x640, .bf16⟩
  | .local _ .vmem, ⟨14, _⟩ => ⟨S1x512x640, .bf16⟩
  | .local _ .vmem, ⟨15, _⟩ => ⟨S1x640x512, .bf16⟩
  | .local _ .vmem, ⟨16, _⟩ => ⟨S1x640x512, .bf16⟩
  | .local _ .vmem, ⟨17, _⟩ => ⟨S1x4x128x640, .bf16⟩
  | .local _ .vmem, ⟨18, _⟩ => ⟨S1x4x128x640, .bf16⟩
  | .local _ .vmem, ⟨19, _⟩ => ⟨S1x640x512, .f32⟩
  | .local _ .vmem, ⟨20, _⟩ => ⟨S1x640x512, .f32⟩
  | .local _ .vmem, ⟨21, _⟩ => ⟨S1x640x512, .f32⟩
  | .local _ .vmem, ⟨22, _⟩ => ⟨S1x640x512, .f32⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v21 : Ref sig .tc := ⟨.hbm, 54, rfl⟩
abbrev main_c_5 : Ref sig .tc := ⟨.hbm, 55, rfl⟩
abbrev main_v22 : Ref sig .tc := ⟨.hbm, 56, rfl⟩
abbrev main_v23 : Ref sig .tc := ⟨.hbm, 57, rfl⟩
abbrev main_c_6 : Ref sig .tc := ⟨.hbm, 58, rfl⟩
abbrev main_v24 : Ref sig .tc := ⟨.hbm, 59, rfl⟩
abbrev main_v25 : Ref sig .tc := ⟨.hbm, 60, rfl⟩
abbrev main_c_7 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_8 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v30 : Ref sig .tc := ⟨.hbm, 87, rfl⟩
abbrev main_c_9 : Ref sig .tc := ⟨.hbm, 88, rfl⟩
abbrev main_v31 : Ref sig .tc := ⟨.hbm, 89, rfl⟩
abbrev main_v32 : Ref sig .tc := ⟨.hbm, 90, rfl⟩
abbrev main_c_10 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_c_11 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_1 : Ref sig .tc := ⟨.hbm, 106, rfl⟩
abbrev main_call3_v5 : Ref sig .tc := ⟨.hbm, 107, rfl⟩
abbrev main_call3_v6 : Ref sig .tc := ⟨.hbm, 108, rfl⟩
abbrev main_call3_c_2 : Ref sig .tc := ⟨.hbm, 109, rfl⟩
abbrev main_call3_v7 : Ref sig .tc := ⟨.hbm, 110, rfl⟩
abbrev main_call3_v8 : Ref sig .tc := ⟨.hbm, 111, rfl⟩
abbrev main_call3_c_3 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_v39 : Ref sig .tc := ⟨.hbm, 119, rfl⟩
abbrev main_c_12 : Ref sig .tc := ⟨.hbm, 120, rfl⟩
abbrev main_v40 : Ref sig .tc := ⟨.hbm, 121, rfl⟩
abbrev main_v41 : Ref sig .tc := ⟨.hbm, 122, rfl⟩
abbrev main_c_13 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_cst_14 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v48 : Ref sig .tc := ⟨.hbm, 134, rfl⟩
abbrev main_v49 : Ref sig .tc := ⟨.hbm, 135, rfl⟩
abbrev main_cst_15 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_v50 : Ref sig .tc := ⟨.hbm, 140, rfl⟩
abbrev main_cst_16 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v51 : Ref sig .tc := ⟨.hbm, 145, rfl⟩
abbrev main_v52 : Ref sig .tc := ⟨.hbm, 146, rfl⟩
abbrev main_c_17 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_call7_v5 : Ref sig .tc := ⟨.hbm, 153, rfl⟩
abbrev main_call7_v6 : Ref sig .tc := ⟨.hbm, 154, rfl⟩
abbrev main_call7_v7 : Ref sig .tc := ⟨.hbm, 155, rfl⟩
abbrev main_call7_v8 : Ref sig .tc := ⟨.hbm, 156, rfl⟩
abbrev main_call7_c : Ref sig .tc := ⟨.hbm, 157, rfl⟩
abbrev main_call7_v9 : Ref sig .tc := ⟨.hbm, 158, rfl⟩
abbrev main_call7_v10 : Ref sig .tc := ⟨.hbm, 159, rfl⟩
abbrev main_call7_v11 : Ref sig .tc := ⟨.hbm, 160, rfl⟩
abbrev main_call7_c_0 : Ref sig .tc := ⟨.hbm, 161, rfl⟩
abbrev main_call7_v12 : Ref sig .tc := ⟨.hbm, 162, rfl⟩
abbrev main_call7_v13 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_cst_18 : Ref sig .tc := ⟨.hbm, 170, rfl⟩
abbrev main_cst_19 : Ref sig .tc := ⟨.hbm, 171, rfl⟩
abbrev main_call8_v0 : Ref sig .tc := ⟨.hbm, 172, rfl⟩
abbrev main_call8_v1 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_v77_0 : Ref sig .tc := ⟨.hbm, 192, rfl⟩
abbrev main_v77_1 : Ref sig .tc := ⟨.hbm, 193, rfl⟩
abbrev main_v77_2 : Ref sig .tc := ⟨.hbm, 194, rfl⟩
abbrev main_v77_3 : Ref sig .tc := ⟨.hbm, 195, rfl⟩
abbrev main_v77_4 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x640x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S4x8208x1024 : Shape := ⟨3, ![4, 8208, 1024]⟩
abbrev S2x1024 : Shape := ⟨2, ![2, 1024]⟩
abbrev S2x1024x2560 : Shape := ⟨3, ![2, 1024, 2560]⟩
abbrev S2x64 : Shape := ⟨2, ![2, 64]⟩
abbrev S8 : Shape := ⟨1, ![8]⟩
abbrev S_ : Shape := ⟨0, ![]⟩
abbrev S8208 : Shape := ⟨1, ![8208]⟩
abbrev S8208x1 : Shape := ⟨2, ![8208, 1]⟩
abbrev S1x8 : Shape := ⟨2, ![1, 8]⟩
abbrev S8208x8 : Shape := ⟨2, ![8208, 8]⟩
abbrev S1x1024 : Shape := ⟨2, ![1, 1024]⟩
abbrev S1024 : Shape := ⟨1, ![1024]⟩
abbrev S4x8208 : Shape := ⟨2, ![4, 8208]⟩
abbrev S4x8208x1 : Shape := ⟨3, ![4, 8208, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S4x8208x2560 : Shape := ⟨3, ![4, 8208, 2560]⟩
abbrev S4x8208x512 : Shape := ⟨3, ![4, 8208, 512]⟩
abbrev S4x8208x4x2x64 : Shape := ⟨5, ![4, 8208, 4, 2, 64]⟩
abbrev S4x8208x4x128 : Shape := ⟨4, ![4, 8208, 4, 128]⟩
abbrev S1x64 : Shape := ⟨2, ![1, 64]⟩
abbrev S64 : Shape := ⟨1, ![64]⟩
abbrev S4x8208x4x2 : Shape := ⟨4, ![4, 8208, 4, 2]⟩
abbrev S4x8208x4x2x1 : Shape := ⟨5, ![4, 8208, 4, 2, 1]⟩
abbrev S1x1x1x1x64 : Shape := ⟨5, ![1, 1, 1, 1, 64]⟩
abbrev S1x8208x1x1x8 : Shape := ⟨5, ![1, 8208, 1, 1, 8]⟩
abbrev S4x8208x4x2x8 : Shape := ⟨5, ![4, 8208, 4, 2, 8]⟩
abbrev S4x8208x4x2x48 : Shape := ⟨5, ![4, 8208, 4, 2, 48]⟩
abbrev S4x8320x512 : Shape := ⟨3, ![4, 8320, 512]⟩
abbrev S4x8320x4x128 : Shape := ⟨4, ![4, 8320, 4, 128]⟩
abbrev S4x512x8320 : Shape := ⟨3, ![4, 512, 8320]⟩
abbrev S4x4x128x8320 : Shape := ⟨4, ![4, 4, 128, 8320]⟩

abbrev nBuf : Space → Nat
  | .hbm => 151
  | .vmem => 0
  | .smem => 0
  | _ => 0

abbrev hbmTy0_0 (i : Nat) : BufTy := match i % 128 with
  | 0 => ⟨S4x8208x1024, .f32⟩
  | 1 => ⟨S2x1024, .f32⟩
  | 2 => ⟨S2x1024x2560, .f32⟩
  | 3 => ⟨S2x64, .f32⟩
  | 4 => ⟨S2x64, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8208, .f32⟩
  | 20 => ⟨S8208x1, .f32⟩
  | 21 => ⟨S1x8, .f32⟩
  | 22 => ⟨S8208x8, .f32⟩
  | 23 => ⟨S8208x8, .f32⟩
  | 24 => ⟨S8208x8, .f32⟩
  | 25 => ⟨S8208x8, .f32⟩
  | 26 => ⟨S8208x8, .f32⟩
  | 27 => ⟨S1x1024, .f32⟩
  | 28 => ⟨S1024, .f32⟩
  | 29 => ⟨S4x8208x1024, .f32⟩
  | 30 => ⟨S_, .f32⟩
  | 31 => ⟨S4x8208, .f32⟩
  | 32 => ⟨S4x8208x1, .f32⟩
  | 33 => ⟨S_, .f32⟩
  | 34 => ⟨S4x8208x1, .f32⟩
  | 35 => ⟨S4x8208x1, .f32⟩
  | 36 => ⟨S_, .f32⟩
  | 37 => ⟨S4x8208x1, .f32⟩
  | 38 => ⟨S4x8208x1, .f32⟩
  | 39 => ⟨S4x8208x1, .f32⟩
  | 40 => ⟨S4x8208x1024, .f32⟩
  | 41 => ⟨S4x8208x1024, .f32⟩
  | 42 => ⟨S1x1x1024, .f32⟩
  | 43 => ⟨S4x8208x1024, .f32⟩
  | 44 => ⟨S4x8208x1024, .f32⟩
  | 45 => ⟨S1x1024x2560, .f32⟩
  | 46 => ⟨S1024x2560, .f32⟩
  | 47 => ⟨S4x8208x2560, .f32⟩
  | 48 => ⟨S4x8208x512, .f32⟩
  | 49 => ⟨S4x8208x512, .f32⟩
  | 50 => ⟨S4x8208x512, .f32⟩
  | 51 => ⟨S4x8208x512, .f32⟩
  | 52 => ⟨S4x8208x512, .f32⟩
  | 53 => ⟨S4x8208x4x2x64, .f32⟩
  | 54 => ⟨S4x8208x4x2x64, .f32⟩
  | 55 => ⟨S4x8208x4x128, .f32⟩
  | 56 => ⟨S1x64, .f32⟩
  | 57 => ⟨S64, .f32⟩
  | 58 => ⟨S4x8208x4x2x64, .f32⟩
  | 59 => ⟨S_, .f32⟩
  | 60 => ⟨S4x8208x4x2, .f32⟩
  | 61 => ⟨S4x8208x4x2x1, .f32⟩
  | 62 => ⟨S_, .f32⟩
  | 63 => ⟨S4x8208x4x2x1, .f32⟩
  | 64 => ⟨S4x8208x4x2x1, .f32⟩
  | 65 => ⟨S_, .f32⟩
  | 66 => ⟨S4x8208x4x2x1, .f32⟩
  | 67 => ⟨S4x8208x4x2x1, .f32⟩
  | 68 => ⟨S4x8208x4x2x1, .f32⟩
  | 69 => ⟨S4x8208x4x2x64, .f32⟩
  | 70 => ⟨S4x8208x4x2x64, .f32⟩
  | 71 => ⟨S1x1x1x1x64, .f32⟩
  | 72 => ⟨S4x8208x4x2x64, .f32⟩
  | 73 => ⟨S4x8208x4x2x64, .f32⟩
  | 74 => ⟨S1x8208x1x1x8, .f32⟩
  | 75 => ⟨S1x8208x1x1x8, .f32⟩
  | 76 => ⟨S4x8208x4x2x8, .f32⟩
  | 77 => ⟨S4x8208x4x2x8, .f32⟩
  | 78 => ⟨S4x8208x4x2x8, .f32⟩
  | 79 => ⟨S4x8208x4x2x8, .f32⟩
  | 80 => ⟨S4x8208x4x2x8, .f32⟩
  | 81 => ⟨S4x8208x4x2x8, .f32⟩
  | 82 => ⟨S4x8208x4x2x8, .f32⟩
  | 83 => ⟨S4x8208x4x2x8, .f32⟩
  | 84 => ⟨S4x8208x4x2x8, .f32⟩
  | 85 => ⟨S4x8208x4x2x8, .f32⟩
  | 86 => ⟨S4x8208x4x2x8, .f32⟩
  | 87 => ⟨S4x8208x4x2x8, .f32⟩
  | 88 => ⟨S4x8208x4x2x48, .f32⟩
  | 89 => ⟨S4x8208x4x2x64, .f32⟩
  | 90 => ⟨S1x64, .f32⟩
  | 91 => ⟨S64, .f32⟩
  | 92 => ⟨S4x8208x4x2x64, .f32⟩
  | 93 => ⟨S_, .f32⟩
  | 94 => ⟨S4x8208x4x2, .f32⟩
  | 95 => ⟨S4x8208x4x2x1, .f32⟩
  | 96 => ⟨S_, .f32⟩
  | 97 => ⟨S4x8208x4x2x1, .f32⟩
  | 98 => ⟨S4x8208x4x2x1, .f32⟩
  | 99 => ⟨S_, .f32⟩
  | 100 => ⟨S4x8208x4x2x1, .f32⟩
  | 101 => ⟨S4x8208x4x2x1, .f32⟩
  | 102 => ⟨S4x8208x4x2x1, .f32⟩
  | 103 => ⟨S4x8208x4x2x64, .f32⟩
  | 104 => ⟨S4x8208x4x2x64, .f32⟩
  | 105 => ⟨S1x1x1x1x64, .f32⟩
  | 106 => ⟨S4x8208x4x2x64, .f32⟩
  | 107 => ⟨S4x8208x4x2x64, .f32⟩
  | 108 => ⟨S1x8208x1x1x8, .f32⟩
  | 109 => ⟨S1x8208x1x1x8, .f32⟩
  | 110 => ⟨S4x8208x4x2x8, .f32⟩
  | 111 => ⟨S4x8208x4x2x8, .f32⟩
  | 112 => ⟨S4x8208x4x2x8, .f32⟩
  | 113 => ⟨S4x8208x4x2x8, .f32⟩
  | 114 => ⟨S4x8208x4x2x8, .f32⟩
  | 115 => ⟨S4x8208x4x2x8, .f32⟩
  | 116 => ⟨S4x8208x4x2x8, .f32⟩
  | 117 => ⟨S4x8208x4x2x8, .f32⟩
  | 118 => ⟨S4x8208x4x2x8, .f32⟩
  | 119 => ⟨S4x8208x4x2x8, .f32⟩
  | 120 => ⟨S4x8208x4x2x8, .f32⟩
  | 121 => ⟨S4x8208x4x2x8, .f32⟩
  | 122 => ⟨S4x8208x4x2x48, .f32⟩
  | 123 => ⟨S4x8208x4x2x64, .f32⟩
  | 124 => ⟨S_, .f32⟩
  | 125 => ⟨S4x8208x4x2x64, .f32⟩
  | 126 => ⟨S4x8208x4x2x64, .f32⟩
  | 127 => ⟨S4x8208x512, .f32⟩
  | _ => ⟨S4x8208x1024, .f32⟩

abbrev hbmTy0_1 (i : Nat) : BufTy := match i % 128 with
  | 0 => ⟨S_, .i32⟩
  | 1 => ⟨S_, .f32⟩
  | 2 => ⟨S4x8320x512, .f32⟩
  | 3 => ⟨S4x8208x512, .f32⟩
  | 4 => ⟨S_, .i32⟩
  | 5 => ⟨S_, .f32⟩
  | 6 => ⟨S4x8320x512, .f32⟩
  | 7 => ⟨S4x8208x512, .f32⟩
  | 8 => ⟨S_, .i32⟩
  | 9 => ⟨S_, .f32⟩
  | 10 => ⟨S4x8320x512, .f32⟩
  | 11 => ⟨S4x8320x4x128, .f32⟩
  | 12 => ⟨S4x512x8320, .f32⟩
  | 13 => ⟨S4x512x8320, .bf16⟩
  | 14 => ⟨S4x8320x512, .bf16⟩
  | 15 => ⟨S4x4x128x8320, .f32⟩
  | 16 => ⟨S4x4x128x8320, .bf16⟩
  | 17 => ⟨S_, .i32⟩
  | 18 => ⟨S_, .f32⟩
  | 19 => ⟨S4x8320x512, .f32⟩
  | 20 => ⟨S_, .i32⟩
  | 21 => ⟨S_, .f32⟩
  | 22 => ⟨S4x8320x512, .f32⟩
  | _ => ⟨S4x8208x1024, .f32⟩

abbrev hbmTy (i : Nat) : BufTy := match i / 128 with
  | 0 => hbmTy0_0 i
  | 1 => hbmTy0_1 i
  | _ => ⟨S4x8208x1024, .f32⟩

abbrev bufTy : (tb : Table) → Fin (tcTables nBuf tb) → BufTy
  | .hbm, ⟨i, _⟩ => hbmTy i
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_cst_11 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_12 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_c : Ref sig .tc := ⟨.hbm, 128, rfl⟩
abbrev main_call0_v0 : Ref sig .tc := ⟨.hbm, 129, rfl⟩
abbrev main_v109 : Ref sig .tc := ⟨.hbm, 130, rfl⟩
abbrev main_v110 : Ref sig .tc := ⟨.hbm, 131, rfl⟩
abbrev main_c_13 : Ref sig .tc := ⟨.hbm, 132, rfl⟩
abbrev main_call1_v0 : Ref sig .tc := ⟨.hbm, 133, rfl⟩
abbrev main_v111 : Ref sig .tc := ⟨.hbm, 134, rfl⟩
abbrev main_v112 : Ref sig .tc := ⟨.hbm, 135, rfl⟩
abbrev main_c_14 : Ref sig .tc := ⟨.hbm, 136, rfl⟩
abbrev main_call2_v0 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_c_15 : Ref sig .tc := ⟨.hbm, 145, rfl⟩
abbrev main_call3_v0 : Ref sig .tc := ⟨.hbm, 146, rfl⟩
abbrev main_v120 : Ref sig .tc := ⟨.hbm, 147, rfl⟩
abbrev main_c_16 : Ref sig .tc := ⟨.hbm, 148, rfl⟩
abbrev main_call4_v0 : Ref sig .tc := ⟨.hbm, 149, rfl⟩
abbrev main_v121 : Ref sig .tc := ⟨.hbm, 150, rfl⟩

abbrev nD : Nat := 1
abbrev τ : Topo := Topo.v7x

variable {F : FTy → Type} [FloatOps F]
-- ==== Kernel5.lean ====
abbrev S4x8208x512 : Shape := ⟨3, ![4, 8208, 512]⟩
abbrev S2x4x512 : Shape := ⟨3, ![2, 4, 512]⟩
abbrev S2x512 : Shape := ⟨2, ![2, 512]⟩
abbrev S2x8x64x64 : Shape := ⟨4, ![2, 8, 64, 64]⟩
abbrev S_ : Shape := ⟨0, ![]⟩
abbrev S4x8320x512 : Shape := ⟨3, ![4, 8320, 512]⟩
abbrev S1x4x512 : Shape := ⟨3, ![1, 4, 512]⟩
abbrev S4x512 : Shape := ⟨2, ![4, 512]⟩
abbrev S1x512 : Shape := ⟨2, ![1, 512]⟩
abbrev S512 : Shape := ⟨1, ![512]⟩
abbrev S1x8x64x64 : Shape := ⟨4, ![1, 8, 64, 64]⟩
abbrev S8x64x64 : Shape := ⟨3, ![8, 64, 64]⟩
abbrev S2x4x64x64 : Shape := ⟨4, ![2, 4, 64, 64]⟩
abbrev S4x4 : Shape := ⟨2, ![4, 4]⟩
abbrev S2x4x64x1x64 : Shape := ⟨5, ![2, 4, 64, 1, 64]⟩
abbrev S4x1x4x1 : Shape := ⟨4, ![4, 1, 4, 1]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S1x640x512 : Shape := ⟨3, ![1, 640, 512]⟩
abbrev S648x512 : Shape := ⟨2, ![648, 512]⟩
abbrev S8x512 : Shape := ⟨2, ![8, 512]⟩
abbrev S640x512 : Shape := ⟨2, ![640, 512]⟩
abbrev S640x256 : Shape := ⟨2, ![640, 256]⟩
abbrev S1x256x256 : Shape := ⟨3, ![1, 256, 256]⟩
abbrev S256x256 : Shape := ⟨2, ![256, 256]⟩
abbrev S640x1 : Shape := ⟨2, ![640, 1]⟩
abbrev S640 : Shape := ⟨1, ![640]⟩

abbrev nBuf : Space → Nat
  | .hbm => 70
  | .vmem => 16
  | .smem => 0
  | _ => 0

abbrev bufTy : (tb : Table) → Fin (tcTables nBuf tb) → BufTy
  | .hbm, ⟨0, _⟩ => ⟨S4x8208x512, .f32⟩
  | .hbm, ⟨1, _⟩ => ⟨S4x8208x512, .f32⟩
  | .hbm, ⟨2, _⟩ => ⟨S2x4x512, .f32⟩
  | .hbm, ⟨3, _⟩ => ⟨S2x512, .f32⟩
  | .hbm, ⟨4, _⟩ => ⟨S2x8x64x64, .f32⟩
  | .hbm, ⟨5, _⟩ => ⟨S2x512, .f32⟩
  | .hbm, ⟨6, _⟩ => ⟨S2x8x64x64, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S_, .i32⟩
  | .hbm, ⟨11, _⟩ => ⟨S_, .f32⟩
  | .hbm, ⟨12, _⟩ => ⟨S4x8320x512, .f32⟩
  | .hbm, ⟨13, _⟩ => ⟨S_, .i32⟩
  | .hbm, ⟨14, _⟩ => ⟨S_, .f32⟩
  | .hbm, ⟨15, _⟩ => ⟨S4x8320x512, .f32⟩
  | .hbm, ⟨16, _⟩ => ⟨S1x4x512, .f32⟩
  | .hbm, ⟨17, _⟩ => ⟨S4x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S1x8x64x64, .f32⟩
  | .hbm, ⟨22, _⟩ => ⟨S8x64x64, .f32⟩
  | .hbm, ⟨23, _⟩ => ⟨S2x4x64x64, .f32⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S2x4x64x1x64, .f32⟩
  | .hbm, ⟨32, _⟩ => ⟨S4x1x4x1, .f32⟩
  | .hbm, ⟨33, _⟩ => ⟨S1x4x1x4x1, .f32⟩
  | .hbm, ⟨34, _⟩ => ⟨S2x4x64x4x64, .f32⟩
  | .hbm, ⟨35, _⟩ => ⟨S2x4x64x4x64, .f32⟩
  | .hbm, ⟨36, _⟩ => ⟨S2x4x64x4x64, .f32⟩
  | .hbm, ⟨37, _⟩ => ⟨S2x256x256, .f32⟩
  | .hbm, ⟨38, _⟩ => ⟨S2x256x256, .bf16⟩
  | .hbm, ⟨39, _⟩ => ⟨S1x8x64x64, .f32⟩
  | .hbm, ⟨40, _⟩ => ⟨S8x64x64, .f32⟩
  | .hbm, ⟨41, _⟩ => ⟨S2x4x64x64, .f32⟩
  | .hbm, ⟨42, _⟩ => ⟨S4x4, .i32⟩
  | .hbm, ⟨43, _⟩ => ⟨S4x4, .i32⟩
  | .hbm, ⟨44, _⟩ => ⟨S_, .i32⟩
  | .hbm, ⟨45, _⟩ => ⟨S4x4, .i32⟩
  | .hbm, ⟨46, _⟩ => ⟨S4x4, .i32⟩
  | .hbm, ⟨47, _⟩ => ⟨S4x4, .i1⟩
  | .hbm, ⟨48, _⟩ => ⟨S4x4, .f32⟩
  | .hbm, ⟨49, _⟩ => ⟨S2x4x64x1x64, .f32⟩
  | .hbm, ⟨50, _⟩ => ⟨S4x1x4x1, .f32⟩
  | .hbm, ⟨51, _⟩ => ⟨S1x4x1x4x1, .f32⟩
  | .hbm, ⟨52, _⟩ => ⟨S2x4x64x4x64, .f32⟩
  | .hbm, ⟨53, _⟩ => ⟨S2x4x64x4x64, .f32⟩
  | .hbm, ⟨54, _⟩ => ⟨S2x4x64x4x64, .f32⟩
  | .hbm, ⟨55, _⟩ => ⟨S2x256x256, .f32⟩
  | .hbm, ⟨56, _⟩ => ⟨S2x256x256, .bf16⟩
  | .hbm, ⟨57, _⟩ => ⟨S1x512, .f32⟩
  | .hbm, ⟨58, _⟩ => ⟨S512, .f32⟩
  | .hbm, ⟨59, _⟩ => ⟨S1x512, .f32⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S512, .f32⟩
  | .hbm, ⟨65, _⟩ => ⟨S1x512, .f32⟩
  | .hbm, ⟨66, _⟩ => ⟨S1x512, .f32⟩
  | .hbm, ⟨67, _⟩ => ⟨S512, .f32⟩
  | .hbm, ⟨68, _⟩ => ⟨S1x512, .f32⟩
  | .hbm, ⟨69, _⟩ => ⟨S4x8320x512, .bf16⟩
  | .local _ .vmem, ⟨0, _⟩ => ⟨S1x640x512, .f32⟩
  | .local _ .vmem, ⟨1, _⟩ => ⟨S1x640x512, .f32⟩
  | .local _ .vmem, ⟨2, _⟩ => ⟨S1x640x512, .f32⟩
  | .local _ .vmem, ⟨3, _⟩ => ⟨S1x640x512, .f32⟩
  | .local _ .vmem, ⟨4, _⟩ => ⟨S4x512, .f32⟩
  | .local _ .vmem, ⟨5, _⟩ => ⟨S1x512, .f32⟩
  | .local _ .vmem, ⟨6, _⟩ => ⟨S2x256x256, .bf16⟩
  | .local _ .vmem, ⟨7, _⟩ => ⟨S2x256x256, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x640x512, .bf16⟩
  | .local _ .vmem, ⟨13, _⟩ => ⟨S1x640x512, .bf16⟩
  | .local _ .vmem, ⟨14, _⟩ => ⟨S648x512, .f32⟩
  | .local _ .vmem, ⟨15, _⟩ => ⟨S1x512, .f32⟩
  | _, _ => ⟨S4x8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S4x8208x512 : Shape := ⟨3, ![4, 8208, 512]⟩
abbrev S2x4x512 : Shape := ⟨3, ![2, 4, 512]⟩
abbrev S2x512 : Shape := ⟨2, ![2, 512]⟩
abbrev S2x8x64x64 : Shape := ⟨4, ![2, 8, 64, 64]⟩
abbrev S_ : Shape := ⟨0, ![]⟩
abbrev S4x8211x512 : Shape := ⟨3, ![4, 8211, 512]⟩
abbrev S1x4x512 : Shape := ⟨3, ![1, 4, 512]⟩
abbrev S4x512 : Shape := ⟨2, ![4, 512]⟩
abbrev S1x512 : Shape := ⟨2, ![1, 512]⟩
abbrev S512 : Shape := ⟨1, ![512]⟩
abbrev S1x1x512 : Shape := ⟨3, ![1, 1, 512]⟩
abbrev S4x8208x8x64 : Shape := ⟨4, ![4, 8208, 8, 64]⟩
abbrev S1x8x64x64 : Shape := ⟨4, ![1, 8, 64, 64]⟩
abbrev S8x64x64 : Shape := ⟨3, ![8, 64, 64]⟩
abbrev S8x64x4x8208 : Shape := ⟨4, ![8, 64, 4, 8208]⟩
abbrev S8208 : Shape := ⟨1, ![8208]⟩
abbrev S1x8208x1 : Shape := ⟨3, ![1, 8208, 1]⟩
abbrev S8208x4x512 : Shape := ⟨3, ![8208, 4, 512]⟩
abbrev S4x8208 : Shape := ⟨2, ![4, 8208]⟩
abbrev S4x8208x1 : Shape := ⟨3, ![4, 8208, 1]⟩
abbrev S4x8320x512 : Shape := ⟨3, ![4, 8320, 512]⟩

abbrev nBuf : Space → Nat
  | .hbm => 210
  | .vmem => 0
  | .smem => 0
  | _ => 0

abbrev hbmTy0_0 (i : Nat) : BufTy := match i % 128 with
  | 0 => ⟨S4x8208x512, .f32⟩
  | 1 => ⟨S4x8208x512, .f32⟩
  | 2 => ⟨S2x4x512, .f32⟩
  | 3 => ⟨S2x512, .f32⟩
  | 4 => ⟨S2x8x64x64, .f32⟩
  | 5 => ⟨S2x512, .f32⟩
  | 6 => ⟨S2x8x64x64, .f32⟩
  | 7 => ⟨S2x512, .f32⟩
  | 8 => ⟨S2x512, .f32⟩
  | 9 => ⟨S2x512, .f32⟩
  | 10 => ⟨S_, .i32⟩
  | 11 => ⟨S_, .f32⟩
  | 12 => ⟨S4x8211x512, .f32⟩
  | 13 => ⟨S4x8208x512, .f32⟩
  | 14 => ⟨S1x4x512, .f32⟩
  | 15 => ⟨S4x512, .f32⟩
  | 16 => ⟨S1x512, .f32⟩
  | 17 => ⟨S512, .f32⟩
  | 18 => ⟨S1x1x512, .f32⟩
  | 19 => ⟨S4x8208x512, .f32⟩
  | 20 => ⟨S4x8208x512, .f32⟩
  | 21 => ⟨S_, .f32⟩
  | 22 => ⟨S4x8208x512, .f32⟩
  | 23 => ⟨S4x8208x512, .f32⟩
  | 24 => ⟨S4x8208x512, .f32⟩
  | 25 => ⟨S1x4x512, .f32⟩
  | 26 => ⟨S4x512, .f32⟩
  | 27 => ⟨S1x512, .f32⟩
  | 28 => ⟨S512, .f32⟩
  | 29 => ⟨S1x1x512, .f32⟩
  | 30 => ⟨S4x8208x512, .f32⟩
  | 31 => ⟨S4x8208x512, .f32⟩
  | 32 => ⟨S4x8208x512, .f32⟩
  | 33 => ⟨S4x8208x512, .f32⟩
  | 34 => ⟨S1x4x512, .f32⟩
  | 35 => ⟨S4x512, .f32⟩
  | 36 => ⟨S1x512, .f32⟩
  | 37 => ⟨S512, .f32⟩
  | 38 => ⟨S1x1x512, .f32⟩
  | 39 => ⟨S4x8208x512, .f32⟩
  | 40 => ⟨S4x8208x512, .f32⟩
  | 41 => ⟨S4x8208x512, .f32⟩
  | 42 => ⟨S4x8208x512, .f32⟩
  | 43 => ⟨S1x4x512, .f32⟩
  | 44 => ⟨S4x512, .f32⟩
  | 45 => ⟨S1x512, .f32⟩
  | 46 => ⟨S512, .f32⟩
  | 47 => ⟨S1x1x512, .f32⟩
  | 48 => ⟨S4x8208x512, .f32⟩
  | 49 => ⟨S4x8208x512, .f32⟩
  | 50 => ⟨S4x8208x512, .f32⟩
  | 51 => ⟨S1x512, .f32⟩
  | 52 => ⟨S512, .f32⟩
  | 53 => ⟨S1x1x512, .f32⟩
  | 54 => ⟨S4x8208x512, .f32⟩
  | 55 => ⟨S4x8208x512, .f32⟩
  | 56 => ⟨S4x8208x8x64, .f32⟩
  | 57 => ⟨S1x8x64x64, .f32⟩
  | 58 => ⟨S8x64x64, .f32⟩
  | 59 => ⟨S8x64x4x8208, .f32⟩
  | 60 => ⟨S4x8208x8x64, .f32⟩
  | 61 => ⟨S4x8208x512, .f32⟩
  | 62 => ⟨S1x512, .f32⟩
  | 63 => ⟨S512, .f32⟩
  | 64 => ⟨S1x1x512, .f32⟩
  | 65 => ⟨S4x8208x512, .f32⟩
  | 66 => ⟨S4x8208x512, .f32⟩
  | 67 => ⟨S4x8208x512, .f32⟩
  | 68 => ⟨S4x8208x512, .f32⟩
  | 69 => ⟨S_, .f32⟩
  | 70 => ⟨S4x8208x512, .f32⟩
  | 71 => ⟨S4x8208x512, .f32⟩
  | 72 => ⟨S_, .f32⟩
  | 73 => ⟨S4x8208x512, .f32⟩
  | 74 => ⟨S4x8208x512, .f32⟩
  | 75 => ⟨S1x8x64x64, .f32⟩
  | 76 => ⟨S8x64x64, .f32⟩
  | 77 => ⟨S8x64x4x8208, .f32⟩
  | 78 => ⟨S4x8208x8x64, .f32⟩
  | 79 => ⟨S4x8208x512, .f32⟩
  | 80 => ⟨S1x512, .f32⟩
  | 81 => ⟨S512, .f32⟩
  | 82 => ⟨S1x1x512, .f32⟩
  | 83 => ⟨S4x8208x512, .f32⟩
  | 84 => ⟨S4x8208x512, .f32⟩
  | 85 => ⟨S4x8208x512, .f32⟩
  | 86 => ⟨S4x8208x512, .f32⟩
  | 87 => ⟨S_, .f32⟩
  | 88 => ⟨S4x8208x512, .f32⟩
  | 89 => ⟨S4x8208x512, .f32⟩
  | 90 => ⟨S_, .f32⟩
  | 91 => ⟨S4x8208x512, .f32⟩
  | 92 => ⟨S4x8208x512, .f32⟩
  | 93 => ⟨S_, .f32⟩
  | 94 => ⟨S4x8208x512, .f32⟩
  | 95 => ⟨S4x8208x512, .f32⟩
  | 96 => ⟨S1x512, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S512, .f32⟩
  | 104 => ⟨S512, .i1⟩
  | 105 => ⟨S512, .f32⟩
  | 106 => ⟨S512, .f32⟩
  | 107 => ⟨S512, .f32⟩
  | 108 => ⟨S512, .f32⟩
  | 109 => ⟨S512, .f32⟩
  | 110 => ⟨S512, .f32⟩
  | 111 => ⟨S512, .f32⟩
  | 112 => ⟨S512, .f32⟩
  | 113 => ⟨S512, .f32⟩
  | 114 => ⟨S1x1x512, .f32⟩
  | 115 => ⟨S4x8208x512, .f32⟩
  | 116 => ⟨S4x8208x512, .f32⟩
  | 117 => ⟨S4x8208x512, .f32⟩
  | 118 => ⟨S_, .f32⟩
  | 119 => ⟨S4x8208x512, .f32⟩
  | 120 => ⟨S4x8208x512, .f32⟩
  | 121 => ⟨S4x8208x512, .f32⟩
  | 122 => ⟨S4x8208x512, .f32⟩
  | 123 => ⟨S_, .f32⟩
  | 124 => ⟨S4x8208x512, .f32⟩
  | 125 => ⟨S4x8208x512, .f32⟩
  | 126 => ⟨S4x8208x512, .f32⟩
  | 127 => ⟨S8208, .i32⟩
  | _ => ⟨S4x8208x512, .f32⟩

abbrev hbmTy0_1 (i : Nat) : BufTy := match i % 128 with
  | 0 => ⟨S1x8208x1, .i32⟩
  | 1 => ⟨S_, .i32⟩
  | 2 => ⟨S1x8208x1, .i32⟩
  | 3 => ⟨S1x8208x1, .i1⟩
  | 4 => ⟨S_, .f32⟩
  | 5 => ⟨S_, .f32⟩
  | 6 => ⟨S4x8208x512, .i1⟩
  | 7 => ⟨S4x8208x512, .f32⟩
  | 8 => ⟨S4x8208x512, .f32⟩
  | 9 => ⟨S4x8208x512, .f32⟩
  | 10 => ⟨S4x8208x512, .f32⟩
  | 11 => ⟨S_, .f32⟩
  | 12 => ⟨S4x512, .f32⟩
  | 13 => ⟨S8208x4x512, .f32⟩
  | 14 => ⟨S8208x4x512, .f32⟩
  | 15 => ⟨S_, .f32⟩
  | 16 => ⟨S8208x4x512, .f32⟩
  | 17 => ⟨S_, .i32⟩
  | 18 => ⟨S8208x4x512, .f32⟩
  | 19 => ⟨S8208x4x512, .f32⟩
  | 20 => ⟨S_, .i32⟩
  | 21 => ⟨S4x512, .f32⟩
  | 22 => ⟨S8208x4x512, .f32⟩
  | 23 => ⟨S_, .i32⟩
  | 24 => ⟨S_, .i1⟩
  | 25 => ⟨S_, .i32⟩
  | 26 => ⟨S_, .i32⟩
  | 27 => ⟨S1x4x512, .f32⟩
  | 28 => ⟨S4x512, .f32⟩
  | 29 => ⟨S_, .i32⟩
  | 30 => ⟨S_, .i32⟩
  | 31 => ⟨S1x4x512, .f32⟩
  | 32 => ⟨S4x512, .f32⟩
  | 33 => ⟨S4x512, .f32⟩
  | 34 => ⟨S4x512, .f32⟩
  | 35 => ⟨S1x4x512, .f32⟩
  | 36 => ⟨S_, .i32⟩
  | 37 => ⟨S_, .i32⟩
  | 38 => ⟨S8208x4x512, .f32⟩
  | 39 => ⟨S_, .i32⟩
  | 40 => ⟨S_, .i32⟩
  | 41 => ⟨S4x8208x512, .f32⟩
  | 42 => ⟨S4x8208x512, .f32⟩
  | 43 => ⟨S4x8208x512, .f32⟩
  | 44 => ⟨S_, .f32⟩
  | 45 => ⟨S4x8208x512, .f32⟩
  | 46 => ⟨S4x8208x512, .f32⟩
  | 47 => ⟨S4x8208x512, .f32⟩
  | 48 => ⟨S_, .f32⟩
  | 49 => ⟨S4x8208x512, .f32⟩
  | 50 => ⟨S4x8208x512, .f32⟩
  | 51 => ⟨S4x8208x512, .f32⟩
  | 52 => ⟨S_, .f32⟩
  | 53 => ⟨S4x8208x512, .f32⟩
  | 54 => ⟨S4x8208x512, .f32⟩
  | 55 => ⟨S_, .f32⟩
  | 56 => ⟨S4x8208x512, .f32⟩
  | 57 => ⟨S4x8208x512, .f32⟩
  | 58 => ⟨S4x8208x512, .f32⟩
  | 59 => ⟨S4x8208x512, .f32⟩
  | 60 => ⟨S1x512, .f32⟩
  | 61 => ⟨S512, .f32⟩
  | 62 => ⟨S4x8208x512, .f32⟩
  | 63 => ⟨S_, .f32⟩
  | 64 => ⟨S4x8208, .f32⟩
  | 65 => ⟨S4x8208x1, .f32⟩
  | 66 => ⟨S_, .f32⟩
  | 67 => ⟨S4x8208x1, .f32⟩
  | 68 => ⟨S4x8208x1, .f32⟩
  | 69 => ⟨S_, .f32⟩
  | 70 => ⟨S4x8208x1, .f32⟩
  | 71 => ⟨S4x8208x1, .f32⟩
  | 72 => ⟨S4x8208x1, .f32⟩
  | 73 => ⟨S4x8208x512, .f32⟩
  | 74 => ⟨S4x8208x512, .f32⟩
  | 75 => ⟨S1x1x512, .f32⟩
  | 76 => ⟨S4x8208x512, .f32⟩
  | 77 => ⟨S4x8208x512, .f32⟩
  | 78 => ⟨S_, .i32⟩
  | 79 => ⟨S_, .f32⟩
  | 80 => ⟨S4x8320x512, .f32⟩
  | 81 => ⟨S4x8320x512, .bf16⟩
  | _ => ⟨S4x8208x512, .f32⟩

abbrev hbmTy (i : Nat) : BufTy := match i / 128 with
  | 0 => hbmTy0_0 i
  | 1 => hbmTy0_1 i
  | _ => ⟨S4x8208x512, .f32⟩

abbrev bufTy : (tb : Table) → Fin (tcTables nBuf tb) → BufTy
  | .hbm, ⟨i, _⟩ => hbmTy i
  | _, _ => ⟨S4x8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_0 : Ref sig .tc := ⟨.hbm, 69, rfl⟩
abbrev main_v56 : Ref sig .tc := ⟨.hbm, 70, rfl⟩
abbrev main_v57 : Ref sig .tc := ⟨.hbm, 71, rfl⟩
abbrev main_cst_1 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_2 : Ref sig .tc := ⟨.hbm, 87, rfl⟩
abbrev main_v72 : Ref sig .tc := ⟨.hbm, 88, rfl⟩
abbrev main_v73 : Ref sig .tc := ⟨.hbm, 89, rfl⟩
abbrev main_cst_3 : Ref sig .tc := ⟨.hbm, 90, rfl⟩
abbrev main_v74 : Ref sig .tc := ⟨.hbm, 91, rfl⟩
abbrev main_v75 : Ref sig .tc := ⟨.hbm, 92, rfl⟩
abbrev main_cst_4 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_5 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_6 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_7 : Ref sig .tc := ⟨.hbm, 129, rfl⟩
abbrev main_v96 : Ref sig .tc := ⟨.hbm, 130, rfl⟩
abbrev main_v97 : Ref sig .tc := ⟨.hbm, 131, rfl⟩
abbrev main_cst_8 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_9 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_10 : Ref sig .tc := ⟨.hbm, 143, rfl⟩
abbrev main_v104 : Ref sig .tc := ⟨.hbm, 144, rfl⟩
abbrev main_c_11 : Ref sig .tc := ⟨.hbm, 145, rfl⟩
abbrev main_v105_0 : Ref sig .tc := ⟨.hbm, 146, rfl⟩
abbrev main_v105_1 : Ref sig .tc := ⟨.hbm, 147, rfl⟩
abbrev main_v105_2 : Ref sig .tc := ⟨.hbm, 148, rfl⟩
abbrev main_v105_3 : Ref sig .tc := ⟨.hbm, 149, rfl⟩
abbrev main_v105_4 : Ref sig .tc := ⟨.hbm, 150, rfl⟩
abbrev main_while0c_c_24 : Ref sig .tc := ⟨.hbm, 151, rfl⟩
abbrev main_while0c_v138 : Ref sig .tc := ⟨.hbm, 152, rfl⟩
abbrev main_while0b_call3_c : Ref sig .tc := ⟨.hbm, 153, rfl⟩
abbrev main_while0b_call3_c_0 : Ref sig .tc := ⟨.hbm, 154, rfl⟩
abbrev main_while0b_call3_v0 : Ref sig .tc := ⟨.hbm, 155, rfl⟩
abbrev main_while0b_v138 : Ref sig .tc := ⟨.hbm, 156, rfl⟩
abbrev main_while0b_call4_c : Ref sig .tc := ⟨.hbm, 157, rfl⟩
abbrev main_while0b_call4_c_0 : Ref sig .tc := ⟨.hbm, 158, rfl⟩
abbrev main_while0b_call4_v0 : Ref sig .tc := ⟨.hbm, 159, rfl⟩
abbrev main_while0b_v139 : Ref sig .tc := ⟨.hbm, 160, rfl⟩
abbrev main_while0b_v140 : Ref sig .tc := ⟨.hbm, 161, rfl⟩
abbrev main_while0b_v141 : Ref sig .tc := ⟨.hbm, 162, rfl⟩
abbrev main_while0b_call5_v0 : Ref sig .tc := ⟨.hbm, 163, rfl⟩
abbrev main_while0b_call5_c : Ref sig .tc := ⟨.hbm, 164, rfl⟩
abbrev main_while0b_call5_c_0 : Ref sig .tc := ⟨.hbm, 165, rfl⟩
abbrev main_while0b_v142 : Ref sig .tc := ⟨.hbm, 166, rfl⟩
abbrev main_while0b_c_24 : Ref sig .tc := ⟨.hbm, 167, rfl⟩
abbrev main_while0b_v143 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_12 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_13 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_14 : Ref sig .tc := ⟨.hbm, 180, rfl⟩
abbrev main_v115 : Ref sig .tc := ⟨.hbm, 181, rfl⟩
abbrev main_v116 : Ref sig .tc := ⟨.hbm, 182, rfl⟩
abbrev main_cst_15 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_16 : Ref sig .tc := ⟨.hbm, 191, rfl⟩
abbrev main_v124 : Ref sig .tc := ⟨.hbm, 192, rfl⟩
abbrev main_v125 : Ref sig .tc := ⟨.hbm, 193, rfl⟩
abbrev main_cst_17 : Ref sig .tc := ⟨.hbm, 194, rfl⟩
abbrev main_v126 : Ref sig .tc := ⟨.hbm, 195, rfl⟩
abbrev main_v127 : Ref sig .tc := ⟨.hbm, 196, rfl⟩
abbrev main_cst_18 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_c_19 : Ref sig .tc := ⟨.hbm, 206, rfl⟩
abbrev main_call6_v0 : Ref sig .tc := ⟨.hbm, 207, rfl⟩
abbrev main_v136 : Ref sig .tc := ⟨.hbm, 208, rfl⟩
abbrev main_v137 : Ref sig .tc := ⟨.hbm, 209, rfl⟩

abbrev nD : Nat := 1
abbrev τ : Topo := Topo.v7x

variable {F : FTy → Type} [FloatOps F]

abbrev main_while0_count : Scf.Loop 32 := ⟨0#32, 8208#32, 1#32⟩
-- ==== Proof.Row.lean ====
/- One token's row through the output projection and the SwiGLU channel mixer, over the extended
   reals, as plain functions of the row and the weights. Both the kernel's block and the reference
   are read as these functions. -/
module

public import Idealize.ShloMosaic.PureOps.Ideal.Laws
public import Idealize.ShloMosaic.Lib.Pointwise

@[expose] public section

noncomputable section

namespace Cert.Row

open Idealize.ShloMosaic
open scoped BigOperators

/-- The residual row plus the two head groups' rows through the output projection: the attention
    group by the first 512 rows of the weight, the recurrent group by the last 512. -/
def mixed (h : Fin 1024 → EReal) (a b : Fin 512 → EReal) (w : Fin 1024 → Fin 1024 → EReal) (j : Fin 1024) : EReal :=
  h j + ∑ k : Fin 512, a k * w ⟨k.val, by omega⟩ j + ∑ k : Fin 512, b k * w ⟨512 + k.val, by omega⟩ j

/-- The reciprocal root of the row's mean square plus the stabiliser. -/
def scale (x : Fin 1024 → EReal) : EReal :=
  Ideal.rsqrt (Ideal.div (∑ k : Fin 1024, x k * x k) (Ideal.ofBits .f32 0x44800000#32) + Ideal.ofBits .f32 0x358637BD#32)

/-- RMS normalisation with a gain. -/
def normed (x g : Fin 1024 → EReal) (j : Fin 1024) : EReal := x j * scale x * g j

/-- One hidden channel: the gate's SiLU times the up projection. -/
def hidden (x : Fin 1024 → EReal) (wg wu : Fin 1024 → EReal) : EReal :=
  (∑ k : Fin 1024, x k * wg k) * Ideal.logistic (∑ k : Fin 1024, x k * wg k) * ∑ k : Fin 1024, x k * wu k

/-- Hidden channel `c` of 2816: gate column `c`, up column `2816 + c`. -/
def channel (x : Fin 1024 → EReal) (w : Fin 1024 → Fin 5632 → EReal) (c : Fin 2816) : EReal :=
  hidden x (fun k => w k ⟨c.val, by omega⟩) (fun k => w k ⟨2816 + c.val, by omega⟩)

/-- The channel mixer with its residual. -/
def mixer (x g : Fin 1024 → EReal) (w : Fin 1024 → Fin 5632 → EReal) (d : Fin 2816 → Fin 1024 → EReal) (j : Fin 1024) : EReal :=
  x j + ∑ c : Fin 2816, channel (normed x g) w c * d c j

/-- A sum over 2816 channels taken 256 at a time, in order. -/
theorem sum_chunks (f : Fin 2816 → EReal) :
    ∑ c : Fin 2816, f c = ∑ i : Fin 11, ∑ c : Fin 256, f ⟨256 * i.val + c.val, by omega⟩ := by
  rw [← Fintype.sum_prod_type' (fun (i : Fin 11) (c : Fin 256) => f ⟨256 * i.val + c.val, by omega⟩)]
  refine (Fintype.sum_equiv (finProdFinEquiv (m := 11) (n := 256)) _ _ fun p => ?_).symm
  refine congrArg f (Fin.ext ?_)
  show 256 * p.1.val + p.2.val = p.2.val + 256 * p.1.val
  omega

/-- A sum over 1024 taken as its two halves. -/
theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

end Cert.Row

end
-- ==== Proof.Vec.lean ====
/- The vector operations of one 512-row block of the output projection and the channel mixer, named
   once for any float instance, and each read at an element over the extended reals. -/
module

public import proofs.«01_k».proof.Proof.Row
public import Idealize.ShloMosaic.Lib.MatmulPlain
public import Idealize.ShloMosaic.Lib.Pipeline.Value
public import Idealize.ShloMosaic.Lib.Tactic

@[expose] public section

noncomputable section

namespace Cert.Vec

open Idealize.ShloMosaic
open scoped BigOperators

/-- A matrix's shape. -/
abbrev M (a b : Nat) : Shape := ⟨2, ![a, b]⟩
/-- A matrix under a leading axis of size one. -/
abbrev L (a b : Nat) : Shape := ⟨3, ![1, a, b]⟩

variable {F : FTy → Type} [FloatOps F]

/-- The residual block plus the two head groups' blocks through their halves of the weight. -/
def mixed (h : FVec F (M 512 1024) .f32) (a b : FVec F (M 512 512) .bf16) (wa wb : FVec F (L 512 1024) .bf16) : FVec F (M 512 1024) .f32 :=
  addf (addf h (matmul (DotDims.plain 512 512 1024) none a (shapeCast (M 512 1024) wa rfl) (constant _ .f32 0x00000000#32)))
    (matmul (DotDims.plain 512 512 1024) none b (shapeCast (M 512 1024) wb rfl) (constant _ .f32 0x00000000#32))

/-- RMS normalisation of every row, with the gain, cast to the products' format. -/
def normed (x : FVec F (M 512 1024) .f32) (g : FVec F (M 1 1024) .f32) : FVec F (M 512 1024) .bf16 :=
  truncf .bf16
    (mulf (mulf x (broadcastTo (M 512 1024)
      (rsqrt (addf (divf (shapeCast (M 512 1) (multiReduction .add [1] ⟨1, ![512]⟩ (mulf x x) 0x00000000#32 (by decide) (.inl rfl) rfl) rfl)
        (broadcast (M 512 1) (Scalar.ofBits .f32 0x44800000#32))) (broadcast (M 512 1) (Scalar.ofBits .f32 0x358637BD#32))))
      (by decide)))
      (broadcastTo (M 512 1024) (shapeCast (M 1 1024) g rfl) (by decide))) (by decide)

/-- 256 hidden channels of the block. -/
def hidden (x : FVec F (M 512 1024) .bf16) (wg wu : FVec F (L 1024 256) .bf16) : FVec F (M 512 256) .bf16 :=
  have p : FVec F (M 512 256) .f32 := matmul (DotDims.plain 512 1024 256) none x (shapeCast (M 1024 256) wg rfl) (constant _ .f32 0x00000000#32)
  truncf .bf16 (mulf (mulf p (logistic p))
    (matmul (DotDims.plain 512 1024 256) none x (shapeCast (M 1024 256) wu rfl) (constant _ .f32 0x00000000#32))) (by decide)

/-- Those channels through their 256 rows of the down projection. -/
def chunk (x : FVec F (M 512 1024) .bf16) (wg wu : FVec F (L 1024 256) .bf16) (wd : FVec F (L 256 1024) .bf16) : FVec F (M 512 1024) .f32 :=
  matmul (DotDims.plain 512 256 1024) none (hidden x wg wu) (shapeCast (M 256 1024) wd rfl) (constant _ .f32 0x00000000#32)

/-- 256 columns of the gate-and-up weight's block, from column `o`. -/
abbrev cols (x : FVec F (L 1024 5632) .bf16) (o : Nat) (h : ∀ a, (![0, 0, o] : Fin 3 → Nat) a + (L 1024 256).size a ≤ (L 1024 5632).size a) :
    FVec F (L 1024 256) .bf16 :=
  View.ld (Val := Elt F) (e' := .bf16) x (Rect.unit ![0, 0, o] (L 1024 256).size h)

/-- 256 rows of the down weight's block, from row `o`. -/
abbrev rows (x : FVec F (L 2816 1024) .bf16) (o : Nat) (h : ∀ a, (![0, o, 0] : Fin 3 → Nat) a + (L 256 1024).size a ≤ (L 2816 1024).size a) :
    FVec F (L 256 1024) .bf16 :=
  View.ld (Val := Elt F) (e' := .bf16) x (Rect.unit ![0, o, 0] (L 256 1024).size h)

/-- Chunk `i` of eleven. -/
def part (n : FVec F (M 512 1024) .bf16) (x5 : FVec F (L 1024 5632) .bf16) (x6 : FVec F (L 2816 1024) .bf16) (i : Nat) (hi : i < 11) : FVec F (M 512 1024) .f32 :=
  chunk n
    (cols x5 (256 * i) (fun a => by
      match a with
      | ⟨0, _⟩ => exact Nat.le_refl 1
      | ⟨1, _⟩ => exact Nat.le_refl 1024
      | ⟨2, _⟩ => show 256 * i + 256 ≤ 5632; omega))
    (cols x5 (2816 + 256 * i) (fun a => by
      match a with
      | ⟨0, _⟩ => exact Nat.le_refl 1
      | ⟨1, _⟩ => exact Nat.le_refl 1024
      | ⟨2, _⟩ => show 2816 + 256 * i + 256 ≤ 5632; omega))
    (rows x6 (256 * i) (fun a => by
      match a with
      | ⟨0, _⟩ => exact Nat.le_refl 1
      | ⟨1, _⟩ => show 256 * i + 256 ≤ 2816; omega
      | ⟨2, _⟩ => exact Nat.le_refl 1024))

/-- The eleven chunks added first to last. -/
def parts (n : FVec F (M 512 1024) .bf16) (x5 : FVec F (L 1024 5632) .bf16) (x6 : FVec F (L 2816 1024) .bf16) : FVec F (M 512 1024) .f32 :=
  addf (addf (addf (addf (addf (addf (addf (addf (addf (addf (part n x5 x6 0 (by decide)) (part n x5 x6 1 (by decide))) (part n x5 x6 2 (by decide)))
    (part n x5 x6 3 (by decide))) (part n x5 x6 4 (by decide))) (part n x5 x6 5 (by decide))) (part n x5 x6 6 (by decide)))
    (part n x5 x6 7 (by decide))) (part n x5 x6 8 (by decide))) (part n x5 x6 9 (by decide))) (part n x5 x6 10 (by decide))

/-- The block after the output projection. -/
def mid (h : FVec F (M 512 1024) .f32) (a b : FVec F (M 512 512) .bf16) (w : FVec F (L 1024 1024) .bf16) : FVec F (M 512 1024) .f32 :=
  mixed h a b
    (View.ld (Val := Elt F) (e' := .bf16) w (Rect.unit ![0, 0, 0] (L 512 1024).size (fun a => by
      match a with
      | ⟨0, _⟩ => exact Nat.le_refl 1
      | ⟨1, _⟩ => show 0 + 512 ≤ 1024; omega
      | ⟨2, _⟩ => exact Nat.le_refl 1024)))
    (View.ld (Val := Elt F) (e' := .bf16) w (Rect.unit ![0, 512, 0] (L 512 1024).size (fun a => by
      match a with
      | ⟨0, _⟩ => exact Nat.le_refl 1
      | ⟨1, _⟩ => exact Nat.le_refl 1024
      | ⟨2, _⟩ => exact Nat.le_refl 1024)))

/-- The whole block: the projected block plus the mixer of its normalisation. -/
def body (h : FVec F (M 512 1024) .f32) (a b : FVec F (M 512 512) .bf16) (w : FVec F (L 1024 1024) .bf16) (g : FVec F (M 1 1024) .f32)
    (wgu : FVec F (L 1024 5632) .bf16) (wd : FVec F (L 2816 1024) .bf16) : FVec F (M 512 1024) .f32 :=
  addf (mid h a b w) (parts (normed (mid h a b w) g) wgu wd)

/-- The mixed rows at an element: the stream plus both groups' products. -/
theorem mixed_apply (h : FVec Ideal (M 512 1024) .f32) (a b : FVec Ideal (M 512 512) .bf16) (wa wb : FVec Ideal (L 512 1024) .bf16)
    (r : Fin 512) (j : Fin 1024) :
    mixed h a b wa wb (ix2 r j) = h (ix2 r j) + ∑ k : Fin 512, a (ix2 r k) * wa (ix3 0 k j) + ∑ k : Fin 512, b (ix2 r k) * wb (ix3 0 k j) := by
  unfold mixed
  pointwise

/-- The normalised rows at an element. -/
theorem normed_apply (x : FVec Ideal (M 512 1024) .f32) (g : FVec Ideal (M 1 1024) .f32) (r : Fin 512) (j : Fin 1024) :
    normed x g (ix2 r j) = Row.normed (fun k => x (ix2 r k)) (fun k => g (ix2 0 k)) j := by
  unfold normed Row.normed Row.scale
  pointwise

/-- A chunk's hidden channel of a row. -/
theorem hidden_apply (x : FVec Ideal (M 512 1024) .bf16) (wg wu : FVec Ideal (L 1024 256) .bf16) (r : Fin 512) (c : Fin 256) :
    hidden x wg wu (ix2 r c) = Row.hidden (fun k => x (ix2 r k)) (fun k => wg (ix3 0 k c)) (fun k => wu (ix3 0 k c)) := by
  unfold hidden Row.hidden
  pointwise

/-- A chunk's part of the down projection at an element. -/
theorem chunk_apply (x : FVec Ideal (M 512 1024) .bf16) (wg wu : FVec Ideal (L 1024 256) .bf16) (wd : FVec Ideal (L 256 1024) .bf16)
    (r : Fin 512) (j : Fin 1024) :
    chunk x wg wu wd (ix2 r j) = ∑ c : Fin 256,
      Row.hidden (fun k => x (ix2 r k)) (fun k => wg (ix3 0 k c)) (fun k => wu (ix3 0 k c)) * wd (ix3 0 c j) := by
  unfold chunk
  pointwise
  exact Finset.sum_congr rfl fun c _ => congrArg (· * _) (hidden_apply x wg wu r c)

/-- The gate and up weights' columns from `o` on. -/
theorem cols_apply (x : FVec Ideal (L 1024 5632) .bf16) (o : Nat) (h : ∀ a, (![0, 0, o] : Fin 3 → Nat) a + (L 1024 256).size a ≤ (L 1024 5632).size a)
    (k : Fin 1024) (c : Fin 256) : cols x o h (ix3 0 k c) = x (ix3 0 k ⟨o + c.val, by have : o + 256 ≤ 5632 := h 2; omega⟩) :=
  congrArg x (funext fun a => Fin.ext (by match a with | ⟨0, _⟩ => rfl | ⟨1, _⟩ => show 0 + 1 * k.val = k.val; omega | ⟨2, _⟩ => show o + 1 * c.val = o + c.val; omega))

/-- The down weights' rows from `o` on. -/
theorem rows_apply (x : FVec Ideal (L 2816 1024) .bf16) (o : Nat) (h : ∀ a, (![0, o, 0] : Fin 3 → Nat) a + (L 256 1024).size a ≤ (L 2816 1024).size a)
    (c : Fin 256) (j : Fin 1024) : rows x o h (ix3 0 c j) = x (ix3 0 ⟨o + c.val, by have : o + 256 ≤ 2816 := h 1; omega⟩ j) :=
  congrArg x (funext fun a => Fin.ext (by match a with | ⟨0, _⟩ => rfl | ⟨1, _⟩ => show o + 1 * c.val = o + c.val; omega | ⟨2, _⟩ => show 0 + 1 * j.val = j.val; omega))

/-- A chunk's element: its 256 channels of the row, each through its row of the down projection. -/
theorem part_apply (n : FVec Ideal (M 512 1024) .bf16) (x5 : FVec Ideal (L 1024 5632) .bf16) (x6 : FVec Ideal (L 2816 1024) .bf16)
    (i : Nat) (hi : i < 11) (r : Fin 512) (j : Fin 1024) :
    part n x5 x6 i hi (ix2 r j) = ∑ c : Fin 256,
      Row.channel (fun k => n (ix2 r k)) (fun k c => x5 (ix3 0 k c)) ⟨256 * i + c.val, by omega⟩ * x6 (ix3 0 ⟨256 * i + c.val, by omega⟩ j) := by
  unfold part
  rw [chunk_apply]
  refine Finset.sum_congr rfl fun c _ => ?_
  rw [rows_apply]
  refine congrArg (· * _) ?_
  unfold Row.channel
  refine congrArg₂ (Row.hidden _) (funext fun k => ?_) (funext fun k => ?_)
  · rw [cols_apply]
  · rw [cols_apply]
    exact congrArg x5 (congrArg (ix3 0 k) (Fin.ext (Nat.add_assoc 2816 (256 * i) c.val)))

/-- The eleven chunks' element: all 2816 channels. -/
theorem parts_apply (n : FVec Ideal (M 512 1024) .bf16) (x5 : FVec Ideal (L 1024 5632) .bf16) (x6 : FVec Ideal (L 2816 1024) .bf16)
    (r : Fin 512) (j : Fin 1024) :
    parts n x5 x6 (ix2 r j) = ∑ c : Fin 2816,
      Row.channel (fun k => n (ix2 r k)) (fun k c => x5 (ix3 0 k c)) c * x6 (ix3 0 c j) := by
  rw [Row.sum_chunks]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_two]
  unfold parts
  simp only [addf_apply, Ideal.addf_def, part_apply]
  rfl

/-- The projected block's element is the projected row's. -/
theorem mid_apply (h : FVec Ideal (M 512 1024) .f32) (a b : FVec Ideal (M 512 512) .bf16) (w : FVec Ideal (L 1024 1024) .bf16)
    (r : Fin 512) (j : Fin 1024) :
    mid h a b w (ix2 r j) = Row.mixed (fun k => h (ix2 r k)) (fun k => a (ix2 r k)) (fun k => b (ix2 r k)) (fun k j => w (ix3 0 k j)) j := by
  unfold mid Row.mixed
  rw [mixed_apply]
  pointwise

/-- The block's element is the row function of the row. -/
theorem body_apply (h : FVec Ideal (M 512 1024) .f32) (a b : FVec Ideal (M 512 512) .bf16) (w : FVec Ideal (L 1024 1024) .bf16)
    (g : FVec Ideal (M 1 1024) .f32) (wgu : FVec Ideal (L 1024 5632) .bf16) (wd : FVec Ideal (L 2816 1024) .bf16) (r : Fin 512) (j : Fin 1024) :
    body h a b w g wgu wd (ix2 r j)
      = Row.mixer (Row.mixed (fun k => h (ix2 r k)) (fun k => a (ix2 r k)) (fun k => b (ix2 r k)) (fun k j => w (ix3 0 k j)))
          (fun k => g (ix2 0 k)) (fun k c => wgu (ix3 0 k c)) (fun c j => wd (ix3 0 c j)) j := by
  unfold body Row.mixer
  simp only [addf_apply, Ideal.addf_def, parts_apply, mid_apply, normed_apply]

end Cert.Vec

end
-- ==== Proof.Block.lean ====
/- What one grid point of the last output-and-mixer call leaves in its result block: the row function
   of its input blocks. -/
module

public import proofs.«01_k».proof.Proof.Vec
public import proofs.«01_k».proof.Proof.Gen.KernelIdeal.Value

@[expose] public section

noncomputable section

namespace Cert.Last

open Cert.KernelIdeal Cert.KernelIdeal.Gen Idealize.ShloMosaic Idealize.ShloMosaic.TcCoe Idealize.SL.Sem
open scoped BigOperators

variable {F : FTy → Type} [FloatOps F]

set_option maxRecDepth 16384 in
set_option maxHeartbeats 2000000 in
/-- The body's stored block: the projected block plus the eleven chunks of the mixer of its normalisation. -/
theorem out_eq (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1x512x1024 .f32) (harg9 : arg9.IsWhole)
    (x0 : Vec F S1x512x1024 .f32) (x1 : Vec F S1x512x512 .bf16) (x2 : Vec F S1x512x512 .bf16) (x3 : Vec F S1x1024x1024 .bf16) (x4 : Vec F S1x1024 .f32) (x5 : Vec F S1x1024x5632 .bf16) (x6 : Vec F S1x2816x1024 .bf16) :
    out0_A_7 c i arg2 harg2 arg3 harg3 arg4 harg4 arg5 harg5 arg6 harg6 arg7 harg7 arg8 harg8 arg9 harg9 x0 x1 x2 x3 x4 x5 x6
      = shapeCast S1x512x1024 (Vec.body (shapeCast S512x1024 x0 shapeCasts_S1x512x1024_S512x1024) (shapeCast S512x512 x1 shapeCasts_S1x512x512_S512x512)
          (shapeCast S512x512 x2 shapeCasts_S1x512x512_S512x512) x3 x4 x5 x6) shapeCasts_S512x1024_S1x512x1024 := by
  have hz : (![0,0,0] : Fin 3 → Nat) = fun _ => 0 := funext fun a => by fin_cases a <;> rfl
  have hz2 : (![0,0] : Fin 2 → Nat) = fun _ => 0 := funext fun a => by fin_cases a <;> rfl
  have hk : shapeCast S512x1024 (k0_pay2 x0 x1 (View.ld x3 (Rect.unit ![0, 0, 0] S1x512x1024.size inb_S1x1024x1024_S1x512x1024_0_0_0)) x2
      (View.ld x3 (Rect.unit ![0, 512, 0] S1x512x1024.size inb_S1x1024x1024_S1x512x1024_0_512_0))) shapeCasts_S1x512x1024_S512x1024
      = Vec.mid (shapeCast S512x1024 x0 shapeCasts_S1x512x1024_S512x1024) (shapeCast S512x512 x1 shapeCasts_S1x512x512_S512x512)
          (shapeCast S512x512 x2 shapeCasts_S1x512x512_S512x512) x3 :=
    shapeCast_shapeCast _ _ _
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_cons_unit_zero hz]
  rw [View.readCov_unit_zero _ hz]
  simp only [View.readAt_eq_ld, harg2.read_unread, harg3.read_unread, harg4.read_unread, harg5.read_unread, harg6.read_unread, harg7.read_unread, harg8.read_unread]
  have h0 : ∀ h, View.ld (Val := Elt F) (e' := .f32) x0 (Rect.unit ![0, 0, 0] ![1, 512, 1024] h) = x0 := fun h => View.ld_unit_zero (S := S1x512x1024) hz h x0
  have h1 : ∀ h, View.ld (Val := Elt F) (e' := .bf16) x1 (Rect.unit ![0, 0, 0] ![1, 512, 512] h) = x1 := fun h => View.ld_unit_zero (S := S1x512x512) hz h x1
  have h2 : ∀ h, View.ld (Val := Elt F) (e' := .bf16) x2 (Rect.unit ![0, 0, 0] ![1, 512, 512] h) = x2 := fun h => View.ld_unit_zero (S := S1x512x512) hz h x2
  have h4 : ∀ h, View.ld (Val := Elt F) (e' := .f32) x4 (Rect.unit ![0, 0] ![1, 1024] h) = x4 := fun h => View.ld_unit_zero (S := S1x1024) hz2 h x4
  simp only [h0, h1, h2, h4]
  unfold k0_pay12 k0_pay3
  simp only [hk]
  rfl

end Cert.Last

end
-- ==== Proof.Result.lean ====
/- The arithmetic of one layer's output projection and mixer as a function of the whole arrays. -/
module

public import proofs.«01_k».proof.Proof.Vec

@[expose] public section

noncomputable section

namespace Cert.Result

open Idealize.ShloMosaic
open scoped BigOperators

/-- A three-axis shape. -/
abbrev T (a b c : Nat) : Shape := ⟨3, ![a, b, c]⟩

/-- Layer `l` at batch `b`, row `s`, channel `j`: the residual row plus the projected heads, and to that the mixer of
    its normalisation, with the weights of the layer. -/
def layer (l : Fin 2) (h : Vec Ideal (T 4 8208 1024) .f32) (o p : Vec Ideal (T 4 8208 512) .f32)
    (w : Vec Ideal (T 2 1024 1024) .f32) (g : Vec Ideal (Vec.M 2 1024) .f32) (wgu : Vec Ideal (T 2 1024 5632) .f32)
    (wd : Vec Ideal (T 2 2816 1024) .f32) (b : Fin 4) (s : Fin 8208) (j : Fin 1024) : EReal :=
  Row.mixer (Row.mixed (fun k => h (ix3 b s k)) (fun k => o (ix3 b s k)) (fun k => p (ix3 b s k)) (fun k j => w (ix3 l k j)))
    (fun k => g (ix2 l k)) (fun k c => wgu (ix3 l k c)) (fun c j => wd (ix3 l c j)) j

/-- The same place of the result, whatever names it. -/
theorem layer_at {l h o p w g wgu wd} {b b' : Fin 4} {s s' : Fin 8208} {j j' : Fin 1024} (hb : b.val = b'.val)
    (hs : s.val = s'.val) (hj : j.val = j'.val) : layer l h o p w g wgu wd b s j = layer l h o p w g wgu wd b' s' j' := by
  rw [Fin.ext hb, Fin.ext hs, Fin.ext hj]

/-- A row of an array of 8208 rows under 112 rows of zeros. -/
def padded {n : Nat} (x : Vec Ideal (T 4 8208 n) .f32) (b : Fin 4) (s : Fin 8320) (k : Fin n) : EReal :=
  if h : 112 ≤ s.val then x (ix3 b ⟨s.val - 112, by omega⟩ k) else 0

/-- The layer over the padded rows. -/
def paddedLayer (l : Fin 2) (h : Vec Ideal (T 4 8208 1024) .f32) (o p : Vec Ideal (T 4 8208 512) .f32)
    (w : Vec Ideal (T 2 1024 1024) .f32) (g : Vec Ideal (Vec.M 2 1024) .f32) (wgu : Vec Ideal (T 2 1024 5632) .f32)
    (wd : Vec Ideal (T 2 2816 1024) .f32) (b : Fin 4) (s : Fin 8320) (j : Fin 1024) : EReal :=
  Row.mixer (Row.mixed (padded h b s) (padded o b s) (padded p b s) (fun k j => w (ix3 l k j)))
    (fun k => g (ix2 l k)) (fun k c => wgu (ix3 l k c)) (fun c j => wd (ix3 l c j)) j

/-- The layer of a row of zeros is zero. -/
theorem mixer_zero (w : Fin 1024 → Fin 1024 → EReal) (g : Fin 1024 → EReal) (wgu : Fin 1024 → Fin 5632 → EReal)
    (wd : Fin 2816 → Fin 1024 → EReal) (j : Fin 1024) :
    Row.mixer (Row.mixed (fun _ => 0) (fun _ => 0) (fun _ => 0) w) g wgu wd j = 0 := by
  have h0 : Row.mixed (fun _ => 0) (fun _ => 0) (fun _ => 0) w = fun _ => 0 := by
    funext k
    simp [Row.mixed]
  rw [h0]
  simp [Row.mixer, Row.channel, Row.hidden, Row.normed]

/-- So the layer over padded rows is the padded layer. -/
theorem paddedLayer_eq (l : Fin 2) (h : Vec Ideal (T 4 8208 1024) .f32) (o p : Vec Ideal (T 4 8208 512) .f32)
    (w : Vec Ideal (T 2 1024 1024) .f32) (g : Vec Ideal (Vec.M 2 1024) .f32) (wgu : Vec Ideal (T 2 1024 5632) .f32)
    (wd : Vec Ideal (T 2 2816 1024) .f32) (b : Fin 4) (s : Fin 8320) (j : Fin 1024) :
    paddedLayer l h o p w g wgu wd b s j
      = if hs : 112 ≤ s.val then layer l h o p w g wgu wd b ⟨s.val - 112, by omega⟩ j else 0 := by
  unfold paddedLayer
  by_cases hs : 112 ≤ s.val
  · have e : ∀ {n : Nat} (x : Vec Ideal (T 4 8208 n) .f32), padded x b s = fun k => x (ix3 b ⟨s.val - 112, by omega⟩ k) :=
      fun x => funext fun k => dif_pos hs
    rw [dif_pos hs, e, e, e]
    rfl
  · have e : ∀ {n : Nat} (x : Vec Ideal (T 4 8208 n) .f32), padded x b s = fun _ => 0 :=
      fun x => funext fun k => dif_neg hs
    rw [dif_neg hs, e, e, e, mixer_zero]

/-- The same place of the padded layer, whatever names it. -/
theorem paddedLayer_at {l h o p w g wgu wd} {b b' : Fin 4} {s s' : Fin 8320} {j j' : Fin 1024} (hb : b.val = b'.val)
    (hs : s.val = s'.val) (hj : j.val = j'.val) :
    paddedLayer l h o p w g wgu wd b s j = paddedLayer l h o p w g wgu wd b' s' j' := by
  rw [Fin.ext hb, Fin.ext hs, Fin.ext hj]

end Cert.Result

end
-- ==== Proof.Array.lean ====
/- What each input block of the last output-and-mixer call holds in terms of the arguments, and so the
   whole result array. -/
module

public import proofs.«01_k».proof.Proof.Block
public import proofs.«01_k».proof.Proof.Result
public import Idealize.ShloMosaic.Lib.Claim
public import Idealize.ShloMosaic.Lib.StableHlo.ReadAt
public import Idealize.ShloMosaic.Lib.Pipeline.ValueKit.Point

@[expose] public section

noncomputable section

namespace Cert.Last

open Cert.KernelIdeal Cert.KernelIdeal.Gen Idealize.ShloMosaic Idealize.ShloMosaic.TcCoe Idealize.SL.Sem
open scoped BigOperators

variable (m : (ℓ : Loc nD τ sig) → Buf (Elt Ideal) ℓ)

/-- The batch of a grid point. -/
abbrev bat (t : Fin cfg0.N) : Fin 4 := grid0.coords t 0
/-- The row tile of a grid point. -/
abbrev til (t : Fin cfg0.N) : Fin 16 := grid0.coords t 1

/-- Where each grid point reads the residual stream: past the 128 front rows, tile by tile. -/
theorem index0 : ∀ t : Fin cfg0.N, win0_0.index t = ![(bat t).val, 128 + 512 * (til t).val, 0] := by decide +kernel
/-- The attention group's rows likewise. -/
theorem index1 : ∀ t : Fin cfg0.N, win0_1.index t = ![(bat t).val, 128 + 512 * (til t).val, 0] := by decide +kernel
/-- The recurrent group's rows likewise. -/
theorem index2 : ∀ t : Fin cfg0.N, win0_2.index t = ![(bat t).val, 128 + 512 * (til t).val, 0] := by decide +kernel
/-- The last layer's output projection. -/
theorem index3 : ∀ t : Fin cfg0.N, win0_3.index t = ![1, 0, 0] := by decide +kernel
/-- The gains. -/
theorem index4 : ∀ t : Fin cfg0.N, win0_4.index t = ![0, 0] := by decide +kernel
/-- The last layer's gate and up weights. -/
theorem index5 : ∀ t : Fin cfg0.N, win0_5.index t = ![1, 0, 0] := by decide +kernel
/-- The last layer's down weights. -/
theorem index6 : ∀ t : Fin cfg0.N, win0_6.index t = ![1, 0, 0] := by decide +kernel
/-- The result's tile. -/
theorem index7 : ∀ t : Fin cfg0.N, win0_7.index t = ![(bat t).val, (til t).val, 0] := by decide +kernel

/-- The padded residual stream as the call finds them: past the 112 front rows they are the argument. -/
theorem stream_entry (c : Dev nD) (b : Fin 4) (s : Fin 8320) (s' : Fin 8208) (h : s.val = 112 + s'.val) (j : Fin 1024) :
    V m c main_v3 (ix3 b s j) = m ((c : Thread nD τ).loc main_arg0) (ix3 b s' j) := by
  unfold V
  simp only [hostOps0, hostOps0_1, hostOps0_2, hostOps0_3, hostOps0_4, hostOps0_5, hostOps0_6, List.flatten_cons,
    List.flatten_nil, List.append_nil, List.cons_append, List.nil_append]
  after_reads_at
  rw [dif_pos (by omega)]
  have key : ∀ x : Fin 8208, x.val = s.val - 112 → m ((c : Thread nD τ).loc main_arg0) (ix3 b x j) = m ((c : Thread nD τ).loc main_arg0) (ix3 b s' j) :=
    fun x hx => by rw [show x = s' from Fin.ext (by omega)]
  exact key _ rfl

/-- The padded attention heads' outputs as the call finds them: past the 112 front rows they are the argument. -/
theorem attn_entry (c : Dev nD) (b : Fin 4) (s : Fin 8320) (s' : Fin 8208) (h : s.val = 112 + s'.val) (j : Fin 512) :
    V m c main_v5 (ix3 b s j) = m ((c : Thread nD τ).loc main_arg1) (ix3 b s' j) := by
  unfold V
  simp only [hostOps0, hostOps0_1, hostOps0_2, hostOps0_3, hostOps0_4, hostOps0_5, hostOps0_6, List.flatten_cons,
    List.flatten_nil, List.append_nil, List.cons_append, List.nil_append]
  after_reads_at
  rw [dif_pos (by omega)]
  have key : ∀ x : Fin 8208, x.val = s.val - 112 → m ((c : Thread nD τ).loc main_arg1) (ix3 b x j) = m ((c : Thread nD τ).loc main_arg1) (ix3 b s' j) :=
    fun x hx => by rw [show x = s' from Fin.ext (by omega)]
  exact key _ rfl

/-- The padded recurrent heads' outputs as the call finds them: past the 112 front rows they are the argument. -/
theorem rec_entry (c : Dev nD) (b : Fin 4) (s : Fin 8320) (s' : Fin 8208) (h : s.val = 112 + s'.val) (j : Fin 512) :
    V m c main_v7 (ix3 b s j) = m ((c : Thread nD τ).loc main_arg2) (ix3 b s' j) := by
  unfold V
  simp only [hostOps0, hostOps0_1, hostOps0_2, hostOps0_3, hostOps0_4, hostOps0_5, hostOps0_6, List.flatten_cons,
    List.flatten_nil, List.append_nil, List.cons_append, List.nil_append]
  after_reads_at
  rw [dif_pos (by omega)]
  have key : ∀ x : Fin 8208, x.val = s.val - 112 → m ((c : Thread nD τ).loc main_arg2) (ix3 b x j) = m ((c : Thread nD τ).loc main_arg2) (ix3 b s' j) :=
    fun x hx => by rw [show x = s' from Fin.ext (by omega)]
  exact key _ rfl

/-- The output projection's weights as the call finds them are the argument. -/
theorem wout_entry (c : Dev nD) (l : Fin 2) (k : Fin 1024) (j : Fin 1024) :
    V m c main_v0 (ix3 l k j) = m ((c : Thread nD τ).loc main_arg3) (ix3 l k j) := by
  unfold V
  simp only [hostOps0, hostOps0_1, hostOps0_2, hostOps0_3, hostOps0_4, hostOps0_5, hostOps0_6, List.flatten_cons,
    List.flatten_nil, List.append_nil, List.cons_append, List.nil_append]
  after_reads_at

/-- The gate and up weights as the call finds them are the argument. -/
theorem wgu_entry (c : Dev nD) (l : Fin 2) (k : Fin 1024) (j : Fin 5632) :
    V m c main_v1 (ix3 l k j) = m ((c : Thread nD τ).loc main_arg5) (ix3 l k j) := by
  unfold V
  simp only [hostOps0, hostOps0_1, hostOps0_2, hostOps0_3, hostOps0_4, hostOps0_5, hostOps0_6, List.flatten_cons,
    List.flatten_nil, List.append_nil, List.cons_append, List.nil_append]
  after_reads_at

/-- The down projection's weights as the call finds them are the argument. -/
theorem wd_entry (c : Dev nD) (l : Fin 2) (k : Fin 2816) (j : Fin 1024) :
    V m c main_v2 (ix3 l k j) = m ((c : Thread nD τ).loc main_arg6) (ix3 l k j) := by
  unfold V
  simp only [hostOps0, hostOps0_1, hostOps0_2, hostOps0_3, hostOps0_4, hostOps0_5, hostOps0_6, List.flatten_cons,
    List.flatten_nil, List.append_nil, List.cons_append, List.nil_append]
  after_reads_at

/-- The norm's gains as the call finds them are the last layer's row of the argument. -/
theorem gain_entry (c : Dev nD) (j : Fin 1024) :
    V m c main_v10 (ix2 0 j) = m ((c : Thread nD τ).loc main_arg4) (ix2 1 j) := by
  unfold V
  simp only [hostOps0, hostOps0_1, hostOps0_2, hostOps0_3, hostOps0_4, hostOps0_5, hostOps0_6, List.flatten_cons,
    List.flatten_nil, List.append_nil, List.cons_append, List.nil_append]
  after_reads_at

/-- The residual block is the argument past the meta tokens. -/
theorem block0 (c : Dev nD) (t : Fin cfg0.N) (r : Fin 512) (j : Fin 1024) :
    iblk m c 0 t (ix3 0 r j) = m ((c : Thread nD τ).loc main_arg0) (ix3 (bat t) ⟨16 + 512 * (til t).val + r.val, by omega⟩ j) := by
  refine Eq.trans ?_ (stream_entry m c (bat t) ⟨128 + 512 * (til t).val + r.val, by omega⟩ ⟨16 + 512 * (til t).val + r.val, by omega⟩ (by simp only; omega) j)
  blk_simp [iblk]
  refine congrArg (V m c _) (funext fun a => Fin.ext ?_)
  refine (Pipeline.Window.rect_emb_val_off win0_0 t _ a).trans ?_
  fin_cases a <;> simp [index0 t]

/-- The attention group's block is the argument past the meta tokens. -/
theorem block1 (c : Dev nD) (t : Fin cfg0.N) (r : Fin 512) (j : Fin 512) :
    iblk m c 1 t (ix3 0 r j) = m ((c : Thread nD τ).loc main_arg1) (ix3 (bat t) ⟨16 + 512 * (til t).val + r.val, by omega⟩ j) := by
  refine Eq.trans ?_ (attn_entry m c (bat t) ⟨128 + 512 * (til t).val + r.val, by omega⟩ ⟨16 + 512 * (til t).val + r.val, by omega⟩ (by simp only; omega) j)
  blk_simp [iblk]
  refine congrArg (V m c _) (funext fun a => Fin.ext ?_)
  refine (Pipeline.Window.rect_emb_val_off win0_1 t _ a).trans ?_
  fin_cases a <;> simp [index1 t]

/-- The recurrent group's block is the argument past the meta tokens. -/
theorem block2 (c : Dev nD) (t : Fin cfg0.N) (r : Fin 512) (j : Fin 512) :
    iblk m c 2 t (ix3 0 r j) = m ((c : Thread nD τ).loc main_arg2) (ix3 (bat t) ⟨16 + 512 * (til t).val + r.val, by omega⟩ j) := by
  refine Eq.trans ?_ (rec_entry m c (bat t) ⟨128 + 512 * (til t).val + r.val, by omega⟩ ⟨16 + 512 * (til t).val + r.val, by omega⟩ (by simp only; omega) j)
  blk_simp [iblk]
  refine congrArg (V m c _) (funext fun a => Fin.ext ?_)
  refine (Pipeline.Window.rect_emb_val_off win0_2 t _ a).trans ?_
  fin_cases a <;> simp [index2 t]

/-- The weights' block is the last layer's weights. -/
theorem block3 (c : Dev nD) (t : Fin cfg0.N) (r : Fin 1024) (j : Fin 1024) :
    iblk m c 3 t (ix3 0 r j) = m ((c : Thread nD τ).loc main_arg3) (ix3 1 r j) := by
  refine Eq.trans ?_ (wout_entry m c 1 r j)
  blk_ext [iblk, index3 t]

/-- The weights' block is the last layer's weights. -/
theorem block5 (c : Dev nD) (t : Fin cfg0.N) (r : Fin 1024) (j : Fin 5632) :
    iblk m c 5 t (ix3 0 r j) = m ((c : Thread nD τ).loc main_arg5) (ix3 1 r j) := by
  refine Eq.trans ?_ (wgu_entry m c 1 r j)
  blk_ext [iblk, index5 t]

/-- The weights' block is the last layer's weights. -/
theorem block6 (c : Dev nD) (t : Fin cfg0.N) (r : Fin 2816) (j : Fin 1024) :
    iblk m c 6 t (ix3 0 r j) = m ((c : Thread nD τ).loc main_arg6) (ix3 1 r j) := by
  refine Eq.trans ?_ (wd_entry m c 1 r j)
  blk_ext [iblk, index6 t]

/-- The gains' block is the last layer's gains. -/
theorem block4 (c : Dev nD) (t : Fin cfg0.N) (j : Fin 1024) :
    iblk m c 4 t (ix2 0 j) = m ((c : Thread nD τ).loc main_arg4) (ix2 1 j) := by
  refine Eq.trans ?_ (gain_entry m c j)
  blk_ext [iblk, index4 t]

/-- What a grid point stores, read at a row and a channel: the last layer's arithmetic at the row of the array. -/
theorem stored (c : Dev nD) (t : Fin cfg0.N) (r : Fin 512) (j : Fin 1024) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (ix3 0 r j)
      = Result.layer 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (bat t) ⟨16 + 512 * (til t).val + r.val, by omega⟩ j := by
  rw [out_eq]
  pointwise
  rw [Vec.body_apply]
  pointwise
  unfold Result.layer
  simp only [block0, block1, block2, block3, block4, block5, block6]

/-- The same at any place of the stored block. -/
theorem stored_at (c : Dev nD) (t : Fin cfg0.N) (y : S1x512x1024.Idx) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) y
      = Result.layer 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (bat t) ⟨16 + 512 * (til t).val + (y 1).val, by have := (y 1).isLt; change (y 1).val < 512 at this; omega⟩ (y 2) := by
  have h0 : y 0 = (0 : Fin 1) := Subsingleton.elim (α := Fin 1) _ _
  have hy : ix3 (0 : Fin 1) (y 1) (y 2) = y := ((ValueIdx.eq_ix3 y).trans (by rw [h0]; rfl)).symm
  have h := stored m c t (y 1) (y 2)
  exact (congrArg _ hy).symm.trans h

/-- The whole result: the last layer's arithmetic at each row past the meta tokens. -/
theorem result_eq (c : Dev nD) : (dats m 0 c).arrAt 7 cfg0.N = fun y : S4x8192x1024.Idx =>
    Result.layer 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (y 0) ⟨16 + (y 1).val, by have := (y 1).isLt; change (y 1).val < 8192 at this; omega⟩ (y 2) := by
  refine (dats m 0 c).arrAt_eq_of_covers 7 _ (by decide +kernel) fun t hf y => ?_
  change (dats m 0 c).flushed 7 t y = _
  rw [Value.flushed7_A]
  refine (stored_at m c t y).trans (Result.layer_at ?_ ?_ ?_)
  · blk_simp [index7 t]
  · blk_simp [index7 t]
    show 16 + 512 * (til t).val + (y 1).val = 16 + ((til t).val * 512 + (y 1).val)
    omega
  · blk_simp [index7 t]

end Cert.Last

end
-- ==== Proof.Ref.lean ====
/- What the reference computes, read at a row and a channel: the row functions of its arrays. The host operations are
   named here over one layer's weights, so that the statements serve any layer. -/
module

public import proofs.«01_k».proof.Proof.Result
public import proofs.«01_k».proof.Proof.Gen.ReferenceIdeal.Read
public import Idealize.ShloMosaic.Lib.Pointwise

@[expose] public section

noncomputable section

namespace Cert.Ref

open Cert.ReferenceIdeal Cert.ReferenceIdeal.Gen Idealize.ShloMosaic Idealize.ShloMosaic.TcCoe Idealize.SL.Sem
open scoped BigOperators

variable {F : FTy → Type} [FloatOps F]

/-- The residual stream after the mixing heads: the heads' outputs side by side through the output projection. -/
def mid (h : Vec F S4x8208x1024 .f32) (o p : Vec F S4x8208x512 .f32) (w : Vec F S1024x1024 .f32) : Vec F S4x8208x1024 .f32 :=
  addf h (Host.dotGeneral dot_S4x8208x1024_S1024x1024_S4x8208x1024_2_0_01_1_n_n none
    (concatenate S4x8208x1024 2 [⟨S4x8208x512, o⟩, ⟨S4x8208x512, p⟩] concatenates_S4x8208x512_S4x8208x512_S4x8208x1024_d2) w)

/-- The root-mean-square normalisation of every row, with its gains. -/
def norm (x : Vec F S4x8208x1024 .f32) (g : Vec F S1024 .f32) : Vec F S4x8208x1024 .f32 :=
  mulf (mulf x (broadcastInDim S4x8208x1024 ![0, 1, 2] bcast_S4x8208x1_S4x8208x1024_0_1_2
      (Host.rsqrt (addf (Host.divf (broadcastInDim S4x8208x1 ![0, 1] bcast_S4x8208_S4x8208x1_0_1
          (Host.reduceAdd (mulf x x) (constant S_ .f32 0x00000000#32) reducesTo_S4x8208x1024_S4x8208_d2 h_S_))
          (broadcastInDim S4x8208x1 ![] bcast_S_S4x8208x1 (constant S_ .f32 0x44800000#32)))
        (broadcastInDim S4x8208x1 ![] bcast_S_S4x8208x1 (constant S_ .f32 0x358637BD#32))))))
    (broadcastInDim S4x8208x1024 ![0, 1, 2] bcast_S1x1x1024_S4x8208x1024_0_1_2 (broadcastInDim S1x1x1024 ![2] bcast_S1024_S1x1x1024_2 g))

/-- The hidden channels: the gate half of the projection through SiLU, times its up half. -/
def chan (u : Vec F S4x8208x5632 .f32) : Vec F S4x8208x2816 .f32 :=
  mulf (mulf (extractStridedSlice S4x8208x2816 ![0, 0, 0] u slices_S4x8208x5632_S4x8208x2816_0_0_0)
      (Host.divf (broadcastInDim S4x8208x2816 ![] bcast_S_S4x8208x2816 (constant S_ .f32 0x3F800000#32))
        (addf (broadcastInDim S4x8208x2816 ![] bcast_S_S4x8208x2816 (constant S_ .f32 0x3F800000#32))
          (Host.exp (Host.negf (extractStridedSlice S4x8208x2816 ![0, 0, 0] u slices_S4x8208x5632_S4x8208x2816_0_0_0))))))
    (extractStridedSlice S4x8208x2816 ![0, 0, 2816] u slices_S4x8208x5632_S4x8208x2816_0_0_2816)

/-- The whole layer over one layer's weights. -/
def out (h : Vec F S4x8208x1024 .f32) (o p : Vec F S4x8208x512 .f32) (w : Vec F S1024x1024 .f32) (g : Vec F S1024 .f32)
    (wgu : Vec F S1024x5632 .f32) (wd : Vec F S2816x1024 .f32) : Vec F S4x8208x1024 .f32 :=
  addf (mid h o p w) (Host.dotGeneral dot_S4x8208x2816_S2816x1024_S4x8208x1024_2_0_01_1_n_n none
    (chan (Host.dotGeneral dot_S4x8208x1024_S1024x5632_S4x8208x5632_2_0_01_1_n_n none (norm (mid h o p w) g) wgu)) wd)

/-- The stream after the mixing heads, at an element. -/
theorem mid_apply (h : Vec Ideal S4x8208x1024 .f32) (o p : Vec Ideal S4x8208x512 .f32) (w : Vec Ideal S1024x1024 .f32)
    (b : Fin 4) (s : Fin 8208) (j : Fin 1024) : mid h o p w (ix3 b s j)
      = Row.mixed (fun k => h (ix3 b s k)) (fun k => o (ix3 b s k)) (fun k => p (ix3 b s k)) (fun k j => w (ix2 k j)) j := by
  unfold mid
  pointwise
  exact (add_assoc _ _ _).symm

/-- The normalisation at an element. -/
theorem norm_apply (x : Vec Ideal S4x8208x1024 .f32) (g : Vec Ideal S1024 .f32)
    (b : Fin 4) (s : Fin 8208) (j : Fin 1024) : norm x g (ix3 b s j)
      = Row.normed (fun k => x (ix3 b s k)) (fun k => g (ix1 k)) j := by
  unfold norm
  pointwise
  rfl

/-- A hidden channel at an element. -/
theorem chan_apply (u : Vec Ideal S4x8208x5632 .f32)
    (b : Fin 4) (s : Fin 8208) (c : Fin 2816) : chan u (ix3 b s c)
      = u (ix3 b s ⟨c.val, by omega⟩) * Ideal.logistic (u (ix3 b s ⟨c.val, by omega⟩)) * u (ix3 b s ⟨2816 + c.val, by omega⟩) := by
  unfold chan
  pointwise
  rfl

/-- The layer's result at an element is the row function of its arrays. -/
theorem out_apply (h : Vec Ideal S4x8208x1024 .f32) (o p : Vec Ideal S4x8208x512 .f32) (w : Vec Ideal S1024x1024 .f32) (g : Vec Ideal S1024 .f32)
    (wgu : Vec Ideal S1024x5632 .f32) (wd : Vec Ideal S2816x1024 .f32) (b : Fin 4) (s : Fin 8208) (j : Fin 1024) : out h o p w g wgu wd (ix3 b s j)
      = Row.mixer (Row.mixed (fun k => h (ix3 b s k)) (fun k => o (ix3 b s k)) (fun k => p (ix3 b s k)) (fun k j => w (ix2 k j)))
        (fun k => g (ix1 k)) (fun k c => wgu (ix2 k c)) (fun c j => wd (ix2 c j)) j := by
  unfold out
  pointwise
  simp only [chan_apply]
  pointwise
  simp only [norm_apply, mid_apply]
  rfl

/-- The reference's result is the layer over the last layer's weights, its rows past the meta tokens. -/
theorem value_eq (x0 : Vec F S4x8208x1024 .f32) (x1 x2 : Vec F S4x8208x512 .f32) (x3 : Vec F S2x1024x1024 .f32) (x4 : Vec F S2x1024 .f32)
    (x5 : Vec F S2x1024x5632 .f32) (x6 : Vec F S2x2816x1024 .f32) : Read.val_main_v31 x0 x1 x2 x3 x4 x5 x6
      = extractStridedSlice S4x8192x1024 ![0, 16, 0] (out x0 x1 x2
        (shapeCast S1024x1024 (extractStridedSlice S1x1024x1024 ![1, 0, 0] x3 slices_S2x1024x1024_S1x1024x1024_1_0_0) shapeCasts_S1x1024x1024_S1024x1024)
        (shapeCast S1024 (extractStridedSlice S1x1024 ![1, 0] x4 slices_S2x1024_S1x1024_1_0) shapeCasts_S1x1024_S1024)
        (shapeCast S1024x5632 (extractStridedSlice S1x1024x5632 ![1, 0, 0] x5 slices_S2x1024x5632_S1x1024x5632_1_0_0) shapeCasts_S1x1024x5632_S1024x5632)
        (shapeCast S2816x1024 (extractStridedSlice S1x2816x1024 ![1, 0, 0] x6 slices_S2x2816x1024_S1x2816x1024_1_0_0) shapeCasts_S1x2816x1024_S2816x1024))
        slices_S4x8208x1024_S4x8192x1024_0_16_0 := rfl

/-- The reference's result at an element: the last layer's arithmetic at the row past the meta tokens. -/
theorem result_apply (m : (ℓ : Loc nD τ sig) → Buf (Elt Ideal) ℓ) (c : Dev nD) (b : Fin 4) (s : Fin 8192) (j : Fin 1024) :
    Value.res_main_v31 m c (ix3 b s j) = Result.layer 1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) b ⟨16 + s.val, by omega⟩ j := by
  rw [Read.val_main_v31_eq, value_eq]
  pointwise
  rw [out_apply]
  pointwise
  rfl

end Cert.Ref

end
-- ==== Proof.LastClaim.lean ====
/- The last output-and-mixer call and its reference compute the same extended reals. -/
module

public import proofs.«01_k».proof.Proof.Array
public import proofs.«01_k».proof.Proof.Ref
public import proofs.«01_k».proof.Defs
public import Idealize.ShloMosaic.Adequacy
public import Idealize.ShloMosaic.Init

@[expose] public section

noncomputable section

namespace Cert.Last

open Idealize.ShloMosaic Idealize.SL.Sem

/-- The algebraic claim: both runs leave the last layer's arithmetic in their results. -/
theorem algebraic : algebraic_KernelIdeal_ReferenceIdeal := by
  pair_intro
  · run_from Cert.KernelIdeal.Value.run_blocks m g
  · run_from Cert.ReferenceIdeal.Value.run m' g'
    rw [result_eq m c]
    funext y
    obtain ⟨b, s, j, rfl⟩ : ∃ (b : Fin 4) (s : Fin 8192) (j : Fin 1024), y = ix3 b s j := ⟨y 0, y 1, y 2, ValueIdx.eq_ix3 y⟩
    obtain ⟨h0, h1, h2, h3, h4, h5, h6⟩ := hagree c
    refine (Ref.result_apply m' c b s j).trans ?_
    rw [h0, h1, h2, h3, h4, h5, h6]
    rfl

end Cert.Last

end
-- ==== Proof.MidBlock.lean ====
/- What one grid point of the first layer's output-and-mixer call leaves in its result block: the same block function as
   the last layer's call, over blocks of the flattened rows. -/
module

public import proofs.«01_k».proof.Proof.Vec
public import proofs.«01_k».proof.Proof.Gen.Kernel2Ideal.Value

@[expose] public section

noncomputable section

namespace Cert.Mid

open Cert.Kernel2Ideal Cert.Kernel2Ideal.Gen Idealize.ShloMosaic Idealize.ShloMosaic.TcCoe Idealize.SL.Sem
open scoped BigOperators

variable {F : FTy → Type} [FloatOps F]

set_option maxRecDepth 16384 in
set_option maxHeartbeats 2000000 in
/-- The body's stored block: the projected block plus the eleven chunks of the mixer of its normalisation. -/
theorem out_eq (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S512x1024 .f32) (harg8 : arg8.IsWhole)
    (x0 : Vec F S512x1024 .f32) (x1 : Vec F S512x512 .bf16) (x2 : Vec F S512x512 .bf16) (x3 : Vec F S1x1024x1024 .bf16) (x4 : Vec F S1x1024 .f32) (x5 : Vec F S1x1024x5632 .bf16) (x6 : Vec F S1x2816x1024 .bf16) :
    out0_A_7 c i arg1 harg1 arg2 harg2 arg3 harg3 arg4 harg4 arg5 harg5 arg6 harg6 arg7 harg7 arg8 harg8 x0 x1 x2 x3 x4 x5 x6
      = Vec.body x0 x1 x2 x3 x4 x5 x6 := by
  have hz : (![0,0] : Fin 2 → Nat) = fun _ => 0 := funext fun a => by fin_cases a <;> rfl
  have hk : k0_pay2 x0 x1 (View.ld x3 (Rect.unit ![0, 0, 0] S1x512x1024.size inb_S1x1024x1024_S1x512x1024_0_0_0)) x2
      (View.ld x3 (Rect.unit ![0, 512, 0] S1x512x1024.size inb_S1x1024x1024_S1x512x1024_0_512_0))
      = Vec.mid x0 x1 x2 x3 := by
    unfold k0_pay2
    simp only [shapeCast_self]
    rfl
  have hn : ∀ (x : Vec F S512x1024 .f32) (g : Vec F S1x1024 .f32), k0_pay3 x g = Vec.normed x g := fun x g => by
    unfold k0_pay3 Vec.normed
    simp only [shapeCast_self]
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_cons_unit_zero hz]
  rw [View.readCov_unit_zero _ hz]
  simp only [View.readAt_eq_ld, harg1.read_unread, harg2.read_unread, harg3.read_unread, harg4.read_unread, harg5.read_unread, harg6.read_unread, harg7.read_unread]
  have h0 : ∀ h, View.ld (Val := Elt F) (e' := .f32) x0 (Rect.unit ![0, 0] ![512, 1024] h) = x0 := fun h => View.ld_unit_zero (S := S512x1024) hz h x0
  have h1 : ∀ h, View.ld (Val := Elt F) (e' := .bf16) x1 (Rect.unit ![0, 0] ![512, 512] h) = x1 := fun h => View.ld_unit_zero (S := S512x512) hz h x1
  have h2 : ∀ h, View.ld (Val := Elt F) (e' := .bf16) x2 (Rect.unit ![0, 0] ![512, 512] h) = x2 := fun h => View.ld_unit_zero (S := S512x512) hz h x2
  have h4 : ∀ h, View.ld (Val := Elt F) (e' := .f32) x4 (Rect.unit ![0, 0] ![1, 1024] h) = x4 := fun h => View.ld_unit_zero (S := S1x1024) hz h x4
  simp only [h0, h1, h2, h4, hk, hn]
  unfold k0_pay1
  simp only [shapeCast_self]
  rfl

end Cert.Mid

end
-- ==== Proof.MidArray.lean ====
/- What each input block of the first layer's output-and-mixer call holds in terms of the arguments, and so the whole
   result array: the rows of all four batches in one, each batch's under 112 rows of zeros. -/
module

public import proofs.«01_k».proof.Proof.MidBlock
public import proofs.«01_k».proof.Proof.Result
public import Idealize.ShloMosaic.Lib.Claim
public import Idealize.ShloMosaic.Lib.StableHlo.ReadAt
public import Idealize.ShloMosaic.Lib.Pipeline.ValueKit.Point

@[expose] public section

noncomputable section

namespace Cert.Mid

open Cert.Kernel2Ideal Cert.Kernel2Ideal.Gen Idealize.ShloMosaic Idealize.ShloMosaic.TcCoe Idealize.SL.Sem
open scoped BigOperators

variable (m : (ℓ : Loc nD τ sig) → Buf (Elt Ideal) ℓ)

/-- Each grid point's blocks: 512 rows of the flat arrays, and the whole weights of the first layer. -/
theorem index0 : ∀ t : Fin cfg0.N, win0_0.index t = ![t.val, 0] := by decide +kernel
/-- The attention group's rows. -/
theorem index1 : ∀ t : Fin cfg0.N, win0_1.index t = ![t.val, 0] := by decide +kernel
/-- The recurrent group's rows. -/
theorem index2 : ∀ t : Fin cfg0.N, win0_2.index t = ![t.val, 0] := by decide +kernel
/-- The output projection's weights. -/
theorem index3 : ∀ t : Fin cfg0.N, win0_3.index t = ![0, 0, 0] := by decide +kernel
/-- The gains. -/
theorem index4 : ∀ t : Fin cfg0.N, win0_4.index t = ![0, 0] := by decide +kernel
/-- The gate and up weights. -/
theorem index5 : ∀ t : Fin cfg0.N, win0_5.index t = ![0, 0, 0] := by decide +kernel
/-- The down weights. -/
theorem index6 : ∀ t : Fin cfg0.N, win0_6.index t = ![0, 0, 0] := by decide +kernel
/-- The result's rows. -/
theorem index7 : ∀ t : Fin cfg0.N, win0_7.index t = ![t.val, 0] := by decide +kernel

/-- The batch of a flat row. -/
abbrev bat (r : Fin 33280) : Fin 4 := ⟨r.val / 8320, by omega⟩
/-- The row of a flat row within its batch. -/
abbrev row (r : Fin 33280) : Fin 8320 := ⟨r.val % 8320, by omega⟩

/-- The word the rows in front are filled with is zero. -/
theorem zero_word : (FloatOps.sitofp FTy.f32 0#32 : Ideal .f32) = (0 : EReal) := by
  simp [FloatOps.sitofp]

/-- The flattened residual stream as the call finds them: the padded argument. -/
theorem stream_entry (c : Dev nD) (r : Fin 33280) (j : Fin 1024) :
    V m c main_v11 (ix2 r j) = Result.padded (m ((c : Thread nD τ).loc main_arg0)) (bat r) (row r) j := by
  unfold V
  simp only [hostOps0, hostOps0_1, hostOps0_2, hostOps0_3, hostOps0_4, hostOps0_5, hostOps0_6, List.flatten_cons,
    List.flatten_nil, List.append_nil, List.cons_append, List.nil_append]
  after_reads_at
  have hb : r.val / 8320 < 4 := by omega
  have hs : r.val % 8320 - 112 < 8208 := by omega
  unfold Result.padded
  by_cases h : 112 ≤ r.val % 8320
  · rw [dif_pos ⟨hb, h, hs⟩, dif_pos h]
  · rw [dif_neg (fun e => h e.2.1), dif_neg h]
    exact zero_word

/-- The flattened attention heads' outputs as the call finds them: the padded argument. -/
theorem attn_entry (c : Dev nD) (r : Fin 33280) (j : Fin 512) :
    V m c main_v12 (ix2 r j) = Result.padded (m ((c : Thread nD τ).loc main_arg1)) (bat r) (row r) j := by
  unfold V
  simp only [hostOps0, hostOps0_1, hostOps0_2, hostOps0_3, hostOps0_4, hostOps0_5, hostOps0_6, List.flatten_cons,
    List.flatten_nil, List.append_nil, List.cons_append, List.nil_append]
  after_reads_at
  have hb : r.val / 8320 < 4 := by omega
  have hs : r.val % 8320 - 112 < 8208 := by omega
  unfold Result.padded
  by_cases h : 112 ≤ r.val % 8320
  · rw [dif_pos ⟨hb, h, hs⟩, dif_pos h]
  · rw [dif_neg (fun e => h e.2.1), dif_neg h]
    exact zero_word

/-- The flattened recurrent heads' outputs as the call finds them: the padded argument. -/
theorem rec_entry (c : Dev nD) (r : Fin 33280) (j : Fin 512) :
    V m c main_v13 (ix2 r j) = Result.padded (m ((c : Thread nD τ).loc main_arg2)) (bat r) (row r) j := by
  unfold V
  simp only [hostOps0, hostOps0_1, hostOps0_2, hostOps0_3, hostOps0_4, hostOps0_5, hostOps0_6, List.flatten_cons,
    List.flatten_nil, List.append_nil, List.cons_append, List.nil_append]
  after_reads_at
  have hb : r.val / 8320 < 4 := by omega
  have hs : r.val % 8320 - 112 < 8208 := by omega
  unfold Result.padded
  by_cases h : 112 ≤ r.val % 8320
  · rw [dif_pos ⟨hb, h, hs⟩, dif_pos h]
  · rw [dif_neg (fun e => h e.2.1), dif_neg h]
    exact zero_word

/-- The weights as the call finds them are the argument. -/
theorem wout_entry (c : Dev nD) (l : Fin 2) (k : Fin 1024) (j : Fin 1024) :
    V m c main_v0 (ix3 l k j) = m ((c : Thread nD τ).loc main_arg3) (ix3 l k j) := by
  unfold V
  simp only [hostOps0, hostOps0_1, hostOps0_2, hostOps0_3, hostOps0_4, hostOps0_5, hostOps0_6, List.flatten_cons,
    List.flatten_nil, List.append_nil, List.cons_append, List.nil_append]
  after_reads_at

/-- The weights as the call finds them are the argument. -/
theorem wgu_entry (c : Dev nD) (l : Fin 2) (k : Fin 1024) (j : Fin 5632) :
    V m c main_v1 (ix3 l k j) = m ((c : Thread nD τ).loc main_arg5) (ix3 l k j) := by
  unfold V
  simp only [hostOps0, hostOps0_1, hostOps0_2, hostOps0_3, hostOps0_4, hostOps0_5, hostOps0_6, List.flatten_cons,
    List.flatten_nil, List.append_nil, List.cons_append, List.nil_append]
  after_reads_at

/-- The weights as the call finds them are the argument. -/
theorem wd_entry (c : Dev nD) (l : Fin 2) (k : Fin 2816) (j : Fin 1024) :
    V m c main_v2 (ix3 l k j) = m ((c : Thread nD τ).loc main_arg6) (ix3 l k j) := by
  unfold V
  simp only [hostOps0, hostOps0_1, hostOps0_2, hostOps0_3, hostOps0_4, hostOps0_5, hostOps0_6, List.flatten_cons,
    List.flatten_nil, List.append_nil, List.cons_append, List.nil_append]
  after_reads_at

/-- The norm's gains as the call finds them are the first layer's row of the argument. -/
theorem gain_entry (c : Dev nD) (j : Fin 1024) :
    V m c main_v10 (ix2 0 j) = m ((c : Thread nD τ).loc main_arg4) (ix2 0 j) := by
  unfold V
  simp only [hostOps0, hostOps0_1, hostOps0_2, hostOps0_3, hostOps0_4, hostOps0_5, hostOps0_6, List.flatten_cons,
    List.flatten_nil, List.append_nil, List.cons_append, List.nil_append]
  after_reads_at

/-- A block of the flattened rows. -/
theorem block0 (c : Dev nD) (t : Fin cfg0.N) (r : Fin 512) (j : Fin 1024) :
    iblk m c 0 t (ix2 r j) = Result.padded (m ((c : Thread nD τ).loc main_arg0)) (bat ⟨512 * t.val + r.val, by have : t.val < 65 := t.isLt; omega⟩)
      (row ⟨512 * t.val + r.val, by have : t.val < 65 := t.isLt; omega⟩) j := by
  refine Eq.trans ?_ (stream_entry m c ⟨512 * t.val + r.val, by have : t.val < 65 := t.isLt; omega⟩ j)
  blk_ext [iblk, index0 t]

/-- A block of the flattened rows. -/
theorem block1 (c : Dev nD) (t : Fin cfg0.N) (r : Fin 512) (j : Fin 512) :
    iblk m c 1 t (ix2 r j) = Result.padded (m ((c : Thread nD τ).loc main_arg1)) (bat ⟨512 * t.val + r.val, by have : t.val < 65 := t.isLt; omega⟩)
      (row ⟨512 * t.val + r.val, by have : t.val < 65 := t.isLt; omega⟩) j := by
  refine Eq.trans ?_ (attn_entry m c ⟨512 * t.val + r.val, by have : t.val < 65 := t.isLt; omega⟩ j)
  blk_ext [iblk, index1 t]

/-- A block of the flattened rows. -/
theorem block2 (c : Dev nD) (t : Fin cfg0.N) (r : Fin 512) (j : Fin 512) :
    iblk m c 2 t (ix2 r j) = Result.padded (m ((c : Thread nD τ).loc main_arg2)) (bat ⟨512 * t.val + r.val, by have : t.val < 65 := t.isLt; omega⟩)
      (row ⟨512 * t.val + r.val, by have : t.val < 65 := t.isLt; omega⟩) j := by
  refine Eq.trans ?_ (rec_entry m c ⟨512 * t.val + r.val, by have : t.val < 65 := t.isLt; omega⟩ j)
  blk_ext [iblk, index2 t]

/-- The weights' block is the first layer's weights. -/
theorem block3 (c : Dev nD) (t : Fin cfg0.N) (r : Fin 1024) (j : Fin 1024) :
    iblk m c 3 t (ix3 0 r j) = m ((c : Thread nD τ).loc main_arg3) (ix3 0 r j) := by
  refine Eq.trans ?_ (wout_entry m c 0 r j)
  blk_ext [iblk, index3 t]

/-- The weights' block is the first layer's weights. -/
theorem block5 (c : Dev nD) (t : Fin cfg0.N) (r : Fin 1024) (j : Fin 5632) :
    iblk m c 5 t (ix3 0 r j) = m ((c : Thread nD τ).loc main_arg5) (ix3 0 r j) := by
  refine Eq.trans ?_ (wgu_entry m c 0 r j)
  blk_ext [iblk, index5 t]

/-- The weights' block is the first layer's weights. -/
theorem block6 (c : Dev nD) (t : Fin cfg0.N) (r : Fin 2816) (j : Fin 1024) :
    iblk m c 6 t (ix3 0 r j) = m ((c : Thread nD τ).loc main_arg6) (ix3 0 r j) := by
  refine Eq.trans ?_ (wd_entry m c 0 r j)
  blk_ext [iblk, index6 t]

/-- The gains' block is the first layer's gains. -/
theorem block4 (c : Dev nD) (t : Fin cfg0.N) (j : Fin 1024) :
    iblk m c 4 t (ix2 0 j) = m ((c : Thread nD τ).loc main_arg4) (ix2 0 j) := by
  refine Eq.trans ?_ (gain_entry m c j)
  blk_ext [iblk, index4 t]

/-- What a grid point stores, read at a row and a channel: the first layer's arithmetic at that flat row. -/
theorem stored (c : Dev nD) (t : Fin cfg0.N) (r : Fin 512) (j : Fin 1024) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (ix2 r j)
      = Result.paddedLayer 0 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (bat ⟨512 * t.val + r.val, by have : t.val < 65 := t.isLt; omega⟩)
      (row ⟨512 * t.val + r.val, by have : t.val < 65 := t.isLt; omega⟩) j := by
  rw [out_eq, Vec.body_apply]
  unfold Result.paddedLayer
  simp only [block0, block1, block2, block3, block4, block5, block6]

/-- The whole result: the first layer's arithmetic at each flat row. -/
theorem result_eq (c : Dev nD) : (dats m 0 c).arrAt 7 cfg0.N = fun y : S33280x1024.Idx =>
    Result.paddedLayer 0 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (bat (y 0)) (row (y 0)) (y 1) := by
  refine (dats m 0 c).arrAt_eq_of_covers 7 _ (by decide +kernel) fun t hf y => ?_
  change (dats m 0 c).flushed 7 t y = _
  rw [Value.flushed7_A]
  have h := stored m c t (y 0) (y 1)
  have hy : ix2 (y 0) (y 1) = y := (ValueIdx.eq_ix2 y).symm
  have he : 512 * t.val + (y 0).val = ((win0_7.blk t).view.emb y 0).val := by
    blk_simp [index7 t]
    omega
  refine ((congrArg _ hy).symm.trans h).trans (Result.paddedLayer_at ?_ ?_ ?_)
  · exact congrArg (· / 8320) he
  · exact congrArg (· % 8320) he
  · blk_simp [index7 t]

end Cert.Mid

end
-- ==== Proof.MidRef.lean ====
/- The first layer's reference, read at a flat row and a channel: the layer of that row, or zero before the rows begin. -/
module

public import proofs.«01_k».proof.Proof.Ref
public import proofs.«01_k».proof.Proof.MidArray
public import proofs.«01_k».proof.Proof.Gen.Reference2Ideal.Read

@[expose] public section

noncomputable section

namespace Cert.MidRef

open Cert.Reference2Ideal Cert.Reference2Ideal.Gen Idealize.ShloMosaic Idealize.ShloMosaic.TcCoe Idealize.SL.Sem
open scoped BigOperators

variable {F : FTy → Type} [FloatOps F]

/-- The reference's layer, before the rows in front, is the layer over the first layer's weights. -/
theorem value_eq (x0 : Vec F S4x8208x1024 .f32) (x1 x2 : Vec F S4x8208x512 .f32) (x3 : Vec F S2x1024x1024 .f32) (x4 : Vec F S2x1024 .f32)
    (x5 : Vec F S2x1024x5632 .f32) (x6 : Vec F S2x2816x1024 .f32) : Read.val_main_v30 x0 x1 x2 x3 x4 x5 x6
      = Ref.out x0 x1 x2
        (shapeCast S1024x1024 (extractStridedSlice S1x1024x1024 ![0, 0, 0] x3 slices_S2x1024x1024_S1x1024x1024_0_0_0) shapeCasts_S1x1024x1024_S1024x1024)
        (shapeCast S1024 (extractStridedSlice S1x1024 ![0, 0] x4 slices_S2x1024_S1x1024_0_0) shapeCasts_S1x1024_S1024)
        (shapeCast S1024x5632 (extractStridedSlice S1x1024x5632 ![0, 0, 0] x5 slices_S2x1024x5632_S1x1024x5632_0_0_0) shapeCasts_S1x1024x5632_S1024x5632)
        (shapeCast S2816x1024 (extractStridedSlice S1x2816x1024 ![0, 0, 0] x6 slices_S2x2816x1024_S1x2816x1024_0_0_0) shapeCasts_S1x2816x1024_S2816x1024) := rfl

/-- The reference's layer at an element, before the rows in front. -/
theorem layer_apply (x0 : Vec Ideal S4x8208x1024 .f32) (x1 x2 : Vec Ideal S4x8208x512 .f32) (x3 : Vec Ideal S2x1024x1024 .f32) (x4 : Vec Ideal S2x1024 .f32)
    (x5 : Vec Ideal S2x1024x5632 .f32) (x6 : Vec Ideal S2x2816x1024 .f32) (b : Fin 4) (s : Fin 8208) (j : Fin 1024) :
    Read.val_main_v30 x0 x1 x2 x3 x4 x5 x6 (ix3 b s j) = Result.layer 0 x0 x1 x2 x3 x4 x5 x6 b s j := by
  rw [value_eq, Ref.out_apply]
  pointwise
  rfl

/-- The reference's result at a flat row: the layer of the row, or zero. -/
theorem result_apply (m : (ℓ : Loc nD τ sig) → Buf (Elt Ideal) ℓ) (c : Dev nD) (r : Fin 33280) (j : Fin 1024) :
    Value.res_main_v32 m c (ix2 r j) = Result.paddedLayer 0 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (Mid.bat r) (Mid.row r) j := by
  rw [Read.val_main_v32_eq, Result.paddedLayer_eq]
  unfold Read.val_main_v32 Read.val_main_v31
  generalize hx : Read.val_main_v30 (F := Ideal) _ _ _ _ _ _ _ = x
  pointwise
  have hb : r.val / 8320 < 4 := by omega
  have hs : r.val % 8320 - 112 < 8208 := by omega
  by_cases h : 112 ≤ r.val % 8320
  · rw [dif_pos ⟨hb, h, hs⟩, dif_pos h, ← hx]
    exact layer_apply _ _ _ _ _ _ _ _ _ _
  · rw [dif_neg (fun e => h e.2.1), dif_neg h]
    exact Mid.zero_word

end Cert.MidRef

end
-- ==== Proof.MidClaim.lean ====
/- The first layer's output-and-mixer call and its reference compute the same extended reals. -/
module

public import proofs.«01_k».proof.Proof.MidArray
public import proofs.«01_k».proof.Proof.MidRef
public import proofs.«01_k».proof.Defs
public import Idealize.ShloMosaic.Adequacy
public import Idealize.ShloMosaic.Init

@[expose] public section

noncomputable section

namespace Cert.Mid

open Idealize.ShloMosaic Idealize.SL.Sem

/-- The algebraic claim: both runs leave the first layer's arithmetic over the padded rows in their results. -/
theorem algebraic : algebraic_Kernel2Ideal_Reference2Ideal := by
  pair_intro
  · run_from Cert.Kernel2Ideal.Value.run_blocks m g
  · run_from Cert.Reference2Ideal.Value.run m' g'
    rw [result_eq m c]
    funext y
    obtain ⟨r, j, rfl⟩ : ∃ (r : Fin 33280) (j : Fin 1024), y = ix2 r j := ⟨y 0, y 1, ValueIdx.eq_ix2 y⟩
    obtain ⟨h0, h1, h2, h3, h4, h5, h6⟩ := hagree c
    refine (MidRef.result_apply m' c r j).trans ?_
    rw [h0, h1, h2, h3, h4, h5, h6]
    rfl

end Cert.Mid

end
-- ==== Proof.InRow.lean ====
/- One token's row through the input projection, over the extended reals: the normalisation with its mask, the five
   groups of 512 projected columns, the normalisation of each head's half and its rotation. The kernel's block and
   the reference are both read as these functions. -/
module

public import proofs.«01_k».proof.Proof.Row

@[expose] public section

noncomputable section

namespace Cert.InRow

open Idealize.ShloMosaic
open scoped BigOperators

/-- A column of the projected row. -/
def proj (n : Fin 1024 → EReal) (w : Fin 1024 → Fin 2560 → EReal) (c : Fin 2560) : EReal := ∑ k : Fin 1024, n k * w k c

/-- The mean square of the 64 channels that channel `c` is among. -/
def meanSq (z : Fin 512 → EReal) (c : Fin 512) : EReal :=
  Ideal.div (∑ e : Fin 64, z ⟨64 * (c.val / 64) + e.val, by omega⟩ * z ⟨64 * (c.val / 64) + e.val, by omega⟩) (Ideal.ofBits .f32 0x42800000#32)

/-- RMS normalisation within groups of 64 channels, every group with the same 64 gains. -/
def headNorm (z : Fin 512 → EReal) (g : Fin 64 → EReal) (c : Fin 512) : EReal :=
  z c * Ideal.rsqrt (meanSq z c + Ideal.ofBits .f32 0x358637BD#32) * g ⟨c.val % 64, by omega⟩

/-- The rotation of the first 16 channels of every group of 64 by eight angles. -/
def rope (u : Fin 512 → EReal) (co si : Fin 8 → EReal) (c : Fin 512) : EReal :=
  if c.val % 64 < 8 then u c * co ⟨c.val % 8, by omega⟩ - u ⟨(c.val + 8) % 512, by omega⟩ * si ⟨c.val % 8, by omega⟩
  else if c.val % 64 < 16 then u c * co ⟨c.val % 8, by omega⟩ + u ⟨c.val - 8, by omega⟩ * si ⟨c.val % 8, by omega⟩
  else u c

/-- The turn of frequency `e` at the position a word holds. -/
def turn (p : BitVec 32) (e : Fin 8) : EReal :=
  FloatOps.sitofp (F := Ideal) .f32 p * Ideal.pow (Ideal.ofBits .f32 0x48F42400#32)
    (Ideal.div (-(Ideal.ofBits .f32 0x40000000#32 * FloatOps.sitofp (F := Ideal) .f32 (BitVec.ofNat 32 e.val)))
      (Ideal.ofBits .f32 0x41800000#32))

/-- The query scale: a positive finite number. -/
def qScale : EReal := Ideal.ofBits .f32 0x3E38AA3B#32

/-- The query scale is finite and not negative. -/
theorem qScale_spec : 0 ≤ qScale ∧ qScale ≠ ⊤ := by
  unfold qScale
  have h : Ideal.ofBits .f32 0x3E38AA3B#32 = (((12102203 : ℝ) * (2 : ℝ) ^ (-26 : ℤ) : ℝ) : EReal) := by
    simp [Ideal.ofBits, Ideal.ieee, -EReal.coe_mul]
  rw [h]
  exact ⟨EReal.coe_nonneg.mpr (by positivity), EReal.coe_ne_top _⟩

/-- The weight of a channel in its group's mean is the reciprocal of the group's size. -/
theorem div_64 (x : EReal) : Ideal.div x (Ideal.ofBits .f32 0x42800000#32) = x * Ideal.ofBits .f32 0x3C800000#32 := by
  have h : Ideal.ofBits .f32 0x42800000#32 = ((64 : ℝ) : EReal) := by
    simp [Ideal.ofBits, Ideal.ieee, -EReal.coe_mul]; norm_num
  have h' : Ideal.ofBits .f32 0x3C800000#32 = ((1 / 64 : ℝ) : EReal) := by
    simp [Ideal.ofBits, Ideal.ieee, -EReal.coe_mul]; norm_num
  rw [h, h', Ideal.div_coe (by norm_num)]

/-- A constant factor comes out of a sum of numbers that are not negative. -/
theorem sum_mul_of_nonneg {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg (hf a) (Finset.sum_nonneg fun i _ => hf i)]

/-- A square is not negative. -/
theorem sq_nonneg (x : EReal) : 0 ≤ x * x := by
  rcases le_total 0 x with h | h
  · exact EReal.mul_nonneg h h
  · rw [← neg_mul_neg]
    exact EReal.mul_nonneg (by simpa using h) (by simpa using h)

/-- The weighted sum of 256 squares in which only one group of 64 has a weight is that group's mean. -/
theorem sum_group (z : Fin 256 → EReal) (j : Fin 256) (w : Fin 256 → EReal)
    (hw : ∀ k : Fin 256, w k = if k.val / 64 = j.val / 64 then Ideal.ofBits .f32 0x3C800000#32 else 0) :
    ∑ k : Fin 256, z k * z k * w k
      = Ideal.div (∑ e : Fin 64, z ⟨64 * (j.val / 64) + e.val, by omega⟩ * z ⟨64 * (j.val / 64) + e.val, by omega⟩) (Ideal.ofBits .f32 0x42800000#32) := by
  rw [div_64, ← sum_mul_of_nonneg _ _ (fun e => sq_nonneg _)]
  have hs : ∀ f : Fin 256 → EReal, ∑ k : Fin 256, f k = ∑ g : Fin 4, ∑ e : Fin 64, f ⟨64 * g.val + e.val, by omega⟩ := fun f => by
    rw [← Fintype.sum_prod_type' (fun (i : Fin 4) (c : Fin 64) => f ⟨64 * i.val + c.val, by omega⟩)]
    refine (Fintype.sum_equiv (finProdFinEquiv (m := 4) (n := 64)) _ _ fun p => ?_).symm
    refine congrArg f (Fin.ext ?_)
    show 64 * p.1.val + p.2.val = p.2.val + 64 * p.1.val
    omega
  rw [hs, Finset.sum_eq_single (⟨j.val / 64, by omega⟩ : Fin 4)]
  · refine Finset.sum_congr rfl fun e _ => ?_
    rw [hw, if_pos (by show (64 * (j.val / 64) + e.val) / 64 = _; omega)]
  · intro g _ hg
    refine Finset.sum_eq_zero fun e _ => ?_
    rw [hw, if_neg (fun h => hg (Fin.ext (by
      have h' : (64 * g.val + e.val) / 64 = j.val / 64 := h
      show g.val = j.val / 64
      omega))), mul_zero]
  · exact fun h => absurd (Finset.mem_univ _) h

/-- The rotation of scaled channels is the scaled rotation. -/
theorem rope_scale (u : Fin 512 → EReal) (co si : Fin 8 → EReal) (c : Fin 512) :
    rope (fun k => u k * qScale) co si c = rope u co si c * qScale := by
  obtain ⟨h0, ht⟩ := qScale_spec
  unfold rope
  split_ifs
  · rw [EReal.sub_mul_of_nonneg_of_ne_top h0 ht, mul_right_comm, mul_right_comm (u _) qScale (si _)]
  · rw [EReal.right_distrib_of_nonneg_of_ne_top h0 ht, mul_right_comm, mul_right_comm (u _) qScale (si _)]
  · rfl

/-- A row of zeros projects to zeros. -/
theorem proj_zero (w : Fin 1024 → Fin 2560 → EReal) (c : Fin 2560) : proj (fun _ => 0) w c = 0 := by
  unfold proj
  simp

/-- Channels that are all zero are normalised to zeros. -/
theorem headNorm_zero (g : Fin 64 → EReal) : headNorm (fun _ => 0) g = fun _ => 0 := by
  funext c
  unfold headNorm
  simp

/-- Channels that are all zero are rotated to zeros. -/
theorem rope_zero (co si : Fin 8 → EReal) : rope (fun _ => 0) co si = fun _ => 0 := by
  funext c
  unfold rope
  simp

end Cert.InRow

end
-- ==== Proof.InVec.lean ====
/- The arithmetic of one block of the first input projection's call, as functions of blocks, and their elements. -/
module

public import proofs.«01_k».proof.Proof.InRow
public import Idealize.ShloMosaic.Lib.MatmulPlain
public import Idealize.ShloMosaic.Lib.Pipeline.Value
public import Idealize.ShloMosaic.Lib.Tactic

@[expose] public section

noncomputable section

namespace Cert.InVec

open Idealize.ShloMosaic
open scoped BigOperators

/-- A matrix's shape. -/
abbrev M (a b : Nat) : Shape := ⟨2, ![a, b]⟩
/-- A matrix under a leading axis of size one. -/
abbrev L (a b : Nat) : Shape := ⟨3, ![1, a, b]⟩

/-- The row numbers' shape conditions. -/
theorem iotas : (M 640 1).Iotas .tc 32 [0] := by decide +kernel
/-- Two halves side by side. -/
theorem halves : Shape.Concatenates [M 640 256, M 640 256] (M 640 512) 1 := by decide +kernel
/-- Four quarters side by side. -/
theorem quarters : Shape.Concatenates [M 640 128, M 640 128, M 640 128, M 640 128] (M 640 512) 1 := by decide +kernel
/-- Lanes can be rotated. -/
theorem rotates : (M 640 128).Rotates 1 none := by decide +kernel
/-- The first half. -/
theorem half0 : (M 640 512).Slices ![0, 0] (M 640 256) := by decide +kernel
/-- The second half. -/
theorem half1 : (M 640 512).Slices ![0, 256] (M 640 256) := by decide +kernel
/-- The first quarter. -/
theorem quarter0 : (M 640 512).Slices ![0, 0] (M 640 128) := by decide +kernel
/-- The second quarter. -/
theorem quarter1 : (M 640 512).Slices ![0, 128] (M 640 128) := by decide +kernel
/-- The third quarter. -/
theorem quarter2 : (M 640 512).Slices ![0, 256] (M 640 128) := by decide +kernel
/-- The fourth quarter. -/
theorem quarter3 : (M 640 512).Slices ![0, 384] (M 640 128) := by decide +kernel

variable {F : FTy → Type} [FloatOps F]

/-- RMS normalisation of every row with the gain, zero in the rows before row 112 of the batch, cast to the products' format. -/
def normed (p : BitVec 32) (x : FVec F (L 640 1024) .f32) (g : FVec F (M 1 1024) .f32) : FVec F (M 640 1024) .bf16 :=
  have y : FVec F (M 640 1024) .f32 := shapeCast (M 640 1024) x rfl
  truncf .bf16 (select
    (broadcastTo (M 640 1024) (shapeCast (M 640 1) (cmpi .sge (addi (broadcast (M 640 1) (Scalar.muli p 640#32)) (iota .tc (M 640 1) 32 [0] iotas))
      (broadcast (M 640 1) 112#32)) rfl) (by decide))
    (mulf (mulf y (broadcastTo (M 640 1024)
      (rsqrt (addf (divf (shapeCast (M 640 1) (multiReduction .add [1] ⟨1, ![640]⟩ (mulf y y) 0x00000000#32 (by decide) (.inl rfl) rfl) rfl)
        (broadcast (M 640 1) (Scalar.ofBits .f32 0x44800000#32))) (broadcast (M 640 1) (Scalar.ofBits .f32 0x358637BD#32))))
      (by decide)))
      (broadcastTo (M 640 1024) (shapeCast (M 1 1024) g rfl) (by decide)))
    (broadcast (M 640 1024) (Scalar.ofBits .f32 0x00000000#32))) (by decide)

/-- The block through 512 columns of the weight. -/
def proj (n : FVec F (M 640 1024) .bf16) (w : FVec F (L 1024 512) .bf16) : FVec F (M 640 512) .f32 :=
  matmul (DotDims.plain 640 1024 512) none n (shapeCast (M 1024 512) w rfl) (constant _ .f32 0x00000000#32)

/-- The mean square of the 64 channels around every channel, 256 channels at a time through the weights of a mean. -/
def meanSq (z : FVec F (M 640 512) .f32) (gm : FVec F (M 256 256) .bf16) : FVec F (M 640 512) .f32 :=
  have q : FVec F (M 640 512) .bf16 := truncf .bf16 (mulf z z) (by decide)
  concatenate (M 640 512) 1
    [⟨M 640 256, matmul (DotDims.plain 640 256 256) none (extractStridedSlice (M 640 256) ![0, 0] q half0) (shapeCast (M 256 256) gm rfl) (constant (M 640 256) .f32 0x00000000#32)⟩,
     ⟨M 640 256, matmul (DotDims.plain 640 256 256) none (extractStridedSlice (M 640 256) ![0, 256] q half1) (shapeCast (M 256 256) gm rfl) (constant (M 640 256) .f32 0x00000000#32)⟩] halves

/-- RMS normalisation within the groups of 64 channels. -/
def headNorm (z q : FVec F (M 640 512) .f32) (g : FVec F (M 1 512) .f32) : FVec F (M 640 512) .f32 :=
  mulf (mulf z (rsqrt (addf q (broadcast (M 640 512) (Scalar.ofBits .f32 0x358637BD#32))))) (broadcastTo (M 640 512) (shapeCast (M 1 512) g rfl) (by decide))

/-- 128 channels rotated by their tables. -/
def turn (u : FVec F (M 640 128) .f32) (a b c : FVec F (M 640 128) .f32) : FVec F (M 640 128) .f32 :=
  addf (addf (mulf u a) (mulf (dynamicRotate 1 120#32 none u rotates) b)) (mulf (dynamicRotate 1 8#32 none u rotates) c)

/-- All 512 channels rotated, 128 at a time. -/
def rope (u : FVec F (M 640 512) .f32) (a b c : FVec F (M 640 128) .f32) : FVec F (M 640 512) .f32 :=
  concatenate (M 640 512) 1
    [⟨M 640 128, turn (extractStridedSlice (M 640 128) ![0, 0] u quarter0) a b c⟩,
     ⟨M 640 128, turn (extractStridedSlice (M 640 128) ![0, 128] u quarter1) a b c⟩,
     ⟨M 640 128, turn (extractStridedSlice (M 640 128) ![0, 256] u quarter2) a b c⟩,
     ⟨M 640 128, turn (extractStridedSlice (M 640 128) ![0, 384] u quarter3) a b c⟩] quarters

/-- 512 columns of the weight block. -/
def cols (w : FVec F (L 1024 2560) .bf16) (o : Nat) (h : o + 512 ≤ 2560) : FVec F (L 1024 512) .bf16 :=
  fun y => w (ix3 0 (y 1) ⟨o + (y 2).val, by have : (y 2).val < 512 := (y 2).isLt; omega⟩)

/-- The block of a first tile: 128 rows in front of the first 512 rows of the input. -/
def first (x : FVec F (L 640 1024) .f32) (f : FVec F (M 128 1024) .f32) : FVec F (L 640 1024) .f32 :=
  fun y => if h : (y 1).val < 128 then f (ix2 ⟨(y 1).val, h⟩ (y 2)) else x (ix3 0 ⟨(y 1).val - 128, by have : (y 1).val < 640 := (y 1).isLt; omega⟩ (y 2))

/-- A block can be transposed. -/
theorem transposes : (M 640 512).Transposes [1, 0] (M 512 640) := by decide +kernel

/-- A projected block stored as it is. -/
def plain (n : FVec F (M 640 1024) .bf16) (w : FVec F (L 1024 512) .bf16) : FVec F (L 640 512) .f32 := shapeCast (L 640 512) (proj n w) rfl

/-- The normalised and rotated keys. -/
def keys (n : FVec F (M 640 1024) .bf16) (w : FVec F (L 1024 512) .bf16) (g : FVec F (M 1 512) .f32) (gm : FVec F (M 256 256) .bf16)
    (a b c : FVec F (M 640 128) .f32) : FVec F (L 640 512) .bf16 :=
  shapeCast (L 640 512) (truncf .bf16 (rope (headNorm (proj n w) (meanSq (proj n w) gm) g) a b c) (by decide)) rfl

/-- The normalised, scaled and rotated queries, channels before rows. -/
def queries (n : FVec F (M 640 1024) .bf16) (w : FVec F (L 1024 512) .bf16) (g : FVec F (M 1 512) .f32) (gm : FVec F (M 256 256) .bf16)
    (a b c : FVec F (M 640 128) .f32) : FVec F (L 512 640) .bf16 :=
  shapeCast (L 512 640) (truncf .bf16 (transpose (M 512 640) [1, 0]
    (rope (mulf (headNorm (proj n w) (meanSq (proj n w) gm) g) (broadcast (M 640 512) (Scalar.ofBits .f32 0x3E38AA3B#32))) a b c) transposes) (by decide)) rfl

/-- The values, a head's channels before rows. -/
def values (n : FVec F (M 640 1024) .bf16) (w : FVec F (L 1024 512) .bf16) : FVec F ⟨4, ![1, 4, 128, 640]⟩ .bf16 :=
  fun y => (truncf .bf16 (proj n w) (by decide) : FVec F (M 640 512) .bf16) (ix2 (y 3) ⟨128 * (y 1).val + (y 2).val, by
    have h1 : (y 1).val < 4 := (y 1).isLt
    have h2 : (y 2).val < 128 := (y 2).isLt
    omega⟩)

/-- A normalised block's element. -/
theorem normed_apply (p : BitVec 32) (x : FVec Ideal (L 640 1024) .f32) (g : FVec Ideal (M 1 1024) .f32) (r : Fin 640) (j : Fin 1024) :
    normed p x g (ix2 r j) = Scalar.select (IntOp.cmpi .sge (IntOp.addi (Scalar.muli p 640#32) (BitVec.ofNat 32 r.val)) 112#32)
      (Row.normed (fun k => x (ix3 0 r k)) (fun k => g (ix2 0 k)) j) 0 := by
  unfold normed Row.normed Row.scale
  pointwise

/-- A projected block's element. -/
theorem proj_apply (n : FVec Ideal (M 640 1024) .bf16) (w : FVec Ideal (L 1024 512) .bf16) (r : Fin 640) (j : Fin 512) :
    proj n w (ix2 r j) = ∑ k : Fin 1024, n (ix2 r k) * w (ix3 0 k j) := by
  unfold proj
  pointwise

/-- The mean square's element, where the weights are those of a mean of 64. -/
theorem meanSq_apply (z : FVec Ideal (M 640 512) .f32) (gm : FVec Ideal (M 256 256) .bf16) (r : Fin 640) (j : Fin 512)
    (hg : ∀ k j : Fin 256, gm (ix2 k j) = if k.val / 64 = j.val / 64 then Ideal.ofBits .f32 0x3C800000#32 else 0) :
    meanSq z gm (ix2 r j) = InRow.meanSq (fun k => z (ix2 r k)) j := by
  unfold meanSq
  pointwise
  by_cases h : j.val < 256
  · rw [dif_pos h]
    exact InRow.sum_group (fun k => z (ix2 r ⟨k.val, by omega⟩)) ⟨j.val, h⟩ _ fun k => hg k _
  · rw [dif_neg h]
    refine (InRow.sum_group (fun k => z (ix2 r ⟨256 + k.val, by omega⟩)) ⟨j.val - 256, by omega⟩ _ fun k => hg k _).trans ?_
    unfold InRow.meanSq
    refine congrArg (fun s => Ideal.div s _) (Finset.sum_congr rfl fun e _ => ?_)
    have he : (⟨256 + (64 * ((j.val - 256) / 64) + e.val), by omega⟩ : Fin 512) = ⟨64 * (j.val / 64) + e.val, by omega⟩ :=
      Fin.ext (by show 256 + (64 * ((j.val - 256) / 64) + e.val) = 64 * (j.val / 64) + e.val; omega)
    exact congrArg (fun k => z (ix2 r k) * z (ix2 r k)) he

/-- A normalised block's element, from the mean squares. -/
theorem headNorm_apply (z q : FVec Ideal (M 640 512) .f32) (g : FVec Ideal (M 1 512) .f32) (r : Fin 640) (j : Fin 512) :
    headNorm z q g (ix2 r j) = z (ix2 r j) * Ideal.rsqrt (q (ix2 r j) + Ideal.ofBits .f32 0x358637BD#32) * g (ix2 0 j) := by
  unfold headNorm
  pointwise

/-- A rotated quarter's element. -/
theorem turn_apply (u : FVec Ideal (M 640 128) .f32) (a b c : FVec Ideal (M 640 128) .f32) (r : Fin 640) (j : Fin 128) :
    turn u a b c (ix2 r j) = u (ix2 r j) * a (ix2 r j) + u (ix2 r ⟨(j.val + 8) % 128, by omega⟩) * b (ix2 r j)
      + u (ix2 r ⟨(j.val + 120) % 128, by omega⟩) * c (ix2 r j) := by
  unfold turn
  pointwise
  have h1 : (⟨(j.val + 128 - 120) % 128, by omega⟩ : Fin 128) = ⟨(j.val + 8) % 128, by omega⟩ := Fin.ext (by show (j.val + 128 - 120) % 128 = (j.val + 8) % 128; omega)
  have h2 : (⟨(j.val + 128 - 8) % 128, by omega⟩ : Fin 128) = ⟨(j.val + 120) % 128, by omega⟩ := Fin.ext (by show (j.val + 128 - 8) % 128 = (j.val + 120) % 128; omega)
  exact congrArg₂ (fun i k => u (ix2 r j) * a (ix2 r j) + u (ix2 r i) * b (ix2 r j) + u (ix2 r k) * c (ix2 r j)) h1 h2

/-- A rotated quarter's element, in terms of the whole block. -/
theorem quarter_apply (u : FVec Ideal (M 640 512) .f32) (a b c : FVec Ideal (M 640 128) .f32) (o : Nat) (h : (M 640 512).Slices ![0, o] (M 640 128))
    (r : Fin 640) (j : Fin 512) (d : Fin 128) (hd : j.val = o + d.val) (ho : 128 * (j.val / 128) = o) :
    turn (extractStridedSlice (M 640 128) ![0, o] u h) a b c (ix2 r d)
      = u (ix2 r j) * a (ix2 r ⟨j.val % 128, by omega⟩) + u (ix2 r ⟨128 * (j.val / 128) + (j.val + 8) % 128, by omega⟩) * b (ix2 r ⟨j.val % 128, by omega⟩)
      + u (ix2 r ⟨128 * (j.val / 128) + (j.val + 120) % 128, by omega⟩) * c (ix2 r ⟨j.val % 128, by omega⟩) := by
  have hs : ∀ (e : Fin 128) (k : Fin 512), k.val = o + e.val → extractStridedSlice (M 640 128) ![0, o] u h (ix2 r e) = u (ix2 r k) := fun e k hk => by
    refine congrArg u (funext fun x => Fin.ext ?_)
    match x with
    | ⟨0, _⟩ => exact Nat.zero_add r.val
    | ⟨1, _⟩ => exact hk.symm
  have hj : (⟨j.val % 128, by omega⟩ : Fin 128) = d := Fin.ext (by show j.val % 128 = d.val; omega)
  rw [turn_apply, hs d j hd, hs _ ⟨128 * (j.val / 128) + (j.val + 8) % 128, by omega⟩ (by
      show 128 * (j.val / 128) + (j.val + 8) % 128 = o + (d.val + 8) % 128; omega),
    hs _ ⟨128 * (j.val / 128) + (j.val + 120) % 128, by omega⟩ (by
      show 128 * (j.val / 128) + (j.val + 120) % 128 = o + (d.val + 120) % 128; omega), hj]

/-- The rotated block's element. -/
theorem rope_lane (u : FVec Ideal (M 640 512) .f32) (a b c : FVec Ideal (M 640 128) .f32) (r : Fin 640) (j : Fin 512) :
    rope u a b c (ix2 r j) = u (ix2 r j) * a (ix2 r ⟨j.val % 128, by omega⟩) + u (ix2 r ⟨128 * (j.val / 128) + (j.val + 8) % 128, by omega⟩) * b (ix2 r ⟨j.val % 128, by omega⟩)
      + u (ix2 r ⟨128 * (j.val / 128) + (j.val + 120) % 128, by omega⟩) * c (ix2 r ⟨j.val % 128, by omega⟩) := by
  unfold rope
  pointwise
  by_cases h0 : j.val < 128
  · rw [dif_pos h0]
    exact quarter_apply u a b c 0 _ r j ⟨j.val, h0⟩ (Nat.zero_add _).symm (by omega)
  · rw [dif_neg h0]
    by_cases h1 : j.val - 128 < 128
    · rw [dif_pos h1]
      exact quarter_apply u a b c 128 _ r j ⟨j.val - 128, h1⟩ (by show j.val = 128 + (j.val - 128); omega) (by omega)
    · rw [dif_neg h1]
      by_cases h2 : j.val - 128 - 128 < 128
      · rw [dif_pos h2]
        exact quarter_apply u a b c 256 _ r j ⟨j.val - 128 - 128, h2⟩ (by show j.val = 256 + (j.val - 128 - 128); omega) (by omega)
      · rw [dif_neg h2]
        exact quarter_apply u a b c 384 _ r j ⟨j.val - 128 - 128 - 128, by omega⟩ (by show j.val = 384 + (j.val - 128 - 128 - 128); omega) (by omega)

/-- The rotated block's element is the rotation of its row, where the tables hold the angles' cosines and signed sines. -/
theorem rope_apply (u : FVec Ideal (M 640 512) .f32) (a b c : FVec Ideal (M 640 128) .f32) (r : Fin 640) (j : Fin 512) (co si : Fin 8 → EReal)
    (ha : ∀ d : Fin 128, a (ix2 r d) = if d.val % 64 < 16 then co ⟨d.val % 8, by omega⟩ else 1)
    (hb : ∀ d : Fin 128, b (ix2 r d) = if d.val % 64 < 8 then -si ⟨d.val % 8, by omega⟩ else 0)
    (hc : ∀ d : Fin 128, c (ix2 r d) = if 8 ≤ d.val % 64 ∧ d.val % 64 < 16 then si ⟨d.val % 8, by omega⟩ else 0) :
    rope u a b c (ix2 r j) = InRow.rope (fun k => u (ix2 r k)) co si j := by
  rw [rope_lane, ha, hb, hc]
  have e64 : (⟨j.val % 128, by omega⟩ : Fin 128).val % 64 = j.val % 64 := by show j.val % 128 % 64 = _; omega
  have e8 : (⟨j.val % 128 % 8, by omega⟩ : Fin 8) = ⟨j.val % 8, by omega⟩ := Fin.ext (by show j.val % 128 % 8 = j.val % 8; omega)
  simp only [e64, e8]
  unfold InRow.rope
  by_cases h0 : j.val % 64 < 8
  · have ei : (⟨128 * (j.val / 128) + (j.val + 8) % 128, by omega⟩ : Fin 512) = ⟨(j.val + 8) % 512, by omega⟩ :=
      Fin.ext (by show 128 * (j.val / 128) + (j.val + 8) % 128 = (j.val + 8) % 512; omega)
    rw [if_pos (by omega), if_pos h0, if_neg (by omega), if_pos h0, mul_zero, add_zero, mul_neg, sub_eq_add_neg, ei]
  · by_cases h1 : j.val % 64 < 16
    · have ei : (⟨128 * (j.val / 128) + (j.val + 120) % 128, by omega⟩ : Fin 512) = ⟨j.val - 8, by omega⟩ :=
        Fin.ext (by show 128 * (j.val / 128) + (j.val + 120) % 128 = j.val - 8; omega)
      rw [if_pos h1, if_neg h0, if_pos ⟨by omega, h1⟩, if_neg h0, if_pos h1, mul_zero, add_zero, ei]
    · rw [if_neg h1, if_neg h0, if_neg (by omega), if_neg h0, if_neg h1, mul_zero, mul_zero, add_zero, add_zero, mul_one]

/-- A first tile's element. -/
theorem first_apply (x : FVec Ideal (L 640 1024) .f32) (f : FVec Ideal (M 128 1024) .f32) (r : Fin 640) (j : Fin 1024) :
    first x f (ix3 0 r j) = if h : r.val < 128 then f (ix2 ⟨r.val, h⟩ j) else x (ix3 0 ⟨r.val - 128, by omega⟩ j) := rfl

/-- A plain block's element. -/
theorem plain_apply (n : FVec Ideal (M 640 1024) .bf16) (w : FVec Ideal (L 1024 512) .bf16) (r : Fin 640) (j : Fin 512) :
    plain n w (ix3 0 r j) = ∑ k : Fin 1024, n (ix2 r k) * w (ix3 0 k j) := by
  unfold plain
  pointwise
  exact proj_apply n w r j

/-- A value's element. -/
theorem values_apply (n : FVec Ideal (M 640 1024) .bf16) (w : FVec Ideal (L 1024 512) .bf16) (h : Fin 4) (d : Fin 128) (r : Fin 640) :
    values n w (ix4 0 h d r) = ∑ k : Fin 1024, n (ix2 r k) * w (ix3 0 k ⟨128 * h.val + d.val, by omega⟩) := by
  unfold values
  exact proj_apply n w r ⟨128 * h.val + d.val, by omega⟩

/-- A key's element. -/
theorem keys_apply (n : FVec Ideal (M 640 1024) .bf16) (w : FVec Ideal (L 1024 512) .bf16) (g : FVec Ideal (M 1 512) .f32)
    (gm : FVec Ideal (M 256 256) .bf16) (a b c : FVec Ideal (M 640 128) .f32) (r : Fin 640) (j : Fin 512) (co si : Fin 8 → EReal) (g' : Fin 64 → EReal)
    (hm : ∀ k j : Fin 256, gm (ix2 k j) = if k.val / 64 = j.val / 64 then Ideal.ofBits .f32 0x3C800000#32 else 0)
    (hg : ∀ k : Fin 512, g (ix2 0 k) = g' ⟨k.val % 64, by omega⟩)
    (ha : ∀ d : Fin 128, a (ix2 r d) = if d.val % 64 < 16 then co ⟨d.val % 8, by omega⟩ else 1)
    (hb : ∀ d : Fin 128, b (ix2 r d) = if d.val % 64 < 8 then -si ⟨d.val % 8, by omega⟩ else 0)
    (hc : ∀ d : Fin 128, c (ix2 r d) = if 8 ≤ d.val % 64 ∧ d.val % 64 < 16 then si ⟨d.val % 8, by omega⟩ else 0) :
    keys n w g gm a b c (ix3 0 r j)
      = InRow.rope (InRow.headNorm (fun k => ∑ i : Fin 1024, n (ix2 r i) * w (ix3 0 i k)) g') co si j := by
  unfold keys
  pointwise
  rw [rope_apply _ a b c r j co si ha hb hc]
  refine congrArg (fun u => InRow.rope u co si j) (funext fun k => ?_)
  rw [headNorm_apply, meanSq_apply _ gm r k hm, hg]
  unfold InRow.headNorm
  simp only [proj_apply]

/-- A query's element. -/
theorem queries_apply (n : FVec Ideal (M 640 1024) .bf16) (w : FVec Ideal (L 1024 512) .bf16) (g : FVec Ideal (M 1 512) .f32)
    (gm : FVec Ideal (M 256 256) .bf16) (a b c : FVec Ideal (M 640 128) .f32) (r : Fin 640) (j : Fin 512) (co si : Fin 8 → EReal) (g' : Fin 64 → EReal)
    (hm : ∀ k j : Fin 256, gm (ix2 k j) = if k.val / 64 = j.val / 64 then Ideal.ofBits .f32 0x3C800000#32 else 0)
    (hg : ∀ k : Fin 512, g (ix2 0 k) = g' ⟨k.val % 64, by omega⟩)
    (ha : ∀ d : Fin 128, a (ix2 r d) = if d.val % 64 < 16 then co ⟨d.val % 8, by omega⟩ else 1)
    (hb : ∀ d : Fin 128, b (ix2 r d) = if d.val % 64 < 8 then -si ⟨d.val % 8, by omega⟩ else 0)
    (hc : ∀ d : Fin 128, c (ix2 r d) = if 8 ≤ d.val % 64 ∧ d.val % 64 < 16 then si ⟨d.val % 8, by omega⟩ else 0) :
    queries n w g gm a b c (ix3 0 j r)
      = InRow.rope (InRow.headNorm (fun k => ∑ i : Fin 1024, n (ix2 r i) * w (ix3 0 i k)) g') co si j * InRow.qScale := by
  unfold queries
  pointwise
  rw [rope_apply _ a b c r j co si ha hb hc, ← InRow.rope_scale]
  refine congrArg (fun u => InRow.rope u co si j) (funext fun k => ?_)
  show headNorm _ _ g (ix2 r k) * _ = _
  rw [headNorm_apply, meanSq_apply _ gm r k hm, hg]
  unfold InRow.headNorm
  simp only [proj_apply]
  rfl

end Cert.InVec

end
-- ==== Proof.InBlock.lean ====
/- What one grid point of the first input projection's call leaves in its six result blocks. -/
module

public import proofs.«01_k».proof.Proof.InVec
public import proofs.«01_k».proof.Proof.Gen.Kernel3Ideal.Value

@[expose] public section

noncomputable section

namespace Cert.In

open Cert.Kernel3Ideal Cert.Kernel3Ideal.Gen Idealize.ShloMosaic Idealize.ShloMosaic.TcCoe Idealize.SL.Sem
open scoped BigOperators

variable {F : FTy → Type} [FloatOps F]

/-- 512 columns of the weight block, as the body loads them. -/
theorem cols_eq (x3 : Vec F S1x1024x2560 .bf16) (o : Nat) (h : ∀ a : Fin 3, (![0, 0, o] : Fin 3 → Nat) a + (![1, 1024, 512] : Fin 3 → Nat) a ≤ S1x1024x2560.size a)
    (ho : o + 512 ≤ 2560) : View.ld (Val := Elt F) (e' := .bf16) x3 (Rect.unit ![0, 0, o] ![1, 1024, 512] h) = InVec.cols x3 o ho := by
  funext y
  refine congrArg x3 (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show o + 1 * (y 2).val = o + (y 2).val; omega

/-- The block stored to the residual stream is the block. -/
theorem pay4_eq (x : Vec F S1x640x1024 .f32) : k0_pay4 x = x := by
  exact shapeCast_shapeCast x _ _

/-- The normalised block. -/
theorem pay5_eq (i : grid0.Coords) (x : Vec F S1x640x1024 .f32) (g : Vec F S1x1024 .f32) :
    k0_pay5 i x g = InVec.normed (BitVec.ofNat 32 (i 1).val) x g := by
  unfold k0_pay5 InVec.normed
  rfl

/-- The first of the two plainly stored blocks. -/
theorem pay24_eq (n : FVec F S640x1024 .bf16) (w : Vec F S1x1024x512 .bf16) : k0_pay24 n w = InVec.plain n w := by
  unfold k0_pay24 InVec.plain InVec.proj
  rfl

/-- The second. -/
theorem pay1_eq (n : FVec F S640x1024 .bf16) (w : Vec F S1x1024x512 .bf16) : k0_pay1 n (k0_pay25 w) = InVec.plain n w := by
  unfold k0_pay1 k0_pay25 InVec.plain InVec.proj
  rfl

/-- A cast to the same shape changes nothing. -/
theorem pay6_eq (a : Vec F S640x128 .f32) : k0_pay6 a = a := shapeCast_self _ _
/-- A cast to the same shape changes nothing. -/
theorem pay7_eq (a : Vec F S640x128 .f32) : k0_pay7 a = a := shapeCast_self _ _
/-- A cast to the same shape changes nothing. -/
theorem pay8_eq (a : Vec F S640x128 .f32) : k0_pay8 a = a := shapeCast_self _ _

/-- The rotation of a block normalised with its mean squares. -/
theorem keyed_eq (z q : FVec F S640x512 .f32) (g : Vec F S1x512 .f32) (a b c : Vec F S640x128 .f32) :
    k0_pay18 a b c z (k0_pay16 g) q
      = shapeCast (InVec.L 640 512) (truncf .bf16 (InVec.rope (InVec.headNorm z q g) a b c) (by decide)) rfl := by
  unfold k0_pay18 k0_pay16 InVec.rope InVec.turn InVec.headNorm
  rfl

/-- The keys. -/
theorem pay18_eq (n : FVec F S640x1024 .bf16) (w : Vec F S1x1024x512 .bf16) (g : Vec F S1x512 .f32) (gm : Vec F S256x256 .bf16) (a b c : Vec F S640x128 .f32) :
    k0_pay18 (k0_pay6 a) (k0_pay7 b) (k0_pay8 c) (k0_pay15 n w) (k0_pay16 g) (k0_pay17 n w gm gm) = InVec.keys n w g gm a b c := by
  have hz : k0_pay15 n w = InVec.proj n w := by unfold k0_pay15 InVec.proj; rfl
  have hm : k0_pay17 n w gm gm = InVec.meanSq (InVec.proj n w) gm := by unfold k0_pay17 InVec.meanSq; rw [hz]; rfl
  rw [hz, hm, pay6_eq, pay7_eq, pay8_eq]
  exact keyed_eq _ _ g a b c

/-- The scaled queries before the rotation. -/
theorem pay9_eq (n : FVec F S640x1024 .bf16) (w : Vec F S1x1024x512 .bf16) (g : Vec F S1x512 .f32) (gm : Vec F S256x256 .bf16) :
    k0_pay9 n w g gm gm = mulf (InVec.headNorm (InVec.proj n w) (InVec.meanSq (InVec.proj n w) gm) g) (broadcast (InVec.M 640 512) (Scalar.ofBits .f32 0x3E38AA3B#32)) := by
  unfold k0_pay9 InVec.headNorm InVec.meanSq InVec.proj
  rfl

/-- The rotation of a block already normalised, transposed. -/
theorem turned_eq (z : FVec F S640x512 .f32) (a b c : Vec F S640x128 .f32) (h0 : S640x512.Slices ![0, 0] S640x128) (h1 : S640x512.Slices ![0, 128] S640x128) :
    k0_pay14 a b c z (InVec.turn (extractStridedSlice S640x128 ![0, 0] z h0) a b c)
      (addf (mulf (extractStridedSlice S640x128 ![0, 128] z h1) a) (mulf (dynamicRotate 1 120#32 none (extractStridedSlice S640x128 ![0, 128] z h1) rotates_S640x128_d1) b))
      (dynamicRotate 1 8#32 none (extractStridedSlice S640x128 ![0, 128] z h1) rotates_S640x128_d1)
      = shapeCast (InVec.L 512 640) (truncf .bf16 (transpose (InVec.M 512 640) [1, 0] (InVec.rope z a b c) InVec.transposes) (by decide)) rfl := by
  unfold k0_pay14 InVec.rope InVec.turn
  rfl

/-- The queries. -/
theorem pay14_eq (n : FVec F S640x1024 .bf16) (w : Vec F S1x1024x512 .bf16) (g : Vec F S1x512 .f32) (gm : Vec F S256x256 .bf16) (a b c : Vec F S640x128 .f32) :
    k0_pay14 (k0_pay6 a) (k0_pay7 b) (k0_pay8 c) (k0_pay9 n w g gm gm) (k0_pay10 n (k0_pay6 a) (k0_pay7 b) c w g gm gm)
      (k0_pay12 n (k0_pay6 a) (k0_pay7 b) w g gm gm) (k0_pay13 n w g gm gm) = InVec.queries n w g gm a b c := by
  have h := turned_eq (k0_pay9 n w g gm gm) a b c slices_S640x512_o0_0_S640x128 slices_S640x512_o0_128_S640x128
  rw [pay6_eq, pay7_eq, pay8_eq]
  have h10 : k0_pay10 n a b c w g gm gm = InVec.turn (extractStridedSlice S640x128 ![0, 0] (k0_pay9 n w g gm gm) slices_S640x512_o0_0_S640x128) a b c := by
    unfold k0_pay10 InVec.turn
    rw [pay8_eq]
  unfold k0_pay12 k0_pay13 k0_pay11
  rw [h10]
  refine h.trans ?_
  rw [pay9_eq]
  rfl

/-- One head's slab of the values. -/
theorem slab_eq (n : FVec F S640x1024 .bf16) (w : Vec F S1x1024x512 .bf16) (h : Fin 4) (hs : S512x640.Slices ![128 * h.val, 0] S128x640)
    (hc : S128x640.ShapeCasts S1x1x128x640) (hr : ∀ a : Fin 4, (![0, h.val, 0, 0] : Fin 4 → Nat) a + S1x1x128x640.size a ≤ S1x4x128x640.size a) (x : S1x1x128x640.Idx) :
    shapeCast S1x1x128x640 (extractStridedSlice S128x640 ![128 * h.val, 0] (k0_pay19 n w) hs) hc x
      = InVec.values n w ((Rect.unit (s := S1x4x128x640) ![0, h.val, 0, 0] S1x1x128x640.size hr).emb x) := by
  have hx0 : (x 0).val < 1 := (x 0).isLt
  have hx1 : (x 1).val < 1 := (x 1).isLt
  have hx : x = ix4 0 0 (x 2) (x 3) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  unfold k0_pay19 InVec.values InVec.proj
  rw [hx]
  pointwise
  have e : (⟨128 * h.val + (x 2).val, by have h2 : (x 2).val < 128 := (x 2).isLt; omega⟩ : Fin 512)
      = ⟨128 * (h.val + 1 * 0) + (0 + 1 * (x 2).val), by have h2 : (x 2).val < 128 := (x 2).isLt; omega⟩ := Fin.ext (by show _ + _ = _ + _; omega)
  have e3 : x 3 = (⟨0 + 1 * (x 3).val, by have h3 : (x 3).val < 640 := (x 3).isLt; omega⟩ : Fin 640) := Fin.ext (by show (x 3).val = 0 + 1 * (x 3).val; omega)
  exact congrArg₂ (fun a b => (truncf .bf16 (InVec.proj n w) (by decide) : FVec F (InVec.M 640 512) .bf16) (ix2 a b)) e3 e

/-- The two stores of a first tile: 512 input rows under the 128 rows in front. -/
abbrev stores (x0 : Vec F S1x640x1024 .f32) (x1 : Vec F S128x1024 .f32)
    (h512 : ∀ a : Fin 3, (![0, 0, 0] : Fin 3 → Nat) a + (![1, 512, 1024] : Fin 3 → Nat) a ≤ S1x640x1024.size a)
    (hA : ∀ a : Fin 3, (![0, 128, 0] : Fin 3 → Nat) a + (![1, 512, 1024] : Fin 3 → Nat) a ≤ S1x640x1024.size a)
    (hB : ∀ a : Fin 3, (![0, 0, 0] : Fin 3 → Nat) a + (![1, 128, 1024] : Fin 3 → Nat) a ≤ S1x640x1024.size a) : List (View.Piece (Elt F) S1x640x1024 .f32) :=
  [⟨Rect.unit ![0, 128, 0] ![1, 512, 1024] hA, k0_pay3 (View.ld x0 (Rect.unit ![0, 0, 0] ![1, 512, 1024] h512))⟩,
    ⟨Rect.unit ![0, 0, 0] ![1, 128, 1024] hB, k0_pay2 x1⟩]

/-- The rows of a block that one store writes. -/
theorem mem_rows (y : S1x640x1024.Idx) (o n : Nat) (h : ∀ a : Fin 3, (![0, o, 0] : Fin 3 → Nat) a + (![1, n, 1024] : Fin 3 → Nat) a ≤ S1x640x1024.size a)
    (h0 : o ≤ (y 1).val) (h1 : (y 1).val < o + n) : y ∈ (Rect.unit (s := S1x640x1024) ![0, o, 0] ![1, n, 1024] h).set :=
  Rect.mem_set_unit.mpr fun a => match a with
    | ⟨0, _⟩ => ⟨Nat.zero_le _, (Nat.zero_add 1).symm ▸ (y 0).isLt⟩
    | ⟨1, _⟩ => ⟨h0, h1⟩
    | ⟨2, _⟩ => ⟨Nat.zero_le _, (Nat.zero_add 1024).symm ▸ (y 2).isLt⟩

/-- The two stores cover the block. -/
theorem stores_cover (x0 : Vec F S1x640x1024 .f32) (x1 : Vec F S128x1024 .f32) (h512) (hA) (hB) (y : S1x640x1024.Idx) :
    ∃ p ∈ stores x0 x1 h512 hA hB, y ∈ p.1.set := by
  have h1 : (y 1).val < 640 := (y 1).isLt
  by_cases h : (y 1).val < 128
  · exact ⟨_, List.mem_cons_of_mem _ (List.mem_singleton.mpr rfl), mem_rows y 0 128 hB (Nat.zero_le _) (by omega)⟩
  · exact ⟨_, List.mem_cons_self, mem_rows y 128 512 hA (by omega) (by omega)⟩

/-- The block of a first tile, as the two stores leave it. -/
theorem first_eq (x0 : Vec F S1x640x1024 .f32) (x1 : Vec F S128x1024 .f32) (h512) (hA) (hB) :
    View.canon (stores x0 x1 h512 hA hB) = InVec.first x0 x1 := by
  funext y
  refine View.canon_apply_of_pieces (InVec.first x0 x1) _ (fun p hp x => ?_) y (stores_cover x0 x1 h512 hA hB y)
  rcases List.mem_cons.mp hp with rfl | hp
  · have hx0 : (x 0).val < 1 := (x 0).isLt
    have hx : (x 1).val < 512 := (x 1).isLt
    unfold InVec.first
    rw [dif_neg (by show ¬(128 + 1 * (x 1).val) < 128; omega)]
    refine (congrFun (shapeCast_shapeCast (View.ld x0 (Rect.unit ![0, 0, 0] ![1, 512, 1024] h512)) _ _) x).trans (congrArg x0 (funext fun a => Fin.ext ?_))
    match a with
    | ⟨0, _⟩ => show 0 + 1 * (x 0).val = 0; omega
    | ⟨1, _⟩ => show 0 + 1 * (x 1).val = 128 + 1 * (x 1).val - 128; omega
    | ⟨2, _⟩ => show 0 + 1 * (x 2).val = 0 + 1 * (x 2).val; rfl
  · obtain rfl := List.mem_singleton.mp hp
    have hx0 : (x 0).val < 1 := (x 0).isLt
    have hx : (x 1).val < 128 := (x 1).isLt
    unfold InVec.first
    rw [dif_pos (by show 0 + 1 * (x 1).val < 128; omega)]
    have he : x = ix3 0 (x 1) (x 2) := by
      funext a
      match a with
      | ⟨0, _⟩ => exact Fin.ext (by show (x 0).val = 0; omega)
      | ⟨1, _⟩ => rfl
      | ⟨2, _⟩ => rfl
    have hp : ∀ (r : Fin 128) (j : Fin 1024), k0_pay2 x1 (ix3 0 r j) = x1 (ix2 r j) := fun r j => by
      unfold k0_pay2
      pointwise
    show k0_pay2 x1 x = _
    refine ((congrArg (k0_pay2 x1) he).trans (hp (x 1) (x 2))).trans (congrArg x1 (funext fun a => Fin.ext ?_))
    match a with
    | ⟨0, _⟩ => show (x 1).val = 0 + 1 * (x 1).val; omega
    | ⟨1, _⟩ => show (x 2).val = 0 + 1 * (x 2).val; omega

/-- The first tile's block as it is read back. -/
theorem first_read (v : View sig .tc .vmem S1x640x1024 .f32) (x0 : Vec F S1x640x1024 .f32) (x1 : Vec F S128x1024 .f32) (h512) (hA) (hB)
    (h : ∀ a : Fin 3, (![0, 0, 0] : Fin 3 → Nat) a + S1x640x1024.size a ≤ S1x640x1024.size a) :
    v.readCov (stores x0 x1 h512 hA hB) (Rect.unit ![0, 0, 0] S1x640x1024.size h).toLoadRect = InVec.first x0 x1 := by
  have hz3 : (![0,0,0] : Fin 3 → Nat) = fun _ => 0 := funext fun a => by fin_cases a <;> rfl
  rw [View.readCov_eq_canon_ld _ _ _ (stores_cover x0 x1 h512 hA hB), first_eq, View.ld_unit_zero hz3]

/-- The four stores of the values, one head each. -/
abbrev slabs (n : FVec F S640x1024 .bf16) (w : Vec F S1x1024x512 .bf16)
    (h0 : ∀ a : Fin 4, (![0, 0, 0, 0] : Fin 4 → Nat) a + (![1, 1, 128, 640] : Fin 4 → Nat) a ≤ S1x4x128x640.size a)
    (h1 : ∀ a : Fin 4, (![0, 1, 0, 0] : Fin 4 → Nat) a + (![1, 1, 128, 640] : Fin 4 → Nat) a ≤ S1x4x128x640.size a)
    (h2 : ∀ a : Fin 4, (![0, 2, 0, 0] : Fin 4 → Nat) a + (![1, 1, 128, 640] : Fin 4 → Nat) a ≤ S1x4x128x640.size a)
    (h3 : ∀ a : Fin 4, (![0, 3, 0, 0] : Fin 4 → Nat) a + (![1, 1, 128, 640] : Fin 4 → Nat) a ≤ S1x4x128x640.size a) : List (View.Piece (Elt F) S1x4x128x640 .bf16) :=
  [⟨Rect.unit ![0, 3, 0, 0] ![1, 1, 128, 640] h3, k0_pay23 n w⟩, ⟨Rect.unit ![0, 2, 0, 0] ![1, 1, 128, 640] h2, k0_pay22 n w⟩,
    ⟨Rect.unit ![0, 1, 0, 0] ![1, 1, 128, 640] h1, k0_pay21 n w⟩, ⟨Rect.unit ![0, 0, 0, 0] ![1, 1, 128, 640] h0, k0_pay20 n w⟩]

/-- The part of the values that one store writes. -/
theorem mem_slab (y : S1x4x128x640.Idx) (o : Nat) (h : ∀ a : Fin 4, (![0, o, 0, 0] : Fin 4 → Nat) a + (![1, 1, 128, 640] : Fin 4 → Nat) a ≤ S1x4x128x640.size a)
    (h0 : (y 1).val = o) : y ∈ (Rect.unit (s := S1x4x128x640) ![0, o, 0, 0] ![1, 1, 128, 640] h).set :=
  Rect.mem_set_unit.mpr fun a => match a with
    | ⟨0, _⟩ => ⟨Nat.zero_le _, (Nat.zero_add 1).symm ▸ (y 0).isLt⟩
    | ⟨1, _⟩ => ⟨h0.ge, h0.trans_lt (Nat.lt_succ_self o)⟩
    | ⟨2, _⟩ => ⟨Nat.zero_le _, (Nat.zero_add 128).symm ▸ (y 2).isLt⟩
    | ⟨3, _⟩ => ⟨Nat.zero_le _, (Nat.zero_add 640).symm ▸ (y 3).isLt⟩

/-- The four stores cover the block. -/
theorem slabs_cover (n : FVec F S640x1024 .bf16) (w : Vec F S1x1024x512 .bf16) (h0) (h1) (h2) (h3) (y : S1x4x128x640.Idx) :
    ∃ p ∈ slabs n w h0 h1 h2 h3, y ∈ p.1.set := by
  have h : (y 1).val < 4 := (y 1).isLt
  by_cases e3 : (y 1).val = 3
  · exact ⟨_, List.mem_cons_self, mem_slab y 3 h3 e3⟩
  by_cases e2 : (y 1).val = 2
  · exact ⟨_, List.mem_cons_of_mem _ List.mem_cons_self, mem_slab y 2 h2 e2⟩
  by_cases e1 : (y 1).val = 1
  · exact ⟨_, List.mem_cons_of_mem _ (List.mem_cons_of_mem _ List.mem_cons_self), mem_slab y 1 h1 e1⟩
  · exact ⟨_, List.mem_cons_of_mem _ (List.mem_cons_of_mem _ (List.mem_cons_of_mem _ List.mem_cons_self)), mem_slab y 0 h0 (by omega)⟩

/-- The values, as the body's four stores leave them. -/
theorem values_eq (n : FVec F S640x1024 .bf16) (w : Vec F S1x1024x512 .bf16) (h0) (h1) (h2) (h3) :
    View.canon (slabs n w h0 h1 h2 h3) = InVec.values n w := by
  funext y
  refine View.canon_apply_of_pieces (InVec.values n w) _ (fun p hp x => ?_) y (slabs_cover n w h0 h1 h2 h3 y)
  rcases List.mem_cons.mp hp with rfl | hp
  · exact slab_eq n w 3 slices_S512x640_o384_0_S128x640 shapeCasts_S128x640_S1x1x128x640 h3 x
  rcases List.mem_cons.mp hp with rfl | hp
  · exact slab_eq n w 2 slices_S512x640_o256_0_S128x640 shapeCasts_S128x640_S1x1x128x640 h2 x
  rcases List.mem_cons.mp hp with rfl | hp
  · exact slab_eq n w 1 slices_S512x640_o128_0_S128x640 shapeCasts_S128x640_S1x1x128x640 h1 x
  · obtain rfl := List.mem_singleton.mp hp
    exact slab_eq n w 0 slices_S512x640_o0_0_S128x640 shapeCasts_S128x640_S1x1x128x640 h0 x

variable (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S1x1024x2560 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S640x128 .f32) (harg8 : arg8.IsWhole) (arg9 : Memref sig .tc .vmem S640x128 .f32) (harg9 : arg9.IsWhole) (arg10 : Memref sig .tc .vmem S640x128 .f32) (harg10 : arg10.IsWhole) (arg11 : Memref sig .tc .vmem S256x256 .bf16) (harg11 : arg11.IsWhole) (arg12 : Memref sig .tc .vmem S1x512x640 .bf16) (harg12 : arg12.IsWhole) (arg13 : Memref sig .tc .vmem S1x640x512 .bf16) (harg13 : arg13.IsWhole) (arg14 : Memref sig .tc .vmem S1x4x128x640 .bf16) (harg14 : arg14.IsWhole) (arg15 : Memref sig .tc .vmem S1x640x512 .f32) (harg15 : arg15.IsWhole) (arg16 : Memref sig .tc .vmem S1x640x512 .f32) (harg16 : arg16.IsWhole) (arg17 : Memref sig .tc .vmem S1x640x1024 .f32) (harg17 : arg17.IsWhole)
  (x0 : Vec F S1x640x1024 .f32) (x1 : Vec F S128x1024 .f32) (x2 : Vec F S1x1024 .f32) (x3 : Vec F S1x1024x2560 .bf16) (x4 : Vec F S1x512 .f32) (x5 : Vec F S1x512 .f32) (x6 : Vec F S640x128 .f32) (x7 : Vec F S640x128 .f32) (x8 : Vec F S640x128 .f32) (x9 : Vec F S256x256 .bf16)

set_option maxRecDepth 16384 in
set_option maxHeartbeats 2000000 in
/-- The stored queries, in a batch's first tile. -/
theorem out10_A (hc0 : cond0_0 i) (hc1 : ¬cond0_1 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.queries (InVec.normed (BitVec.ofNat 32 (i 1).val) (InVec.first x0 x1) x2) (InVec.cols x3 0 (by omega)) x4 x9 x6 x7 x8 := by
  have hz2 : (![0,0] : Fin 2 → Nat) = fun _ => 0 := funext fun a => by fin_cases a <;> rfl
  have hz3 : (![0,0,0] : Fin 3 → Nat) = fun _ => 0 := funext fun a => by fin_cases a <;> rfl
  have l1 : ∀ h, View.ld (Val := Elt F) (e' := .f32) x1 (Rect.unit ![0,0] ![128, 1024] h) = x1 := fun h => View.ld_unit_zero (S := S128x1024) hz2 h x1
  have l2 : ∀ h, View.ld (Val := Elt F) (e' := .f32) x2 (Rect.unit ![0,0] ![1, 1024] h) = x2 := fun h => View.ld_unit_zero (S := S1x1024) hz2 h x2
  have l4 : ∀ h, View.ld (Val := Elt F) (e' := .f32) x4 (Rect.unit ![0,0] ![1, 512] h) = x4 := fun h => View.ld_unit_zero (S := S1x512) hz2 h x4
  have l6 : ∀ h, View.ld (Val := Elt F) (e' := .f32) x6 (Rect.unit ![0,0] ![640, 128] h) = x6 := fun h => View.ld_unit_zero (S := S640x128) hz2 h x6
  have l7 : ∀ h, View.ld (Val := Elt F) (e' := .f32) x7 (Rect.unit ![0,0] ![640, 128] h) = x7 := fun h => View.ld_unit_zero (S := S640x128) hz2 h x7
  have l8 : ∀ h, View.ld (Val := Elt F) (e' := .f32) x8 (Rect.unit ![0,0] ![640, 128] h) = x8 := fun h => View.ld_unit_zero (S := S640x128) hz2 h x8
  have l9 : ∀ h, View.ld (Val := Elt F) (e' := .bf16) x9 (Rect.unit ![0,0] ![256, 256] h) = x9 := fun h => View.ld_unit_zero (S := S256x256) hz2 h x9
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg8.read_unread, harg9.read_unread, harg10.read_unread, harg11.read_unread, l1, l2, l4, l6, l7, l8, l9]
  rw [View.canon_unit_zero hz3]
  rw [first_read, pay5_eq, cols_eq x3 0 _ (by omega), pay14_eq]

set_option maxRecDepth 16384 in
set_option maxHeartbeats 2000000 in
/-- The stored keys, in a batch's first tile. -/
theorem out11_A (hc0 : cond0_0 i) (hc1 : ¬cond0_1 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.keys (InVec.normed (BitVec.ofNat 32 (i 1).val) (InVec.first x0 x1) x2) (InVec.cols x3 512 (by omega)) x5 x9 x6 x7 x8 := by
  have hz2 : (![0,0] : Fin 2 → Nat) = fun _ => 0 := funext fun a => by fin_cases a <;> rfl
  have hz3 : (![0,0,0] : Fin 3 → Nat) = fun _ => 0 := funext fun a => by fin_cases a <;> rfl
  have l1 : ∀ h, View.ld (Val := Elt F) (e' := .f32) x1 (Rect.unit ![0,0] ![128, 1024] h) = x1 := fun h => View.ld_unit_zero (S := S128x1024) hz2 h x1
  have l2 : ∀ h, View.ld (Val := Elt F) (e' := .f32) x2 (Rect.unit ![0,0] ![1, 1024] h) = x2 := fun h => View.ld_unit_zero (S := S1x1024) hz2 h x2
  have l5 : ∀ h, View.ld (Val := Elt F) (e' := .f32) x5 (Rect.unit ![0,0] ![1, 512] h) = x5 := fun h => View.ld_unit_zero (S := S1x512) hz2 h x5
  have l6 : ∀ h, View.ld (Val := Elt F) (e' := .f32) x6 (Rect.unit ![0,0] ![640, 128] h) = x6 := fun h => View.ld_unit_zero (S := S640x128) hz2 h x6
  have l7 : ∀ h, View.ld (Val := Elt F) (e' := .f32) x7 (Rect.unit ![0,0] ![640, 128] h) = x7 := fun h => View.ld_unit_zero (S := S640x128) hz2 h x7
  have l8 : ∀ h, View.ld (Val := Elt F) (e' := .f32) x8 (Rect.unit ![0,0] ![640, 128] h) = x8 := fun h => View.ld_unit_zero (S := S640x128) hz2 h x8
  have l9 : ∀ h, View.ld (Val := Elt F) (e' := .bf16) x9 (Rect.unit ![0,0] ![256, 256] h) = x9 := fun h => View.ld_unit_zero (S := S256x256) hz2 h x9
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  simp only [View.readAt_eq_ld, harg2.read_unread, harg3.read_unread, harg4.read_unread, harg5.read_unread, harg7.read_unread, harg8.read_unread, harg9.read_unread, harg10.read_unread, harg11.read_unread, l1, l2, l5, l6, l7, l8, l9]
  rw [View.canon_unit_zero hz3]
  rw [first_read, pay5_eq, cols_eq x3 512 _ (by omega), pay18_eq]

set_option maxRecDepth 16384 in
set_option maxHeartbeats 2000000 in
/-- The stored values, in a batch's first tile. -/
theorem out12_A (hc0 : cond0_0 i) (hc1 : ¬cond0_1 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.values (InVec.normed (BitVec.ofNat 32 (i 1).val) (InVec.first x0 x1) x2) (InVec.cols x3 1024 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l1 : ∀ h, View.ld (Val := Elt F) (e' := .f32) x1 (Rect.unit ![0,0] ![128, 1024] h) = x1 := fun h => View.ld_unit_zero (S := S128x1024) hz2 h x1
  have l2 : ∀ h, View.ld (Val := Elt F) (e' := .f32) x2 (Rect.unit ![0,0] ![1, 1024] h) = x2 := fun h => View.ld_unit_zero (S := S1x1024) hz2 h x2
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  simp only [View.readAt_eq_ld, harg2.read_unread, harg3.read_unread, harg4.read_unread, harg5.read_unread, l1, l2]
  refine (values_eq _ _ _ _ _ _).trans ?_
  rw [first_read, pay5_eq, cols_eq x3 1024 _ (by omega)]

set_option maxRecDepth 16384 in
set_option maxHeartbeats 2000000 in
/-- The stored recurrent heads' input, in a batch's first tile. -/
theorem out13_A (hc0 : cond0_0 i) (hc1 : ¬cond0_1 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.plain (InVec.normed (BitVec.ofNat 32 (i 1).val) (InVec.first x0 x1) x2) (InVec.cols x3 1536 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l1 : ∀ h, View.ld (Val := Elt F) (e' := .f32) x1 (Rect.unit ![0,0] ![128, 1024] h) = x1 := fun h => View.ld_unit_zero (S := S128x1024) hz2 h x1
  have l2 : ∀ h, View.ld (Val := Elt F) (e' := .f32) x2 (Rect.unit ![0,0] ![1, 1024] h) = x2 := fun h => View.ld_unit_zero (S := S1x1024) hz2 h x2
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  simp only [View.readAt_eq_ld, harg2.read_unread, harg3.read_unread, harg4.read_unread, harg5.read_unread, l1, l2]
  rw [View.canon_unit_zero hz3]
  rw [first_read, pay5_eq, cols_eq x3 1536 _ (by omega), pay24_eq]

set_option maxRecDepth 16384 in
set_option maxHeartbeats 2000000 in
/-- The stored gate, in a batch's first tile. -/
theorem out14_A (hc0 : cond0_0 i) (hc1 : ¬cond0_1 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.plain (InVec.normed (BitVec.ofNat 32 (i 1).val) (InVec.first x0 x1) x2) (InVec.cols x3 2048 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l1 : ∀ h, View.ld (Val := Elt F) (e' := .f32) x1 (Rect.unit ![0,0] ![128, 1024] h) = x1 := fun h => View.ld_unit_zero (S := S128x1024) hz2 h x1
  have l2 : ∀ h, View.ld (Val := Elt F) (e' := .f32) x2 (Rect.unit ![0,0] ![1, 1024] h) = x2 := fun h => View.ld_unit_zero (S := S1x1024) hz2 h x2
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  simp only [View.readAt_eq_ld, harg2.read_unread, harg3.read_unread, harg4.read_unread, harg5.read_unread, l1, l2]
  rw [View.canon_unit_zero hz3]
  rw [first_read, pay5_eq, cols_eq x3 2048 _ (by omega), pay1_eq]

set_option maxRecDepth 16384 in
set_option maxHeartbeats 2000000 in
/-- The stored residual stream, in a batch's first tile. -/
theorem out15_A (hc0 : cond0_0 i) (hc1 : ¬cond0_1 i) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.first x0 x1 := by
  have hz2 : (![0,0] : Fin 2 → Nat) = fun _ => 0 := funext fun a => by fin_cases a <;> rfl
  have hz3 : (![0,0,0] : Fin 3 → Nat) = fun _ => 0 := funext fun a => by fin_cases a <;> rfl
  have l1 : ∀ h, View.ld (Val := Elt F) (e' := .f32) x1 (Rect.unit ![0,0] ![128, 1024] h) = x1 := fun h => View.ld_unit_zero (S := S128x1024) hz2 h x1
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  simp only [View.readAt_eq_ld, harg2.read_unread, harg3.read_unread, l1]
  exact first_eq x0 x1 _ _ _

set_option maxRecDepth 16384 in
set_option maxHeartbeats 2000000 in
/-- The stored queries, in every later tile. -/
theorem out10_B (hc0 : ¬cond0_0 i) (hc1 : cond0_1 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.queries (InVec.normed (BitVec.ofNat 32 (i 1).val) x0 x2) (InVec.cols x3 0 (by omega)) x4 x9 x6 x7 x8 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l2 : ∀ h, View.ld (Val := Elt F) (e' := .f32) x2 (Rect.unit ![0,0] ![1, 1024] h) = x2 := fun h => View.ld_unit_zero (S := S1x1024) hz2 h x2
  have l4 : ∀ h, View.ld (Val := Elt F) (e' := .f32) x4 (Rect.unit ![0,0] ![1, 512] h) = x4 := fun h => View.ld_unit_zero (S := S1x512) hz2 h x4
  have l6 : ∀ h, View.ld (Val := Elt F) (e' := .f32) x6 (Rect.unit ![0,0] ![640, 128] h) = x6 := fun h => View.ld_unit_zero (S := S640x128) hz2 h x6
  have l7 : ∀ h, View.ld (Val := Elt F) (e' := .f32) x7 (Rect.unit ![0,0] ![640, 128] h) = x7 := fun h => View.ld_unit_zero (S := S640x128) hz2 h x7
  have l8 : ∀ h, View.ld (Val := Elt F) (e' := .f32) x8 (Rect.unit ![0,0] ![640, 128] h) = x8 := fun h => View.ld_unit_zero (S := S640x128) hz2 h x8
  have l9 : ∀ h, View.ld (Val := Elt F) (e' := .bf16) x9 (Rect.unit ![0,0] ![256, 256] h) = x9 := fun h => View.ld_unit_zero (S := S256x256) hz2 h x9
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_B
  dsimp only
  sl_unfold_words
  simp only [View.readAt_eq_ld, harg2.read_unread, harg4.read_unread, harg5.read_unread, harg6.read_unread, harg8.read_unread, harg9.read_unread, harg10.read_unread, harg11.read_unread, l0, l2, l4, l6, l7, l8, l9]
  rw [View.canon_unit_zero hz3]
  rw [View.readCov_unit_zero _ hz3, pay4_eq, pay5_eq, cols_eq x3 0 _ (by omega), pay14_eq]

set_option maxRecDepth 16384 in
set_option maxHeartbeats 2000000 in
/-- The stored keys, in every later tile. -/
theorem out11_B (hc0 : ¬cond0_0 i) (hc1 : cond0_1 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.keys (InVec.normed (BitVec.ofNat 32 (i 1).val) x0 x2) (InVec.cols x3 512 (by omega)) x5 x9 x6 x7 x8 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l2 : ∀ h, View.ld (Val := Elt F) (e' := .f32) x2 (Rect.unit ![0,0] ![1, 1024] h) = x2 := fun h => View.ld_unit_zero (S := S1x1024) hz2 h x2
  have l5 : ∀ h, View.ld (Val := Elt F) (e' := .f32) x5 (Rect.unit ![0,0] ![1, 512] h) = x5 := fun h => View.ld_unit_zero (S := S1x512) hz2 h x5
  have l6 : ∀ h, View.ld (Val := Elt F) (e' := .f32) x6 (Rect.unit ![0,0] ![640, 128] h) = x6 := fun h => View.ld_unit_zero (S := S640x128) hz2 h x6
  have l7 : ∀ h, View.ld (Val := Elt F) (e' := .f32) x7 (Rect.unit ![0,0] ![640, 128] h) = x7 := fun h => View.ld_unit_zero (S := S640x128) hz2 h x7
  have l8 : ∀ h, View.ld (Val := Elt F) (e' := .f32) x8 (Rect.unit ![0,0] ![640, 128] h) = x8 := fun h => View.ld_unit_zero (S := S640x128) hz2 h x8
  have l9 : ∀ h, View.ld (Val := Elt F) (e' := .bf16) x9 (Rect.unit ![0,0] ![256, 256] h) = x9 := fun h => View.ld_unit_zero (S := S256x256) hz2 h x9
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_B
  dsimp only
  sl_unfold_words
  simp only [View.readAt_eq_ld, harg2.read_unread, harg4.read_unread, harg5.read_unread, harg7.read_unread, harg8.read_unread, harg9.read_unread, harg10.read_unread, harg11.read_unread, l0, l2, l5, l6, l7, l8, l9]
  rw [View.canon_unit_zero hz3]
  rw [View.readCov_unit_zero _ hz3, pay4_eq, pay5_eq, cols_eq x3 512 _ (by omega), pay18_eq]

set_option maxRecDepth 16384 in
set_option maxHeartbeats 2000000 in
/-- The stored values, in every later tile. -/
theorem out12_B (hc0 : ¬cond0_0 i) (hc1 : cond0_1 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.values (InVec.normed (BitVec.ofNat 32 (i 1).val) x0 x2) (InVec.cols x3 1024 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l2 : ∀ h, View.ld (Val := Elt F) (e' := .f32) x2 (Rect.unit ![0,0] ![1, 1024] h) = x2 := fun h => View.ld_unit_zero (S := S1x1024) hz2 h x2
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_B
  dsimp only
  sl_unfold_words
  simp only [View.readAt_eq_ld, harg2.read_unread, harg4.read_unread, harg5.read_unread, l0, l2]
  refine (values_eq _ _ _ _ _ _).trans ?_
  rw [View.readCov_unit_zero _ hz3, pay4_eq, pay5_eq, cols_eq x3 1024 _ (by omega)]

set_option maxRecDepth 16384 in
set_option maxHeartbeats 2000000 in
/-- The stored recurrent heads' input, in every later tile. -/
theorem out13_B (hc0 : ¬cond0_0 i) (hc1 : cond0_1 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.plain (InVec.normed (BitVec.ofNat 32 (i 1).val) x0 x2) (InVec.cols x3 1536 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l2 : ∀ h, View.ld (Val := Elt F) (e' := .f32) x2 (Rect.unit ![0,0] ![1, 1024] h) = x2 := fun h => View.ld_unit_zero (S := S1x1024) hz2 h x2
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_B
  dsimp only
  sl_unfold_words
  simp only [View.readAt_eq_ld, harg2.read_unread, harg4.read_unread, harg5.read_unread, l0, l2]
  rw [View.canon_unit_zero hz3]
  rw [View.readCov_unit_zero _ hz3, pay4_eq, pay5_eq, cols_eq x3 1536 _ (by omega), pay24_eq]

set_option maxRecDepth 16384 in
set_option maxHeartbeats 2000000 in
/-- The stored gate, in every later tile. -/
theorem out14_B (hc0 : ¬cond0_0 i) (hc1 : cond0_1 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = InVec.plain (InVec.normed (BitVec.ofNat 32 (i 1).val) x0 x2) (InVec.cols x3 2048 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l2 : ∀ h, View.ld (Val := Elt F) (e' := .f32) x2 (Rect.unit ![0,0] ![1, 1024] h) = x2 := fun h => View.ld_unit_zero (S := S1x1024) hz2 h x2
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_B
  dsimp only
  sl_unfold_words
  simp only [View.readAt_eq_ld, harg2.read_unread, harg4.read_unread, harg5.read_unread, l0, l2]
  rw [View.canon_unit_zero hz3]
  rw [View.readCov_unit_zero _ hz3, pay4_eq, pay5_eq, cols_eq x3 2048 _ (by omega), pay1_eq]

set_option maxRecDepth 16384 in
set_option maxHeartbeats 2000000 in
/-- The stored residual stream, in every later tile. -/
theorem out15_B (hc0 : ¬cond0_0 i) (hc1 : cond0_1 i) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9
    = x0 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_B
  dsimp only
  sl_unfold_words
  simp only [View.readAt_eq_ld, harg2.read_unread, l0]
  rw [View.canon_unit_zero hz3]
  exact pay4_eq x0

end Cert.In

end
-- ==== Proof.InHost.lean ====
/- What the first input projection's call finds in the arrays that host code prepares. -/
module

public import proofs.«01_k».proof.Proof.InRow
public import proofs.«01_k».proof.Proof.Gen.Kernel3Ideal.Value
public import Idealize.ShloMosaic.Lib.Claim
public import Idealize.ShloMosaic.Lib.StableHlo.ReadAt
public import Idealize.ShloMosaic.Lib.Pipeline.ValueKit.Point

@[expose] public section

noncomputable section

namespace Cert.In

open Cert.Kernel3Ideal Cert.Kernel3Ideal.Gen Idealize.ShloMosaic Idealize.ShloMosaic.TcCoe Idealize.SL.Sem
open scoped BigOperators

variable (m : (ℓ : Loc nD τ sig) → Buf (Elt Ideal) ℓ)

/-- The host's floored remainder of two words. -/
def rem (a b : BitVec 32) : BitVec 32 :=
  Scalar.select (IntOp.andi (IntOp.cmpi .ne (IntOp.cmpi .slt (IntOp.remsi .host a b) 0#32) (IntOp.cmpi .slt b 0#32))
    (IntOp.cmpi .ne (IntOp.remsi .host a b) 0#32)) (IntOp.addi (IntOp.remsi .host a b) b) (IntOp.remsi .host a b)

/-- The remainder, spelt out. -/
theorem rem_eq (a b : BitVec 32) :
    Scalar.select (IntOp.andi (IntOp.cmpi .ne (IntOp.cmpi .slt (IntOp.remsi .host a b) 0#32) (IntOp.cmpi .slt b 0#32))
      (IntOp.cmpi .ne (IntOp.remsi .host a b) 0#32)) (IntOp.addi (IntOp.remsi .host a b) b) (IntOp.remsi .host a b) = rem a b := rfl

/-- A word that the host holds as a constant. -/
theorem const_word (b : BitVec 32) : constantI S_ 32 b ix0 = b := rfl
/-- A number that the host holds as a constant. -/
theorem const_num (b : BitVec 32) : constant (F := Ideal) S_ .f32 b ix0 = Ideal.ofBits .f32 b := rfl
/-- The divisor is not zero. -/
theorem pick64 : Scalar.select (IntOp.cmpi .eq 64#32 0#32) 1#32 64#32 = 64#32 := by decide
/-- The divisor is not zero. -/
theorem pick8 : Scalar.select (IntOp.cmpi .eq 8#32 0#32) 1#32 8#32 = 8#32 := by decide

/-- The host's floored quotient of a word by 64. -/
def quot (a : BitVec 32) : BitVec 32 :=
  Scalar.select (IntOp.andi (IntOp.cmpi .ne (if a = 0 then 0 else if a.msb = true then -1 else 1 : BitVec 32)
      (if (64#32 : BitVec 32) = 0 then 0 else if BitVec.msb 64#32 = true then -1 else 1 : BitVec 32)) (IntOp.cmpi .ne (IntOp.remsi .host a 64#32) 0#32))
    (IntOp.subi (IntOp.divsi .host a 64#32) 1#32) (IntOp.divsi .host a 64#32)

/-- A lane's place within its group of 64. -/
def lane (d : Fin 128) : BitVec 32 := rem (BitVec.ofNat 32 d.val) 64#32
/-- The frequency that a lane takes. -/
def freqOf (d : Fin 128) : BitVec 32 :=
  Scalar.select (IntOp.cmpi .slt (rem (lane d) 8#32) 0#32) (IntOp.addi (rem (lane d) 8#32) 8#32) (rem (lane d) 8#32)
/-- The lane's place, spelt out. -/
theorem lane_eq (d : Fin 128) : rem (BitVec.ofNat 32 d.val) 64#32 = lane d := rfl
/-- The frequency, spelt out. -/
theorem freq_eq (d : Fin 128) :
    Scalar.select (IntOp.cmpi .slt (rem (lane d) 8#32) 0#32) (IntOp.addi (rem (lane d) 8#32) 8#32) (rem (lane d) 8#32) = freqOf d := rfl
/-- Whether a lane is of the first half of the rotated ones. -/
def isFirst (d : Fin 128) : BitVec 1 := IntOp.cmpi .slt (lane d) 8#32
/-- Whether a lane is of the second half. -/
def isSecond (d : Fin 128) : BitVec 1 := IntOp.andi (IntOp.cmpi .sge (lane d) 8#32) (IntOp.cmpi .slt (lane d) 16#32)

/-- A lane takes the frequency of its place modulo eight. -/
theorem freqOf_eq : ∀ d : Fin 128, min (freqOf d).toInt.toNat 7 = d.val % 8 := by decide +kernel
/-- The first half is the first eight lanes of a group. -/
theorem isFirst_eq : ∀ d : Fin 128, isFirst d = if d.val % 64 < 8 then 1#1 else 0#1 := by decide +kernel
/-- The second half is the next eight. -/
theorem isSecond_eq : ∀ d : Fin 128, isSecond d = if 8 ≤ d.val % 64 ∧ d.val % 64 < 16 then 1#1 else 0#1 := by decide +kernel
/-- The rotated lanes are the first sixteen. -/
theorem isEither_eq : ∀ d : Fin 128, IntOp.ori (isFirst d) (isSecond d) = if d.val % 64 < 16 then 1#1 else 0#1 := by decide +kernel

/-- The host's take along the frequencies, read at a row and a lane. -/
theorem take_apply {α : Type} (x : S8320x8.Idx → α) (idx : IVec S128x1 32) (s : Fin 8320) (d : Fin 128) :
    Host.gather gather_S8320x8_S128x1_S8320x128_0_1_n_n_1_1_83201 x idx (ix2 s d)
      = x (ix2 s ⟨min (idx (ix2 d 0)).toInt.toNat 7, by omega⟩) := by
  unfold Host.gather
  refine congrArg x (funext fun a => Fin.ext ?_)
  match a with
  | ⟨0, _⟩ =>
    show GatherDims.start _ (ix2 s d) idx 0 + GatherDims.batchCoord _ (ix2 s d) 0 + GatherDims.offCoord _ (ix2 s d) 0 = s.val
    rw [GatherDims.batchCoord_eq_zero _ _ _ List.not_mem_nil]
    unfold GatherDims.start
    rw [dif_neg (by decide)]
    simp only [Nat.zero_add, Nat.add_zero]
    rfl
  | ⟨1, _⟩ =>
    show GatherDims.start _ (ix2 s d) idx 1 + GatherDims.batchCoord _ (ix2 s d) 1 + GatherDims.offCoord _ (ix2 s d) 1 = min (idx (ix2 d 0)).toInt.toNat 7
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8320x8_S128x1_S8320x128_0_1_n_n_1_1_83201.startIndexMap from List.mem_singleton.mpr rfl)]
    refine congrArg (fun i => min (idx i).toInt.toNat 7) (funext fun b => Fin.ext ?_)
    match b with
    | ⟨0, _⟩ => rfl
    | ⟨1, _⟩ => rfl

/-- The cosines, one in the lanes that are not rotated. -/
theorem cos_entry (c : Dev nD) (s : Fin 8320) (d : Fin 128) :
    V m c main_v49 (ix2 s d) = if d.val % 64 < 16 then Ideal.cos (InRow.turn (IntOp.subi (BitVec.ofNat 32 s.val) 112#32) ⟨d.val % 8, by omega⟩) else 1 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at
  rw [take_apply]
  pointwise
  simp only [id_eq, const_word, const_num, pick64, pick8, rem_eq, lane_eq, freq_eq, freqOf_eq]
  have hc := isEither_eq d
  unfold isFirst isSecond at hc
  rw [hc]
  split_ifs
  · rfl
  · exact Ideal.ofBits_one_f32

/-- The negated sines, zero outside the first half. -/
theorem sina_entry (c : Dev nD) (s : Fin 8320) (d : Fin 128) :
    V m c main_v51 (ix2 s d) = if d.val % 64 < 8 then -Ideal.sin (InRow.turn (IntOp.subi (BitVec.ofNat 32 s.val) 112#32) ⟨d.val % 8, by omega⟩) else 0 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at
  rw [take_apply]
  pointwise
  simp only [id_eq, const_word, const_num, pick64, pick8, rem_eq, lane_eq, freq_eq, freqOf_eq]
  have hc := isFirst_eq d
  unfold isFirst at hc
  rw [hc]
  split_ifs
  · rfl
  · exact Ideal.ofBits_zero_f32

/-- The sines, zero outside the second half. -/
theorem sinb_entry (c : Dev nD) (s : Fin 8320) (d : Fin 128) :
    V m c main_v52 (ix2 s d) = if 8 ≤ d.val % 64 ∧ d.val % 64 < 16 then Ideal.sin (InRow.turn (IntOp.subi (BitVec.ofNat 32 s.val) 112#32) ⟨d.val % 8, by omega⟩) else 0 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at
  rw [take_apply]
  pointwise
  simp only [id_eq, const_word, const_num, pick64, pick8, rem_eq, lane_eq, freq_eq, freqOf_eq]
  have hc := isSecond_eq d
  unfold isSecond at hc
  rw [hc]
  split_ifs
  · rfl
  · exact Ideal.ofBits_zero_f32

/-- The weights of a mean of 64. -/
theorem gmean_entry (c : Dev nD) (k j : Fin 256) :
    V m c main_v61 (ix2 k j) = if k.val / 64 = j.val / 64 then Ideal.ofBits .f32 0x3C800000#32 else 0 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at
  have hq : ∀ i : Fin 256, quot (BitVec.ofNat 32 i.val) = BitVec.ofNat 32 (i.val / 64) := by decide +kernel
  show Scalar.select (IntOp.cmpi .eq (quot (BitVec.ofNat 32 k.val)) (quot (BitVec.ofNat 32 j.val))) (Ideal.ofBits .f32 0x3C800000#32) 0 = _
  rw [hq, hq]
  by_cases h : k.val / 64 = j.val / 64
  · rw [if_pos h, h]
    simp [IntOp.cmpi, Scalar.select]
  · rw [if_neg h]
    have hne : ∀ a b : Fin 4, a.val ≠ b.val → IntOp.cmpi .eq (BitVec.ofNat 32 a.val) (BitVec.ofNat 32 b.val) = 0#1 := by decide +kernel
    rw [hne ⟨k.val / 64, by omega⟩ ⟨j.val / 64, by omega⟩ h]
    rfl

/-- The rows in front of the first layer's input: 112 rows of zeros, then the meta tokens. -/
theorem front_entry (c : Dev nD) (r : Fin 128) (j : Fin 1024) :
    V m c main_v1 (ix2 r j) = if h : 112 ≤ r.val then m ((c : Thread nD τ).loc main_arg1) (ix2 ⟨r.val - 112, by omega⟩ j) else (0 : EReal) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at
  by_cases h : r.val < 112
  · rw [dif_pos h, dif_neg (by omega)]
  · rw [dif_neg h, dif_pos (by omega)]

/-- The norm's gains are the first layer's row of the argument. -/
theorem gain_entry (c : Dev nD) (j : Fin 1024) : V m c main_v65 (ix2 0 j) = m ((c : Thread nD τ).loc main_arg2) (ix2 0 j) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at

/-- The weights are the argument. -/
theorem w_entry (c : Dev nD) (l : Fin 2) (k : Fin 1024) (j : Fin 2560) : V m c main_v62 (ix3 l k j) = m ((c : Thread nD τ).loc main_arg3) (ix3 l k j) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at

/-- The query gains, one row of 64 for every group. -/
theorem qgain_entry (c : Dev nD) (j : Fin 512) : V m c main_v71 (ix2 0 j) = m ((c : Thread nD τ).loc main_arg4) (ix2 0 ⟨j.val % 64, by omega⟩) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at

/-- The key gains, one row of 64 for every group. -/
theorem kgain_entry (c : Dev nD) (j : Fin 512) : V m c main_v77 (ix2 0 j) = m ((c : Thread nD τ).loc main_arg5) (ix2 0 ⟨j.val % 64, by omega⟩) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at

/-- The tokens are the argument. -/
theorem x_entry (c : Dev nD) (b : Fin 4) (s : Fin 8192) (j : Fin 1024) : V m c main_arg0 (ix3 b s j) = m ((c : Thread nD τ).loc main_arg0) (ix3 b s j) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten_cons, List.flatten_nil,
    List.append_nil, List.cons_append, List.nil_append]
  after_reads_at

end Cert.In

end
-- ==== Proof.InTile.lean ====
/- The input projection's results as functions of the residual stream and the weights, each with 112 rows of zeros in
   front, and one block of rows of them: what the block arithmetic gives on the rows of one tile. -/
module

public import proofs.«01_k».proof.Proof.InVec

@[expose] public section

noncomputable section

namespace Cert.InTile

open Idealize.ShloMosaic Cert.InVec
open scoped BigOperators

/-- Rows under 112 rows of zeros. -/
def padded {n : Nat} (f : Fin 4 → Fin 8208 → Fin n → EReal) (b : Fin 4) (s : Fin 8320) (j : Fin n) : EReal :=
  if h : 112 ≤ s.val then f b ⟨s.val - 112, by omega⟩ j else 0

/-- Padded rows at equal places are equal. -/
theorem padded_at {n : Nat} (f : Fin 4 → Fin 8208 → Fin n → EReal) {b b' : Fin 4} {s s' : Fin 8320} {j j' : Fin n}
    (hb : b.val = b'.val) (hs : s.val = s'.val) (hj : j.val = j'.val) : padded f b s j = padded f b' s' j' := by
  rw [Fin.ext hb, Fin.ext hs, Fin.ext hj]

/-- The first layer's stream: the meta tokens, then the batch's tokens. -/
def stream (x : (⟨3, ![4, 8192, 1024]⟩ : Shape).Idx → EReal) (f : (M 16 1024).Idx → EReal) (b : Fin 4) (s : Fin 8208) (j : Fin 1024) : EReal :=
  if h : s.val < 16 then f (ix2 ⟨s.val, h⟩ j) else x (ix3 b ⟨s.val - 16, by omega⟩ j)

section
variable (h : Fin 4 → Fin 8208 → Fin 1024 → EReal) (g : Fin 1024 → EReal) (w : Fin 1024 → Fin 2560 → EReal) (hg : Fin 64 → EReal)

/-- The normalised stream. -/
def norm (b : Fin 4) (s : Fin 8208) (j : Fin 1024) : EReal := Row.normed (h b s) g j

/-- 512 columns of the projection, from column `o` on. -/
def cut (o : Nat) (ho : o + 512 ≤ 2560) (b : Fin 4) (s : Fin 8208) (j : Fin 512) : EReal :=
  InRow.proj (norm h g b s) w ⟨o + j.val, by omega⟩

/-- The rotation's angle at a row of the stream. -/
def angle (s : Fin 8208) (e : Fin 8) : EReal := InRow.turn (BitVec.ofNat 32 s.val) e

/-- Normalised and rotated columns of the projection: the keys, and the queries before their scale. -/
def heads (o : Nat) (ho : o + 512 ≤ 2560) (b : Fin 4) (s : Fin 8208) (j : Fin 512) : EReal :=
  InRow.rope (InRow.headNorm (cut h g w o ho b s) hg) (fun e => Ideal.cos (angle s e)) (fun e => Ideal.sin (angle s e)) j

/-- The scaled queries. -/
def queries (b : Fin 4) (s : Fin 8208) (j : Fin 512) : EReal := heads h g w hg 0 (by omega) b s j * InRow.qScale
end

/-- The rows that the mask keeps are those from row 112 of the batch on. -/
theorem mask_eq : ∀ (p : Fin 13) (r : Fin 640), IntOp.cmpi .sge (IntOp.addi (Scalar.muli (BitVec.ofNat 32 p.val) 640#32) (BitVec.ofNat 32 r.val)) 112#32
    = if 112 ≤ 640 * p.val + r.val then 1#1 else 0#1 := by decide +kernel

/-- A row's position, counted from the first meta token. -/
theorem place_eq : ∀ s : Fin 8320, 112 ≤ s.val → IntOp.subi (BitVec.ofNat 32 s.val) 112#32 = BitVec.ofNat 32 (s.val - 112) := by decide +kernel

/-- A row of a tile, within its batch. -/
abbrev at_ (p : Fin 13) (r : Fin 640) : Fin 8320 := ⟨640 * p.val + r.val, by omega⟩

variable (h : Fin 4 → Fin 8208 → Fin 1024 → EReal) (g : Fin 1024 → EReal) (w : Fin 1024 → Fin 2560 → EReal) (hg : Fin 64 → EReal)
  (x : FVec Ideal (L 640 1024) .f32) (gv : FVec Ideal (M 1 1024) .f32) (wv : FVec Ideal (L 1024 2560) .bf16) (b : Fin 4) (p : Fin 13) (r : Fin 640)
  (hx : ∀ k : Fin 1024, x (ix3 0 r k) = padded h b (at_ p r) k) (hgv : ∀ k : Fin 1024, gv (ix2 0 k) = g k)
  (hwv : ∀ (k : Fin 1024) (j : Fin 2560), wv (ix3 0 k j) = w k j)

include hx hgv in
/-- The tile's normalised rows. -/
theorem normed_tile (k : Fin 1024) : normed (BitVec.ofNat 32 p.val) x gv (ix2 r k) = padded (norm h g) b (at_ p r) k := by
  rw [normed_apply, mask_eq]
  unfold padded
  by_cases hp : 112 ≤ 640 * p.val + r.val
  · rw [if_pos hp, dif_pos hp]
    refine (if_pos rfl).trans ?_
    unfold norm
    simp only [hx, hgv]
    unfold padded
    simp only [dif_pos hp]
  · rw [if_neg hp, dif_neg hp]
    rfl

include hx hgv hwv in
/-- The tile's rows of 512 columns of the projection. -/
theorem cut_tile (o : Nat) (ho : o + 512 ≤ 2560) (j : Fin 512) :
    ∑ k : Fin 1024, normed (BitVec.ofNat 32 p.val) x gv (ix2 r k) * cols wv o ho (ix3 0 k j) = padded (cut h g w o ho) b (at_ p r) j := by
  have hn := normed_tile h g x gv b p r hx hgv
  have hc : ∀ k : Fin 1024, cols wv o ho (ix3 0 k j) = w k ⟨o + j.val, by omega⟩ := fun k => hwv k ⟨o + j.val, by omega⟩
  simp only [hn, hc]
  unfold padded
  by_cases hp : 112 ≤ 640 * p.val + r.val
  · simp only [dif_pos hp]
    rfl
  · simp only [dif_neg hp, zero_mul, Finset.sum_const_zero]

/-- A lane's place among eight. -/
abbrev oct (d : Fin 128) : Fin 8 := ⟨d.val % 8, by omega⟩
/-- A channel's place within its group of 64. -/
abbrev place (k : Fin 512) : Fin 64 := ⟨k.val % 64, by omega⟩

variable (gm : FVec Ideal (M 256 256) .bf16) (qv : FVec Ideal (M 1 512) .f32) (ta tb tc : FVec Ideal (M 640 128) .f32)
  (hm : ∀ k j : Fin 256, gm (ix2 k j) = if k.val / 64 = j.val / 64 then Ideal.ofBits .f32 0x3C800000#32 else 0)
  (hq : ∀ k : Fin 512, qv (ix2 0 k) = hg (place k))
  (ha : ∀ d : Fin 128, ta (ix2 r d) = if d.val % 64 < 16 then Ideal.cos (InRow.turn (IntOp.subi (BitVec.ofNat 32 (at_ p r).val) 112#32) (oct d)) else 1)
  (hb : ∀ d : Fin 128, tb (ix2 r d) = if d.val % 64 < 8 then -Ideal.sin (InRow.turn (IntOp.subi (BitVec.ofNat 32 (at_ p r).val) 112#32) (oct d)) else 0)
  (hc : ∀ d : Fin 128, tc (ix2 r d) = if 8 ≤ d.val % 64 ∧ d.val % 64 < 16 then Ideal.sin (InRow.turn (IntOp.subi (BitVec.ofNat 32 (at_ p r).val) 112#32) (oct d)) else 0)

/-- The rotation of padded rows is the padded rotation. -/
theorem heads_tile (o : Nat) (ho : o + 512 ≤ 2560) (j : Fin 512) :
    InRow.rope (InRow.headNorm (fun k => padded (cut h g w o ho) b (at_ p r) k) hg)
      (fun e => Ideal.cos (InRow.turn (IntOp.subi (BitVec.ofNat 32 (at_ p r).val) 112#32) e))
      (fun e => Ideal.sin (InRow.turn (IntOp.subi (BitVec.ofNat 32 (at_ p r).val) 112#32) e)) j
      = padded (heads h g w hg o ho) b (at_ p r) j := by
  unfold padded
  by_cases hp : 112 ≤ 640 * p.val + r.val
  · simp only [dif_pos hp]
    have hs : IntOp.subi (BitVec.ofNat 32 (640 * p.val + r.val)) 112#32 = BitVec.ofNat 32 (640 * p.val + r.val - 112) := place_eq (at_ p r) hp
    rw [hs]
    rfl
  · simp only [dif_neg hp]
    rw [InRow.headNorm_zero, InRow.rope_zero]

include hx hgv hwv hm hq ha hb hc in
/-- The tile's keys. -/
theorem keys_tile (o : Nat) (ho : o + 512 ≤ 2560) (j : Fin 512) :
    keys (normed (BitVec.ofNat 32 p.val) x gv) (cols wv o ho) qv gm ta tb tc (ix3 0 r j) = padded (heads h g w hg o ho) b (at_ p r) j := by
  rw [keys_apply _ _ qv gm ta tb tc r j (fun e => Ideal.cos (InRow.turn (IntOp.subi (BitVec.ofNat 32 (at_ p r).val) 112#32) e))
    (fun e => Ideal.sin (InRow.turn (IntOp.subi (BitVec.ofNat 32 (at_ p r).val) 112#32) e)) hg hm hq ha hb hc]
  simp only [cut_tile h g w x gv wv b p r hx hgv hwv o ho]
  exact heads_tile h g w hg b p r o ho j

include hx hgv hwv hm hq ha hb hc in
/-- The tile's queries. -/
theorem queries_tile (j : Fin 512) :
    InVec.queries (normed (BitVec.ofNat 32 p.val) x gv) (cols wv 0 (by omega)) qv gm ta tb tc (ix3 0 j r) = padded (queries h g w hg) b (at_ p r) j := by
  rw [queries_apply _ _ qv gm ta tb tc r j (fun e => Ideal.cos (InRow.turn (IntOp.subi (BitVec.ofNat 32 (at_ p r).val) 112#32) e))
    (fun e => Ideal.sin (InRow.turn (IntOp.subi (BitVec.ofNat 32 (at_ p r).val) 112#32) e)) hg hm hq ha hb hc]
  simp only [cut_tile h g w x gv wv b p r hx hgv hwv 0 (by omega)]
  rw [heads_tile h g w hg b p r 0 (by omega) j]
  unfold padded queries
  by_cases hp : 112 ≤ 640 * p.val + r.val
  · simp only [dif_pos hp]
  · simp only [dif_neg hp, zero_mul]

include hx hgv hwv in
/-- The tile's rows of a plainly stored group. -/
theorem plain_tile (o : Nat) (ho : o + 512 ≤ 2560) (j : Fin 512) :
    plain (normed (BitVec.ofNat 32 p.val) x gv) (cols wv o ho) (ix3 0 r j) = padded (cut h g w o ho) b (at_ p r) j := by
  rw [plain_apply]
  exact cut_tile h g w x gv wv b p r hx hgv hwv o ho j

include hx hgv hwv in
/-- The tile's values. -/
theorem values_tile (o : Nat) (ho : o + 512 ≤ 2560) (e : Fin 4) (d : Fin 128) :
    values (normed (BitVec.ofNat 32 p.val) x gv) (cols wv o ho) (ix4 0 e d r) = padded (cut h g w o ho) b (at_ p r) ⟨128 * e.val + d.val, by omega⟩ := by
  rw [values_apply]
  exact cut_tile h g w x gv wv b p r hx hgv hwv o ho _

end Cert.InTile

end
-- ==== Proof.InArray.lean ====
/- What each input block of the first input projection's call holds in terms of the arguments, and so its six result
   arrays. -/
module

public import proofs.«01_k».proof.Proof.InBlock
public import proofs.«01_k».proof.Proof.InHost
public import proofs.«01_k».proof.Proof.InTile
public import Idealize.ShloMosaic.Lib.Claim
public import Idealize.ShloMosaic.Lib.Pipeline.ValueKit.Point

@[expose] public section

noncomputable section

namespace Cert.In

open Cert.Kernel3Ideal Cert.Kernel3Ideal.Gen Idealize.ShloMosaic Idealize.ShloMosaic.TcCoe Idealize.SL.Sem
open scoped BigOperators

variable (m : (ℓ : Loc nD τ sig) → Buf (Elt Ideal) ℓ)

/-- A grid point's batch. -/
abbrev bat (t : Fin cfg0.N) : Fin 4 := ⟨t.val / 13, by have : t.val < 52 := t.isLt; omega⟩
/-- A grid point's tile of 640 rows. -/
abbrev til (t : Fin cfg0.N) : Fin 13 := ⟨t.val % 13, by omega⟩

/-- A grid point's second coordinate is its tile. -/
theorem coord1 : ∀ t : Fin cfg0.N, (grid0.coords t 1).val = t.val % 13 := by decide +kernel
/-- The tokens' window: 640 rows from an element on, 128 rows behind the tile's own except for the first. -/
theorem index0 : ∀ t : Fin cfg0.N, win0_0.index t = ![t.val / 13, 640 * (t.val % 13) - 128, 0] := by decide +kernel
/-- The rows in front, whole. -/
theorem index1 : ∀ t : Fin cfg0.N, win0_1.index t = ![0, 0] := by decide +kernel
/-- The gains. -/
theorem index2 : ∀ t : Fin cfg0.N, win0_2.index t = ![0, 0] := by decide +kernel
/-- The first layer's weights. -/
theorem index3 : ∀ t : Fin cfg0.N, win0_3.index t = ![0, 0, 0] := by decide +kernel
/-- The query gains. -/
theorem index4 : ∀ t : Fin cfg0.N, win0_4.index t = ![0, 0] := by decide +kernel
/-- The key gains. -/
theorem index5 : ∀ t : Fin cfg0.N, win0_5.index t = ![0, 0] := by decide +kernel
/-- The cosines' rows. -/
theorem index6 : ∀ t : Fin cfg0.N, win0_6.index t = ![t.val % 13, 0] := by decide +kernel
/-- The negated sines' rows. -/
theorem index7 : ∀ t : Fin cfg0.N, win0_7.index t = ![t.val % 13, 0] := by decide +kernel
/-- The sines' rows. -/
theorem index8 : ∀ t : Fin cfg0.N, win0_8.index t = ![t.val % 13, 0] := by decide +kernel
/-- The weights of a mean. -/
theorem index9 : ∀ t : Fin cfg0.N, win0_9.index t = ![0, 0] := by decide +kernel
/-- The queries' columns. -/
theorem index10 : ∀ t : Fin cfg0.N, win0_10.index t = ![t.val / 13, 0, t.val % 13] := by decide +kernel
/-- The keys' rows. -/
theorem index11 : ∀ t : Fin cfg0.N, win0_11.index t = ![t.val / 13, t.val % 13, 0] := by decide +kernel
/-- The values' columns. -/
theorem index12 : ∀ t : Fin cfg0.N, win0_12.index t = ![t.val / 13, 0, 0, t.val % 13] := by decide +kernel
/-- The recurrent heads' rows. -/
theorem index13 : ∀ t : Fin cfg0.N, win0_13.index t = ![t.val / 13, t.val % 13, 0] := by decide +kernel
/-- The gate's rows. -/
theorem index14 : ∀ t : Fin cfg0.N, win0_14.index t = ![t.val / 13, t.val % 13, 0] := by decide +kernel
/-- The residual stream's rows. -/
theorem index15 : ∀ t : Fin cfg0.N, win0_15.index t = ![t.val / 13, t.val % 13, 0] := by decide +kernel

/-- The tokens' block. -/
theorem block0 (c : Dev nD) (t : Fin cfg0.N) (r : Fin 640) (s : Fin 8192) (hs : s.val = 640 * (t.val % 13) - 128 + r.val) (j : Fin 1024) :
    iblk m c 0 t (ix3 0 r j) = m ((c : Thread nD τ).loc main_arg0) (ix3 (bat t) s j) := by
  refine Eq.trans ?_ (x_entry m c (bat t) s j)
  blk_simp [iblk]
  refine congrArg (V m c _) (funext fun a => Fin.ext ?_)
  refine (Pipeline.Window.rect_emb_val_off win0_0 t _ a).trans ?_
  fin_cases a <;> simp [index0 t, hs]

/-- The block of the rows in front. -/
theorem block1 (c : Dev nD) (t : Fin cfg0.N) (r : Fin 128) (j : Fin 1024) : iblk m c 1 t (ix2 r j)
    = if h : 112 ≤ r.val then m ((c : Thread nD τ).loc main_arg1) (ix2 ⟨r.val - 112, by omega⟩ j) else (0 : EReal) := by
  refine Eq.trans ?_ (front_entry m c r j)
  blk_ext [iblk, index1 t]

/-- The gains' block. -/
theorem block2 (c : Dev nD) (t : Fin cfg0.N) (j : Fin 1024) : iblk m c 2 t (ix2 0 j) = m ((c : Thread nD τ).loc main_arg2) (ix2 0 j) := by
  refine Eq.trans ?_ (gain_entry m c j)
  blk_ext [iblk, index2 t]

/-- The weights' block. -/
theorem block3 (c : Dev nD) (t : Fin cfg0.N) (k : Fin 1024) (j : Fin 2560) : iblk m c 3 t (ix3 0 k j) = m ((c : Thread nD τ).loc main_arg3) (ix3 0 k j) := by
  refine Eq.trans ?_ (w_entry m c 0 k j)
  blk_ext [iblk, index3 t]

/-- The query gains' block. -/
theorem block4 (c : Dev nD) (t : Fin cfg0.N) (j : Fin 512) : iblk m c 4 t (ix2 0 j) = m ((c : Thread nD τ).loc main_arg4) (ix2 0 ⟨j.val % 64, by omega⟩) := by
  refine Eq.trans ?_ (qgain_entry m c j)
  blk_ext [iblk, index4 t]

/-- The key gains' block. -/
theorem block5 (c : Dev nD) (t : Fin cfg0.N) (j : Fin 512) : iblk m c 5 t (ix2 0 j) = m ((c : Thread nD τ).loc main_arg5) (ix2 0 ⟨j.val % 64, by omega⟩) := by
  refine Eq.trans ?_ (kgain_entry m c j)
  blk_ext [iblk, index5 t]

/-- The cosines' block. -/
theorem block6 (c : Dev nD) (t : Fin cfg0.N) (r : Fin 640) (d : Fin 128) : iblk m c 6 t (ix2 r d)
    = if d.val % 64 < 16 then Ideal.cos (InRow.turn (IntOp.subi (BitVec.ofNat 32 (InTile.at_ (til t) r).val) 112#32) ⟨d.val % 8, by omega⟩) else (1 : EReal) := by
  refine Eq.trans ?_ (cos_entry m c (InTile.at_ (til t) r) d)
  blk_ext [iblk, index6 t]

/-- The negated sines' block. -/
theorem block7 (c : Dev nD) (t : Fin cfg0.N) (r : Fin 640) (d : Fin 128) : iblk m c 7 t (ix2 r d)
    = if d.val % 64 < 8 then -Ideal.sin (InRow.turn (IntOp.subi (BitVec.ofNat 32 (InTile.at_ (til t) r).val) 112#32) ⟨d.val % 8, by omega⟩) else (0 : EReal) := by
  refine Eq.trans ?_ (sina_entry m c (InTile.at_ (til t) r) d)
  blk_ext [iblk, index7 t]

/-- The sines' block. -/
theorem block8 (c : Dev nD) (t : Fin cfg0.N) (r : Fin 640) (d : Fin 128) : iblk m c 8 t (ix2 r d)
    = if 8 ≤ d.val % 64 ∧ d.val % 64 < 16 then Ideal.sin (InRow.turn (IntOp.subi (BitVec.ofNat 32 (InTile.at_ (til t) r).val) 112#32) ⟨d.val % 8, by omega⟩) else (0 : EReal) := by
  refine Eq.trans ?_ (sinb_entry m c (InTile.at_ (til t) r) d)
  blk_ext [iblk, index8 t]

/-- The block of the weights of a mean. -/
theorem block9 (c : Dev nD) (t : Fin cfg0.N) (k j : Fin 256) : iblk m c 9 t (ix2 k j) = if k.val / 64 = j.val / 64 then Ideal.ofBits .f32 0x3C800000#32 else (0 : EReal) := by
  refine Eq.trans ?_ (gmean_entry m c k j)
  blk_ext [iblk, index9 t]

/-- The first layer's stream, of the arguments. -/
abbrev hs (c : Dev nD) : Fin 4 → Fin 8208 → Fin 1024 → EReal :=
  InTile.stream (m ((c : Thread nD τ).loc main_arg0)) (m ((c : Thread nD τ).loc main_arg1))
/-- The first layer's gains. -/
abbrev gs (c : Dev nD) : Fin 1024 → EReal := fun k => m ((c : Thread nD τ).loc main_arg2) (ix2 0 k)
/-- The first layer's weights. -/
abbrev ws (c : Dev nD) : Fin 1024 → Fin 2560 → EReal := fun k j => m ((c : Thread nD τ).loc main_arg3) (ix3 0 k j)
/-- The first layer's query gains. -/
abbrev qs (c : Dev nD) : Fin 64 → EReal := fun k => m ((c : Thread nD τ).loc main_arg4) (ix2 0 k)
/-- The first layer's key gains. -/
abbrev ks (c : Dev nD) : Fin 64 → EReal := fun k => m ((c : Thread nD τ).loc main_arg5) (ix2 0 k)

/-- A tile of the residual stream: the first has the rows in front, every other one is its window's block. -/
def tile (c : Dev nD) (t : Fin cfg0.N) : FVec Ideal S1x640x1024 .f32 :=
  if t.val % 13 = 0 then InVec.first (iblk m c 0 t) (iblk m c 1 t) else iblk m c 0 t

/-- A tile's rows are the padded stream's. -/
theorem tile_entry (c : Dev nD) (t : Fin cfg0.N) (r : Fin 640) (j : Fin 1024) :
    tile m c t (ix3 0 r j) = InTile.padded (hs m c) (bat t) (InTile.at_ (til t) r) j := by
  unfold tile InTile.padded hs InTile.stream
  by_cases ht : t.val % 13 = 0
  · rw [if_pos ht]
    rw [InVec.first_apply]
    by_cases h128 : r.val < 128
    · rw [dif_pos h128]
      refine (block1 m c t ⟨r.val, h128⟩ j).trans ?_
      by_cases h112 : 112 ≤ r.val
      · have e : 640 * (t.val % 13) + r.val - 112 = r.val - 112 := by omega
        rw [dif_pos h112, dif_pos (by show 112 ≤ 640 * (t.val % 13) + r.val; omega), dif_pos (by show 640 * (t.val % 13) + r.val - 112 < 16; omega)]
        exact congrArg (fun i => m ((c : Thread nD τ).loc main_arg1) (ix2 i j)) (Fin.ext e.symm)
      · rw [dif_neg h112, dif_neg (by show ¬112 ≤ 640 * (t.val % 13) + r.val; omega)]
    · rw [dif_neg h128, dif_pos (by show 112 ≤ 640 * (t.val % 13) + r.val; omega), dif_neg (by show ¬640 * (t.val % 13) + r.val - 112 < 16; omega)]
      exact block0 m c t ⟨r.val - 128, by omega⟩ ⟨640 * (t.val % 13) + r.val - 112 - 16, by omega⟩ (by show 640 * (t.val % 13) + r.val - 112 - 16 = 640 * (t.val % 13) - 128 + (r.val - 128); omega) j
  · rw [if_neg ht, dif_pos (by show 112 ≤ 640 * (t.val % 13) + r.val; omega), dif_neg (by show ¬640 * (t.val % 13) + r.val - 112 < 16; omega)]
    exact block0 m c t r ⟨640 * (t.val % 13) + r.val - 112 - 16, by omega⟩ (by show 640 * (t.val % 13) + r.val - 112 - 16 = 640 * (t.val % 13) - 128 + r.val; omega) j

/-- What a grid point leaves of the queries. -/
theorem left10 (c : Dev nD) (t : Fin cfg0.N) : (dats m 0 c).flushed 10 t = (cfg0.win 10).cut (grid0.coords t) (InVec.queries (InVec.normed (BitVec.ofNat 32 (til t).val) (tile m c t) (iblk m c 2 t)) (InVec.cols (iblk m c 3 t) 0 (by omega)) (iblk m c 4 t) (iblk m c 9 t) (iblk m c 6 t) (iblk m c 7 t) (iblk m c 8 t)) := by
  unfold tile
  by_cases ht : t.val % 13 = 0
  · rw [Value.flushed10_A m c t ht (by omega), out10_A, if_pos ht, coord1]
  · rw [Value.flushed10_B m c t ht (by omega), out10_B, if_neg ht, coord1]

/-- What a grid point leaves of the keys. -/
theorem left11 (c : Dev nD) (t : Fin cfg0.N) : (dats m 0 c).flushed 11 t = (cfg0.win 11).cut (grid0.coords t) (InVec.keys (InVec.normed (BitVec.ofNat 32 (til t).val) (tile m c t) (iblk m c 2 t)) (InVec.cols (iblk m c 3 t) 512 (by omega)) (iblk m c 5 t) (iblk m c 9 t) (iblk m c 6 t) (iblk m c 7 t) (iblk m c 8 t)) := by
  unfold tile
  by_cases ht : t.val % 13 = 0
  · rw [Value.flushed11_A m c t ht (by omega), out11_A, if_pos ht, coord1]
  · rw [Value.flushed11_B m c t ht (by omega), out11_B, if_neg ht, coord1]

/-- What a grid point leaves of the values. -/
theorem left12 (c : Dev nD) (t : Fin cfg0.N) : (dats m 0 c).flushed 12 t = (cfg0.win 12).cut (grid0.coords t) (InVec.values (InVec.normed (BitVec.ofNat 32 (til t).val) (tile m c t) (iblk m c 2 t)) (InVec.cols (iblk m c 3 t) 1024 (by omega))) := by
  unfold tile
  by_cases ht : t.val % 13 = 0
  · rw [Value.flushed12_A m c t ht (by omega), out12_A, if_pos ht, coord1]
  · rw [Value.flushed12_B m c t ht (by omega), out12_B, if_neg ht, coord1]

/-- What a grid point leaves of the recurrent heads' input. -/
theorem left13 (c : Dev nD) (t : Fin cfg0.N) : (dats m 0 c).flushed 13 t = (cfg0.win 13).cut (grid0.coords t) (InVec.plain (InVec.normed (BitVec.ofNat 32 (til t).val) (tile m c t) (iblk m c 2 t)) (InVec.cols (iblk m c 3 t) 1536 (by omega))) := by
  unfold tile
  by_cases ht : t.val % 13 = 0
  · rw [Value.flushed13_A m c t ht (by omega), out13_A, if_pos ht, coord1]
  · rw [Value.flushed13_B m c t ht (by omega), out13_B, if_neg ht, coord1]

/-- What a grid point leaves of the gate. -/
theorem left14 (c : Dev nD) (t : Fin cfg0.N) : (dats m 0 c).flushed 14 t = (cfg0.win 14).cut (grid0.coords t) (InVec.plain (InVec.normed (BitVec.ofNat 32 (til t).val) (tile m c t) (iblk m c 2 t)) (InVec.cols (iblk m c 3 t) 2048 (by omega))) := by
  unfold tile
  by_cases ht : t.val % 13 = 0
  · rw [Value.flushed14_A m c t ht (by omega), out14_A, if_pos ht, coord1]
  · rw [Value.flushed14_B m c t ht (by omega), out14_B, if_neg ht, coord1]

/-- What a grid point leaves of the residual stream. -/
theorem left15 (c : Dev nD) (t : Fin cfg0.N) : (dats m 0 c).flushed 15 t = (cfg0.win 15).cut (grid0.coords t) (tile m c t) := by
  unfold tile
  by_cases ht : t.val % 13 = 0
  · rw [Value.flushed15_A m c t ht (by omega), out15_A, if_pos ht]
  · rw [Value.flushed15_B m c t ht (by omega), out15_B, if_neg ht]

/-- The whole array of the queries. -/
theorem array10 (c : Dev nD) : (dats m 0 c).arrAt 10 cfg0.N = fun y : S4x512x8320.Idx => InTile.padded (InTile.queries (hs m c) (gs m c) (ws m c) (qs m c)) (y 0) (y 2) (y 1) := by
  refine (dats m 0 c).arrAt_eq_of_covers 10 _ (by decide +kernel) fun t hf y => ?_
  change (dats m 0 c).flushed 10 t y = _
  rw [left10]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.queries_tile (hs m c) (gs m c) (ws m c) (qs m c) (tile m c t) (iblk m c 2 t) (iblk m c 3 t) (bat t) (til t) (y 2) (fun k => tile_entry m c t (y 2) k) (fun k => block2 m c t k) (fun k j => block3 m c t k j) (iblk m c 9 t) (iblk m c 4 t) (iblk m c 6 t) (iblk m c 7 t) (iblk m c 8 t) (fun k j => block9 m c t k j) (fun k => block4 m c t k) (fun d => block6 m c t (y 2) d) (fun d => block7 m c t (y 2) d) (fun d => block8 m c t (y 2) d) (y 1)
  refine ((congrArg _ hy).symm.trans h).trans (InTile.padded_at (n := 512) _ ?_ ?_ ?_)
  · blk_simp [index10 t]
  · refine Eq.trans (b := 640 * (t.val % 13) + (y 2).val) rfl ?_
    blk_simp [index10 t]
    omega
  · blk_simp [index10 t]

/-- The whole array of the keys. -/
theorem array11 (c : Dev nD) : (dats m 0 c).arrAt 11 cfg0.N = fun y : S4x8320x512.Idx => InTile.padded (InTile.heads (hs m c) (gs m c) (ws m c) (ks m c) 512 (by omega)) (y 0) (y 1) (y 2) := by
  refine (dats m 0 c).arrAt_eq_of_covers 11 _ (by decide +kernel) fun t hf y => ?_
  change (dats m 0 c).flushed 11 t y = _
  rw [left11]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.keys_tile (hs m c) (gs m c) (ws m c) (ks m c) (tile m c t) (iblk m c 2 t) (iblk m c 3 t) (bat t) (til t) (y 1) (fun k => tile_entry m c t (y 1) k) (fun k => block2 m c t k) (fun k j => block3 m c t k j) (iblk m c 9 t) (iblk m c 5 t) (iblk m c 6 t) (iblk m c 7 t) (iblk m c 8 t) (fun k j => block9 m c t k j) (fun k => block5 m c t k) (fun d => block6 m c t (y 1) d) (fun d => block7 m c t (y 1) d) (fun d => block8 m c t (y 1) d) 512 (by omega) (y 2)
  refine ((congrArg _ hy).symm.trans h).trans (InTile.padded_at (n := 512) _ ?_ ?_ ?_)
  · blk_simp [index11 t]
  · refine Eq.trans (b := 640 * (t.val % 13) + (y 1).val) rfl ?_
    blk_simp [index11 t]
    omega
  · blk_simp [index11 t]

/-- The whole array of the values. -/
theorem array12 (c : Dev nD) : (dats m 0 c).arrAt 12 cfg0.N = fun y : S4x4x128x8320.Idx => InTile.padded (InTile.cut (hs m c) (gs m c) (ws m c) 1024 (by omega)) (y 0) (y 3) ⟨128 * (y 1).val + (y 2).val, by have h1 : (y 1).val < 4 := (y 1).isLt; have h2 : (y 2).val < 128 := (y 2).isLt; omega⟩ := by
  refine (dats m 0 c).arrAt_eq_of_covers 12 _ (by decide +kernel) fun t hf y => ?_
  change (dats m 0 c).flushed 12 t y = _
  rw [left12]
  have hy0 : (y 0).val < 1 := (y 0).isLt
  have hy : ix4 0 (y 1) (y 2) (y 3) = y := by
    funext a
    match a with
    | ⟨0, _⟩ => exact Fin.ext (by show 0 = (y 0).val; omega)
    | ⟨1, _⟩ => rfl
    | ⟨2, _⟩ => rfl
    | ⟨3, _⟩ => rfl
  have h := InTile.values_tile (hs m c) (gs m c) (ws m c) (tile m c t) (iblk m c 2 t) (iblk m c 3 t) (bat t) (til t) (y 3) (fun k => tile_entry m c t (y 3) k) (fun k => block2 m c t k) (fun k j => block3 m c t k j) 1024 (by omega) (y 1) (y 2)
  refine ((congrArg _ hy).symm.trans h).trans (InTile.padded_at (n := 512) _ ?_ ?_ ?_)
  · blk_simp [index12 t]
  · refine Eq.trans (b := 640 * (t.val % 13) + (y 3).val) rfl ?_
    blk_simp [index12 t]
    omega
  · blk_simp [index12 t]

/-- The whole array of the recurrent heads' input. -/
theorem array13 (c : Dev nD) : (dats m 0 c).arrAt 13 cfg0.N = fun y : S4x8320x512.Idx => InTile.padded (InTile.cut (hs m c) (gs m c) (ws m c) 1536 (by omega)) (y 0) (y 1) (y 2) := by
  refine (dats m 0 c).arrAt_eq_of_covers 13 _ (by decide +kernel) fun t hf y => ?_
  change (dats m 0 c).flushed 13 t y = _
  rw [left13]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.plain_tile (hs m c) (gs m c) (ws m c) (tile m c t) (iblk m c 2 t) (iblk m c 3 t) (bat t) (til t) (y 1) (fun k => tile_entry m c t (y 1) k) (fun k => block2 m c t k) (fun k j => block3 m c t k j) 1536 (by omega) (y 2)
  refine ((congrArg _ hy).symm.trans h).trans (InTile.padded_at (n := 512) _ ?_ ?_ ?_)
  · blk_simp [index13 t]
  · refine Eq.trans (b := 640 * (t.val % 13) + (y 1).val) rfl ?_
    blk_simp [index13 t]
    omega
  · blk_simp [index13 t]

/-- The whole array of the gate. -/
theorem array14 (c : Dev nD) : (dats m 0 c).arrAt 14 cfg0.N = fun y : S4x8320x512.Idx => InTile.padded (InTile.cut (hs m c) (gs m c) (ws m c) 2048 (by omega)) (y 0) (y 1) (y 2) := by
  refine (dats m 0 c).arrAt_eq_of_covers 14 _ (by decide +kernel) fun t hf y => ?_
  change (dats m 0 c).flushed 14 t y = _
  rw [left14]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.plain_tile (hs m c) (gs m c) (ws m c) (tile m c t) (iblk m c 2 t) (iblk m c 3 t) (bat t) (til t) (y 1) (fun k => tile_entry m c t (y 1) k) (fun k => block2 m c t k) (fun k j => block3 m c t k j) 2048 (by omega) (y 2)
  refine ((congrArg _ hy).symm.trans h).trans (InTile.padded_at (n := 512) _ ?_ ?_ ?_)
  · blk_simp [index14 t]
  · refine Eq.trans (b := 640 * (t.val % 13) + (y 1).val) rfl ?_
    blk_simp [index14 t]
    omega
  · blk_simp [index14 t]

/-- The whole array of the residual stream. -/
theorem array15 (c : Dev nD) : (dats m 0 c).arrAt 15 cfg0.N = fun y : S4x8320x1024.Idx => InTile.padded (hs m c) (y 0) (y 1) (y 2) := by
  refine (dats m 0 c).arrAt_eq_of_covers 15 _ (by decide +kernel) fun t hf y => ?_
  change (dats m 0 c).flushed 15 t y = _
  rw [left15]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := tile_entry m c t (y 1) (y 2)
  refine ((congrArg _ hy).symm.trans h).trans (InTile.padded_at (n := 1024) _ ?_ ?_ ?_)
  · blk_simp [index15 t]
  · refine Eq.trans (b := 640 * (t.val % 13) + (y 1).val) rfl ?_
    blk_simp [index15 t]
    omega
  · blk_simp [index15 t]

end Cert.In

end
-- ==== Proof.InRef.lean ====
/- The first input projection's reference, read at the elements of its six results. -/
module

public import proofs.«01_k».proof.Proof.InTile
public import proofs.«01_k».proof.Proof.Gen.Reference3Ideal.Run
public import proofs.«01_k».proof.Proof.Gen.Reference3Ideal.Read
public import Idealize.ShloMosaic.Lib.Pipeline.Value
public import Idealize.ShloMosaic.Lib.Pipeline.ValueKit.Point

@[expose] public section

noncomputable section

namespace Cert.InRef

open Cert.Reference3Ideal Cert.Reference3Ideal.Gen Idealize.ShloMosaic Idealize.ShloMosaic.TcCoe Idealize.SL.Sem
open scoped BigOperators

variable {F : FTy → Type} [FloatOps F]

/-- The root-mean-square normalisation of every row, with its gains. -/
def norm (x : Vec F S4x8208x1024 .f32) (g : Vec F S1024 .f32) : Vec F S4x8208x1024 .f32 :=
  mulf (mulf x (broadcastInDim S4x8208x1024 ![0, 1, 2] bcast_S4x8208x1_S4x8208x1024_0_1_2
      (Host.rsqrt (addf (Host.divf (broadcastInDim S4x8208x1 ![0, 1] bcast_S4x8208_S4x8208x1_0_1
          (Host.reduceAdd (mulf x x) (constant S_ .f32 0x00000000#32) reducesTo_S4x8208x1024_S4x8208_d2 h_S_))
          (broadcastInDim S4x8208x1 ![] bcast_S_S4x8208x1 (constant S_ .f32 0x44800000#32)))
        (broadcastInDim S4x8208x1 ![] bcast_S_S4x8208x1 (constant S_ .f32 0x358637BD#32))))))
    (broadcastInDim S4x8208x1024 ![0, 1, 2] bcast_S1x1x1024_S4x8208x1024_0_1_2 (broadcastInDim S1x1x1024 ![2] bcast_S1024_S1x1x1024_2 g))

/-- The normalisation of every head's halves, with their gains. -/
def headNorm (z : Vec F S4x8208x4x2x64 .f32) (g : Vec F S64 .f32) : Vec F S4x8208x4x2x64 .f32 :=
  mulf (mulf z (broadcastInDim S4x8208x4x2x64 ![0, 1, 2, 3, 4] bcast_S4x8208x4x2x1_S4x8208x4x2x64_0_1_2_3_4
      (Host.rsqrt (addf (Host.divf (broadcastInDim S4x8208x4x2x1 ![0, 1, 2, 3] bcast_S4x8208x4x2_S4x8208x4x2x1_0_1_2_3
          (Host.reduceAdd (mulf z z) (constant S_ .f32 0x00000000#32) reducesTo_S4x8208x4x2x64_S4x8208x4x2_d4 h_S_))
          (broadcastInDim S4x8208x4x2x1 ![] bcast_S_S4x8208x4x2x1 (constant S_ .f32 0x42800000#32)))
        (broadcastInDim S4x8208x4x2x1 ![] bcast_S_S4x8208x4x2x1 (constant S_ .f32 0x358637BD#32))))))
    (broadcastInDim S4x8208x4x2x64 ![0, 1, 2, 3, 4] bcast_S1x1x1x1x64_S4x8208x4x2x64_0_1_2_3_4 (broadcastInDim S1x1x1x1x64 ![4] bcast_S64_S1x1x1x1x64_4 g))

/-- A table of angles over the rotated channels. -/
def spread (t : Vec F S8208x8 .f32) : Vec F S4x8208x4x2x8 .f32 :=
  broadcastInDim S4x8208x4x2x8 ![0, 1, 2, 3, 4] bcast_S1x8208x1x1x8_S4x8208x4x2x8_0_1_2_3_4 (broadcastInDim S1x8208x1x1x8 ![1, 4] bcast_S8208x8_S1x8208x1x1x8_1_4 t)

/-- The rotation of the first sixteen channels of every half. -/
def rope (u : Vec F S4x8208x4x2x64 .f32) (co si : Vec F S8208x8 .f32) : Vec F S4x8208x4x2x64 .f32 :=
  have a : Vec F S4x8208x4x2x8 .f32 := extractStridedSlice S4x8208x4x2x8 ![0, 0, 0, 0, 0] u slices_S4x8208x4x2x64_S4x8208x4x2x8_0_0_0_0_0
  have b : Vec F S4x8208x4x2x8 .f32 := extractStridedSlice S4x8208x4x2x8 ![0, 0, 0, 0, 8] u slices_S4x8208x4x2x64_S4x8208x4x2x8_0_0_0_0_8
  concatenate S4x8208x4x2x64 4
    [⟨S4x8208x4x2x8, subf (mulf a (spread co)) (mulf b (spread si))⟩,
     ⟨S4x8208x4x2x8, addf (mulf b (spread co)) (mulf a (spread si))⟩,
     ⟨S4x8208x4x2x48, extractStridedSlice S4x8208x4x2x48 ![0, 0, 0, 0, 16] u slices_S4x8208x4x2x64_S4x8208x4x2x48_0_0_0_0_16⟩]
    concatenates_S4x8208x4x2x8_S4x8208x4x2x8_S4x8208x4x2x48_S4x8208x4x2x64_d4

/-- A channel of a head's half, among all 512. -/
abbrev chan (h : Fin 4) (i : Fin 2) (e : Fin 64) : Fin 512 := ⟨128 * h.val + 64 * i.val + e.val, by omega⟩

/-- The normalisation at an element. -/
theorem norm_apply (x : Vec Ideal S4x8208x1024 .f32) (g : Vec Ideal S1024 .f32)
    (b : Fin 4) (s : Fin 8208) (j : Fin 1024) : norm x g (ix3 b s j) = Row.normed (fun k => x (ix3 b s k)) (fun k => g (ix1 k)) j := by
  unfold norm
  pointwise
  rfl

/-- The normalisation within a half, at an element. -/
theorem headNorm_apply (z : Vec Ideal S4x8208x4x2x64 .f32) (g : Vec Ideal S64 .f32) (u : Fin 512 → EReal)
    (b : Fin 4) (s : Fin 8208) (h : Fin 4) (i : Fin 2) (e : Fin 64) (hu : ∀ e : Fin 64, z (ix5 b s h i e) = u (chan h i e)) :
    headNorm z g (ix5 b s h i e) = InRow.headNorm u (fun k => g (ix1 k)) (chan h i e) := by
  unfold headNorm
  pointwise
  simp only [hu]
  unfold InRow.headNorm InRow.meanSq
  have h1 : (⟨(chan h i e).val % 64, by omega⟩ : Fin 64) = e := Fin.ext (by show (128 * h.val + 64 * i.val + e.val) % 64 = e.val; omega)
  have h2 : ∀ k : Fin 64, (⟨64 * ((chan h i e).val / 64) + k.val, by omega⟩ : Fin 512) = chan h i k := fun k =>
    Fin.ext (by show 64 * ((128 * h.val + 64 * i.val + e.val) / 64) + k.val = 128 * h.val + 64 * i.val + k.val; omega)
  simp only [h1, h2]

/-- The rotation at an element. -/
theorem rope_apply (z : Vec Ideal S4x8208x4x2x64 .f32) (co si : Vec Ideal S8208x8 .f32) (u : Fin 512 → EReal)
    (b : Fin 4) (s : Fin 8208) (h : Fin 4) (i : Fin 2) (e : Fin 64) (hu : ∀ e : Fin 64, z (ix5 b s h i e) = u (chan h i e)) :
    rope z co si (ix5 b s h i e) = InRow.rope u (fun k => co (ix2 s k)) (fun k => si (ix2 s k)) (chan h i e) := by
  unfold rope spread
  pointwise
  simp only [hu]
  unfold InRow.rope
  have hc : (chan h i e).val % 64 = e.val := by show (128 * h.val + 64 * i.val + e.val) % 64 = e.val; omega
  rw [hc]
  by_cases h1 : e.val < 8
  · have e1 : (⟨(chan h i e).val % 8, by omega⟩ : Fin 8) = ⟨e.val, h1⟩ :=
      Fin.ext (by show (128 * h.val + 64 * i.val + e.val) % 8 = e.val; omega)
    have e2 : (⟨((chan h i e).val + 8) % 512, by omega⟩ : Fin 512) = chan h i ⟨8 + e.val, by omega⟩ :=
      Fin.ext (by show (128 * h.val + 64 * i.val + e.val + 8) % 512 = 128 * h.val + 64 * i.val + (8 + e.val); omega)
    rw [dif_pos h1, if_pos h1, e1, e2]
  · rw [dif_neg h1, if_neg h1]
    by_cases h2 : e.val - 8 < 8
    · have e1 : (⟨(chan h i e).val % 8, by omega⟩ : Fin 8) = ⟨e.val - 8, h2⟩ :=
        Fin.ext (by show (128 * h.val + 64 * i.val + e.val) % 8 = e.val - 8; omega)
      have e2 : (⟨(chan h i e).val - 8, by omega⟩ : Fin 512) = chan h i ⟨e.val - 8, by omega⟩ :=
        Fin.ext (by show 128 * h.val + 64 * i.val + e.val - 8 = 128 * h.val + 64 * i.val + (e.val - 8); omega)
      have e3 : chan h i ⟨8 + (e.val - 8), by omega⟩ = chan h i e := Fin.ext (by show 128 * h.val + 64 * i.val + (8 + (e.val - 8)) = 128 * h.val + 64 * i.val + e.val; omega)
      rw [dif_pos h2, if_pos (by omega : e.val < 16), e1, e2, e3]
    · have e3 : chan h i ⟨16 + (e.val - 8 - 8), by omega⟩ = chan h i e :=
        Fin.ext (by show 128 * h.val + 64 * i.val + (16 + (e.val - 8 - 8)) = 128 * h.val + 64 * i.val + e.val; omega)
      rw [dif_neg h2, if_neg (by omega : ¬ e.val < 16), e3]

/-- The word zero as a number. -/
theorem zero_word : (FloatOps.sitofp FTy.f32 0#32 : Ideal .f32) = (0 : EReal) := by
  simp [FloatOps.sitofp]

/-- 512 channels under 112 rows of zeros. -/
def rows (z : Vec F S4x8208x512 .f32) : Vec F S4x8320x512 .f32 :=
  pad S4x8320x512 ![0, 112, 0] ![0, 0, 0] ![0, 0, 0] z (sitofp .f32 (constantI S_ 32 0#32) : Vec F S_ .f32) pads_S4x8208x512_S4x8320x512_000_11200_000 h_S_

/-- The padded channels at an element. -/
theorem rows_apply (z : Vec Ideal S4x8208x512 .f32) (f : Fin 4 → Fin 8208 → Fin 512 → EReal) (hf : ∀ b s j, z (ix3 b s j) = f b s j)
    (b : Fin 4) (s : Fin 8320) (j : Fin 512) : rows z (ix3 b s j) = InTile.padded f b s j := by
  unfold rows InTile.padded
  pointwise
  have hs : s.val - 112 < 8208 := by omega
  by_cases h : 112 ≤ s.val
  · rw [dif_pos h, ← hf]
    first
      | rw [dif_pos ⟨h, hs⟩]
      | rw [dif_pos h]
  · rw [dif_neg h]
    first
      | rw [dif_neg (fun e => h e.1)]
      | rw [dif_neg h]
    exact zero_word

/-- A row's head and half at their places in the row of 512. -/
def split (z : Vec F S4x8208x512 .f32) : Vec F S4x8208x4x2x64 .f32 := shapeCast _ z shapeCasts_S4x8208x512_S4x8208x4x2x64

/-- The heads' channels at their places. -/
theorem split_apply (z : Vec Ideal S4x8208x512 .f32) (b : Fin 4) (s : Fin 8208) (h : Fin 4) (i : Fin 2) (e : Fin 64) :
    split z (ix5 b s h i e) = z (ix3 b s (chan h i e)) := by
  unfold split
  pointwise
  exact congrArg (fun k => z (ix3 b s k)) (Fin.ext (by show h.val * 128 + i.val * 64 + e.val = 128 * h.val + 64 * i.val + e.val; omega))

/-- The heads' channels side by side. -/
def merge (z : Vec F S4x8208x4x2x64 .f32) : Vec F S4x8208x512 .f32 := shapeCast _ z shapeCasts_S4x8208x4x2x64_S4x8208x512

/-- The row of 512 at a channel, of heads that are known at every place. -/
theorem merge_apply (z : Vec Ideal S4x8208x4x2x64 .f32) (f : Fin 4 → Fin 8208 → Fin 512 → EReal)
    (hf : ∀ b s h i e, z (ix5 b s h i e) = f b s (chan h i e)) (b : Fin 4) (s : Fin 8208) (j : Fin 512) : merge z (ix3 b s j) = f b s j := by
  unfold merge
  pointwise
  rw [hf]
  exact congrArg (f b s) (Fin.ext (by show 128 * (j.val / 128) + 64 * (j.val / 64 % 2) + j.val % 64 = j.val; omega))

variable (x0 : Vec Ideal S4x8192x1024 .f32) (x1 : Vec Ideal S16x1024 .f32) (x2 : Vec Ideal S2x1024 .f32) (x3 : Vec Ideal S2x1024x2560 .f32)

/-- The first layer's gains. -/
abbrev gs : Fin 1024 → EReal := fun k => x2 (ix2 0 k)

/-- The first layer's weights. -/
abbrev ws : Fin 1024 → Fin 2560 → EReal := fun k j => x3 (ix3 0 k j)

/-- The first layer's gains of the heads. -/
abbrev hgs (x4 : Vec Ideal S2x64 .f32) : Fin 64 → EReal := fun k => x4 (ix2 0 k)

/-- The stream: the meta tokens, then the tokens. -/
theorem stream_apply (b : Fin 4) (s : Fin 8208) (j : Fin 1024) : Read.val_main_v2 x0 x1 (ix3 b s j) = InTile.stream x0 x1 b s j := by
  unfold Read.val_main_v2 Read.val_main_v1 Read.val_main_v0 InTile.stream
  pointwise

/-- The normalised stream. -/
theorem normed_apply (b : Fin 4) (s : Fin 8208) (j : Fin 1024) :
    Read.val_main_v35 x0 x1 x2 (ix3 b s j) = InTile.norm (InTile.stream x0 x1) (gs x2) b s j := by
  have e : Read.val_main_v35 x0 x1 x2 = norm (Read.val_main_v2 x0 x1)
    (shapeCast S1024 (extractStridedSlice S1x1024 ![0, 0] x2 slices_S2x1024_S1x1024_0_0) shapeCasts_S1x1024_S1024) := rfl
  rw [e, norm_apply]
  simp only [stream_apply]
  unfold InTile.norm
  pointwise

/-- The projection. -/
theorem proj_apply (b : Fin 4) (s : Fin 8208) (c : Fin 2560) :
    Read.val_main_v38 x0 x1 x2 x3 (ix3 b s c) = InRow.proj (InTile.norm (InTile.stream x0 x1) (gs x2) b s) (ws x3) c := by
  unfold Read.val_main_v38 Read.val_main_v37 Read.val_main_v36 InRow.proj
  have hn := normed_apply x0 x1 x2
  generalize Read.val_main_v35 x0 x1 x2 = n at hn ⊢
  pointwise
  simp only [hn]

/-- The rotation's angles. -/
theorem angle_apply (s : Fin 8208) (e : Fin 8) : Read.val_main_v18 (F := Ideal) (ix2 s e) = InTile.angle s e := by
  unfold Read.val_main_v18 Read.val_main_v17 Read.val_main_v16 Read.val_main_v15 Read.val_main_v14 Read.val_main_v13 Read.val_main_v12 Read.val_main_v11
    Read.val_main_v10 Read.val_main_v9 Read.val_main_v8 Read.val_main_v7 Read.val_main_v6 Read.val_main_v5 Read.val_main_v4 Read.val_main_v3
    Read.val_main_cst Read.val_main_cst_0 Read.val_main_cst_1 Read.val_main_cst_2 InTile.angle InRow.turn
  pointwise

/-- A row of 512 columns of the projection. -/
theorem cut_apply (o : Nat) (ho : o + 512 ≤ 2560) (z : Vec Ideal S4x8208x512 .f32)
    (hz : ∀ b s j, z (ix3 b s j) = Read.val_main_v38 x0 x1 x2 x3 (ix3 b s ⟨o + j.val, by omega⟩)) (b : Fin 4) (s : Fin 8208) (j : Fin 512) :
    z (ix3 b s j) = InTile.cut (InTile.stream x0 x1) (gs x2) (ws x3) o ho b s j := by
  rw [hz, proj_apply]
  rfl

/-- The columns of the queries. -/
theorem v39_apply (b : Fin 4) (s : Fin 8208) (j : Fin 512) :
    Read.val_main_v39 x0 x1 x2 x3 (ix3 b s j) = InTile.cut (InTile.stream x0 x1) (gs x2) (ws x3) 0 (by omega) b s j := by
  refine cut_apply x0 x1 x2 x3 0 _ _ (fun b s j => ?_) b s j
  unfold Read.val_main_v39
  generalize Read.val_main_v38 x0 x1 x2 x3 = z
  pointwise

/-- The columns of the keys. -/
theorem v40_apply (b : Fin 4) (s : Fin 8208) (j : Fin 512) :
    Read.val_main_v40 x0 x1 x2 x3 (ix3 b s j) = InTile.cut (InTile.stream x0 x1) (gs x2) (ws x3) 512 (by omega) b s j := by
  refine cut_apply x0 x1 x2 x3 512 _ _ (fun b s j => ?_) b s j
  unfold Read.val_main_v40
  generalize Read.val_main_v38 x0 x1 x2 x3 = z
  pointwise

/-- The columns of the values. -/
theorem v41_apply (b : Fin 4) (s : Fin 8208) (j : Fin 512) :
    Read.val_main_v41 x0 x1 x2 x3 (ix3 b s j) = InTile.cut (InTile.stream x0 x1) (gs x2) (ws x3) 1024 (by omega) b s j := by
  refine cut_apply x0 x1 x2 x3 1024 _ _ (fun b s j => ?_) b s j
  unfold Read.val_main_v41
  generalize Read.val_main_v38 x0 x1 x2 x3 = z
  pointwise

/-- The columns of the recurrence's input. -/
theorem v42_apply (b : Fin 4) (s : Fin 8208) (j : Fin 512) :
    Read.val_main_v42 x0 x1 x2 x3 (ix3 b s j) = InTile.cut (InTile.stream x0 x1) (gs x2) (ws x3) 1536 (by omega) b s j := by
  refine cut_apply x0 x1 x2 x3 1536 _ _ (fun b s j => ?_) b s j
  unfold Read.val_main_v42
  generalize Read.val_main_v38 x0 x1 x2 x3 = z
  pointwise

/-- The columns of the gate. -/
theorem v43_apply (b : Fin 4) (s : Fin 8208) (j : Fin 512) :
    Read.val_main_v43 x0 x1 x2 x3 (ix3 b s j) = InTile.cut (InTile.stream x0 x1) (gs x2) (ws x3) 2048 (by omega) b s j := by
  refine cut_apply x0 x1 x2 x3 2048 _ _ (fun b s j => ?_) b s j
  unfold Read.val_main_v43
  generalize Read.val_main_v38 x0 x1 x2 x3 = z
  pointwise

/-- Normalised and rotated heads of 512 columns of the projection. -/
theorem heads_apply (x4 : Vec Ideal S2x64 .f32) (o : Nat) (ho : o + 512 ≤ 2560) (z : Vec Ideal S4x8208x512 .f32)
    (hz : ∀ b s j, z (ix3 b s j) = InTile.cut (InTile.stream x0 x1) (gs x2) (ws x3) o ho b s j) (b : Fin 4) (s : Fin 8208) (h : Fin 4) (i : Fin 2) (e : Fin 64) :
    rope (headNorm (split z) (shapeCast S64 (extractStridedSlice S1x64 ![0, 0] x4 slices_S2x64_S1x64_0_0) shapeCasts_S1x64_S64))
      (Read.val_main_v19 (F := Ideal)) (Read.val_main_v20 (F := Ideal)) (ix5 b s h i e)
      = InTile.heads (InTile.stream x0 x1) (gs x2) (ws x3) (hgs x4) o ho b s (chan h i e) := by
  have hg : (fun k : Fin 64 => shapeCast S64 (extractStridedSlice S1x64 ![0, 0] x4 slices_S2x64_S1x64_0_0) shapeCasts_S1x64_S64 (ix1 k)) = hgs x4 := by
    funext k
    pointwise
  have hc : (fun k : Fin 8 => Read.val_main_v19 (F := Ideal) (ix2 s k)) = fun k => Ideal.cos (InTile.angle s k) := by
    funext k
    rw [← angle_apply]
    rfl
  have hs : (fun k : Fin 8 => Read.val_main_v20 (F := Ideal) (ix2 s k)) = fun k => Ideal.sin (InTile.angle s k) := by
    funext k
    rw [← angle_apply]
    rfl
  unfold InTile.heads
  rw [← hg, ← hc, ← hs]
  refine rope_apply _ _ _ _ b s h i e (fun e => ?_)
  refine headNorm_apply _ _ _ b s h i e (fun e => ?_)
  rw [split_apply, hz]

/-- The scaled queries, side by side. -/
theorem v111_apply (x4 : Vec Ideal S2x64 .f32) (b : Fin 4) (s : Fin 8208) (j : Fin 512) :
    Read.val_main_v111 x0 x1 x2 x3 x4 (ix3 b s j) = InTile.queries (InTile.stream x0 x1) (gs x2) (ws x3) (hgs x4) b s j := by
  refine merge_apply (Read.val_main_v110 x0 x1 x2 x3 x4) _ (fun b s h i e => ?_) b s j
  refine (congrArg (· * InRow.qScale) (heads_apply x0 x1 x2 x3 x4 0 (by omega) _ (v39_apply x0 x1 x2 x3) b s h i e) : _)

/-- The keys, side by side. -/
theorem v113_apply (x5 : Vec Ideal S2x64 .f32) (b : Fin 4) (s : Fin 8208) (j : Fin 512) :
    Read.val_main_v113 x0 x1 x2 x3 x5 (ix3 b s j) = InTile.heads (InTile.stream x0 x1) (gs x2) (ws x3) (hgs x5) 512 (by omega) b s j := by
  refine merge_apply (Read.val_main_v108 x0 x1 x2 x3 x5) _ (fun b s h i e => ?_) b s j
  exact heads_apply x0 x1 x2 x3 x5 512 (by omega) _ (v40_apply x0 x1 x2 x3) b s h i e

/-- The first result: the scaled queries, transposed. -/
theorem v119_apply (x4 : Vec Ideal S2x64 .f32) (b : Fin 4) (j : Fin 512) (s : Fin 8320) : Read.val_main_v119 x0 x1 x2 x3 x4 (ix3 b j s)
    = InTile.padded (InTile.queries (InTile.stream x0 x1) (gs x2) (ws x3) (hgs x4)) b s j := by
  rw [← rows_apply _ _ (v111_apply x0 x1 x2 x3 x4)]
  have e : Read.val_main_v119 x0 x1 x2 x3 x4 = truncf .bf16 (transpose S4x512x8320 [0, 2, 1] (rows (Read.val_main_v111 x0 x1 x2 x3 x4)) transposes_S4x8320x512_S4x512x8320_0_2_1) bitsLt_bf16_f32 := rfl
  rw [e]
  generalize rows (Read.val_main_v111 x0 x1 x2 x3 x4) = z
  pointwise

/-- The second result: the keys. -/
theorem v120_apply (x5 : Vec Ideal S2x64 .f32) (b : Fin 4) (s : Fin 8320) (j : Fin 512) : Read.val_main_v120 x0 x1 x2 x3 x5 (ix3 b s j)
    = InTile.padded (InTile.heads (InTile.stream x0 x1) (gs x2) (ws x3) (hgs x5) 512 (by omega)) b s j :=
  rows_apply _ _ (v113_apply x0 x1 x2 x3 x5) b s j

/-- The values' heads side by side again. -/
theorem v115_apply (b : Fin 4) (s : Fin 8208) (j : Fin 512) :
    Read.val_main_v115 x0 x1 x2 x3 (ix3 b s j) = InTile.cut (InTile.stream x0 x1) (gs x2) (ws x3) 1024 (by omega) b s j := by
  rw [← v41_apply]
  unfold Read.val_main_v115 Read.val_main_v46
  generalize Read.val_main_v41 x0 x1 x2 x3 = z
  pointwise

/-- The third result: the values, one head's channels after the other. -/
theorem v122_apply (b : Fin 4) (h : Fin 4) (d : Fin 128) (s : Fin 8320) : Read.val_main_v122 x0 x1 x2 x3 (ix4 b h d s)
    = InTile.padded (InTile.cut (InTile.stream x0 x1) (gs x2) (ws x3) 1024 (by omega)) b s ⟨128 * h.val + d.val, by omega⟩ := by
  rw [← rows_apply _ _ (v115_apply x0 x1 x2 x3)]
  have e : Read.val_main_v122 x0 x1 x2 x3 = truncf .bf16 (transpose S4x4x128x8320 [0, 2, 3, 1] (shapeCast S4x8320x4x128 (rows (Read.val_main_v115 x0 x1 x2 x3)) shapeCasts_S4x8320x512_S4x8320x4x128)
    transposes_S4x8320x4x128_S4x4x128x8320_0_2_3_1) bitsLt_bf16_f32 := rfl
  rw [e]
  generalize rows (Read.val_main_v115 x0 x1 x2 x3) = z
  pointwise
  exact congrArg (fun k => z (ix3 b s k)) (Fin.ext (by show h.val * 128 + d.val = 128 * h.val + d.val; omega))

/-- The fourth result: the recurrence's input. -/
theorem v123_apply (b : Fin 4) (s : Fin 8320) (j : Fin 512) : Read.val_main_v123 x0 x1 x2 x3 (ix3 b s j)
    = InTile.padded (InTile.cut (InTile.stream x0 x1) (gs x2) (ws x3) 1536 (by omega)) b s j :=
  rows_apply _ _ (v42_apply x0 x1 x2 x3) b s j

/-- The fifth result: the gate. -/
theorem v124_apply (b : Fin 4) (s : Fin 8320) (j : Fin 512) : Read.val_main_v124 x0 x1 x2 x3 (ix3 b s j)
    = InTile.padded (InTile.cut (InTile.stream x0 x1) (gs x2) (ws x3) 2048 (by omega)) b s j :=
  rows_apply _ _ (v43_apply x0 x1 x2 x3) b s j

/-- The sixth result: the stream. -/
theorem v125_apply (b : Fin 4) (s : Fin 8320) (j : Fin 1024) : Read.val_main_v125 x0 x1 (ix3 b s j)
    = InTile.padded (InTile.stream x0 x1) b s j := by
  have hf := stream_apply x0 x1
  unfold Read.val_main_v125 InTile.padded
  generalize Read.val_main_v2 x0 x1 = z at hf ⊢
  pointwise
  have hs : s.val - 112 < 8208 := by omega
  by_cases h : 112 ≤ s.val
  · rw [dif_pos ⟨h, hs⟩, dif_pos h, ← hf]
  · rw [dif_neg (fun e => h e.1), dif_neg h]
    exact zero_word

/-- The first result as one array. -/
theorem v119_eq (x4 : Vec Ideal S2x64 .f32) : Read.val_main_v119 x0 x1 x2 x3 x4 = fun y : S4x512x8320.Idx => InTile.padded (InTile.queries (InTile.stream x0 x1) (gs x2) (ws x3) (hgs x4)) (y 0) (y 2) (y 1) := by
  funext y
  obtain ⟨b, j, s, rfl⟩ : ∃ (b : Fin 4) (j : Fin 512) (s : Fin 8320), y = ix3 b j s := ⟨y 0, y 1, y 2, ValueIdx.eq_ix3 y⟩
  exact v119_apply x0 x1 x2 x3 x4 b j s

/-- The second result as one array. -/
theorem v120_eq (x5 : Vec Ideal S2x64 .f32) : Read.val_main_v120 x0 x1 x2 x3 x5 = fun y : S4x8320x512.Idx => InTile.padded (InTile.heads (InTile.stream x0 x1) (gs x2) (ws x3) (hgs x5) 512 (by omega)) (y 0) (y 1) (y 2) := by
  funext y
  obtain ⟨b, s, j, rfl⟩ : ∃ (b : Fin 4) (s : Fin 8320) (j : Fin 512), y = ix3 b s j := ⟨y 0, y 1, y 2, ValueIdx.eq_ix3 y⟩
  exact v120_apply x0 x1 x2 x3 x5 b s j

/-- The third result as one array. -/
theorem v122_eq : Read.val_main_v122 x0 x1 x2 x3 = fun y : S4x4x128x8320.Idx => InTile.padded (InTile.cut (InTile.stream x0 x1) (gs x2) (ws x3) 1024 (by omega)) (y 0) (y 3)
    ⟨128 * (y 1).val + (y 2).val, by have h1 : (y 1).val < 4 := (y 1).isLt; have h2 : (y 2).val < 128 := (y 2).isLt; omega⟩ := by
  funext y
  obtain ⟨b, h, d, s, rfl⟩ : ∃ (b : Fin 4) (h : Fin 4) (d : Fin 128) (s : Fin 8320), y = ix4 b h d s := ⟨y 0, y 1, y 2, y 3, ValueIdx.eq_ix4 y⟩
  exact v122_apply x0 x1 x2 x3 b h d s

/-- The fourth result as one array. -/
theorem v123_eq : Read.val_main_v123 x0 x1 x2 x3 = fun y : S4x8320x512.Idx => InTile.padded (InTile.cut (InTile.stream x0 x1) (gs x2) (ws x3) 1536 (by omega)) (y 0) (y 1) (y 2) := by
  funext y
  obtain ⟨b, s, j, rfl⟩ : ∃ (b : Fin 4) (s : Fin 8320) (j : Fin 512), y = ix3 b s j := ⟨y 0, y 1, y 2, ValueIdx.eq_ix3 y⟩
  exact v123_apply x0 x1 x2 x3 b s j

/-- The fifth result as one array. -/
theorem v124_eq : Read.val_main_v124 x0 x1 x2 x3 = fun y : S4x8320x512.Idx => InTile.padded (InTile.cut (InTile.stream x0 x1) (gs x2) (ws x3) 2048 (by omega)) (y 0) (y 1) (y 2) := by
  funext y
  obtain ⟨b, s, j, rfl⟩ : ∃ (b : Fin 4) (s : Fin 8320) (j : Fin 512), y = ix3 b s j := ⟨y 0, y 1, y 2, ValueIdx.eq_ix3 y⟩
  exact v124_apply x0 x1 x2 x3 b s j

/-- The sixth result as one array. -/
theorem v125_eq : Read.val_main_v125 x0 x1 = fun y : S4x8320x1024.Idx => InTile.padded (InTile.stream x0 x1) (y 0) (y 1) (y 2) := by
  funext y
  obtain ⟨b, s, j, rfl⟩ : ∃ (b : Fin 4) (s : Fin 8320) (j : Fin 1024), y = ix3 b s j := ⟨y 0, y 1, y 2, ValueIdx.eq_ix3 y⟩
  exact v125_apply x0 x1 b s j

end Cert.InRef

end
-- ==== Proof.InClaim.lean ====
/- The first input projection's call and its reference compute the same extended reals, in all six results. -/
module

public import proofs.«01_k».proof.Proof.InArray
public import proofs.«01_k».proof.Proof.InRef
public import proofs.«01_k».proof.Defs
public import Idealize.ShloMosaic.Lib.Claim
public import Idealize.ShloMosaic.Adequacy
public import Idealize.ShloMosaic.Init

@[expose] public section

noncomputable section

namespace Cert.In

open Idealize.ShloMosaic Idealize.SL.Sem

/-- The algebraic claim: both runs leave the same six arrays, each with 112 rows of zeros in front of every batch. -/
theorem algebraic : algebraic_Kernel3Ideal_Reference3Ideal := by
  pair_intro
  · run_from Cert.Kernel3Ideal.Value.run_blocks m g
  · run_from Cert.Reference3Ideal.Value.run m' g'
    · obtain ⟨h0, h1, h2, h3, h4, h5⟩ := hagree c
      rw [array10 m c, Cert.Reference3Ideal.Read.val_main_v119_eq, h0, h1, h2, h3, h4]
      exact InRef.v119_eq _ _ _ _ _
    · obtain ⟨h0, h1, h2, h3, h4, h5⟩ := hagree c
      rw [array11 m c, Cert.Reference3Ideal.Read.val_main_v120_eq, h0, h1, h2, h3, h5]
      exact InRef.v120_eq _ _ _ _ _
    · rw [array12 m c]
      exact (Cert.Reference3Ideal.Read.val_main_v122_eq _ _ _ _).trans (InRef.v122_eq _ _ _ _)
    · rw [array13 m c]
      exact (Cert.Reference3Ideal.Read.val_main_v123_eq _ _ _ _).trans (InRef.v123_eq _ _ _ _)
    · rw [array14 m c]
      exact (Cert.Reference3Ideal.Read.val_main_v124_eq _ _ _ _).trans (InRef.v124_eq _ _ _ _)
    · rw [array15 m c]
      exact (Cert.Reference3Ideal.Read.val_main_v125_eq _ _).trans (InRef.v125_eq _ _)

end Cert.In

end
-- ==== Proof.SecBlock.lean ====
/- What one grid point of the second layer's input projection leaves in its five result blocks. -/
module

public import proofs.«01_k».proof.Proof.InVec
public import proofs.«01_k».proof.Proof.Gen.Kernel4Ideal.Value

@[expose] public section

noncomputable section

namespace Cert.Sec

open Cert.Kernel4Ideal Cert.Kernel4Ideal.Gen Idealize.ShloMosaic Idealize.ShloMosaic.TcCoe Idealize.SL.Sem
open scoped BigOperators

variable {F : FTy → Type} [FloatOps F]

/-- 512 columns of the weight block, as the body loads them. -/
theorem cols_eq (x3 : Vec F S1x1024x2560 .bf16) (o : Nat) (h : ∀ a : Fin 3, (![0, 0, o] : Fin 3 → Nat) a + (![1, 1024, 512] : Fin 3 → Nat) a ≤ S1x1024x2560.size a)
    (ho : o + 512 ≤ 2560) : View.ld (Val := Elt F) (e' := .bf16) x3 (Rect.unit ![0, 0, o] ![1, 1024, 512] h) = InVec.cols x3 o ho := by
  funext y
  refine congrArg x3 (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show o + 1 * (y 2).val = o + (y 2).val; omega

/-- The normalised block. -/
theorem pay1_eq (i : grid0.Coords) (x : Vec F S1x640x1024 .f32) (g : Vec F S1x1024 .f32) :
    k0_pay1 i x g = InVec.normed (BitVec.ofNat 32 (i 1).val) x g := by
  unfold k0_pay1 InVec.normed
  rfl

/-- The first of the two plainly stored blocks. -/
theorem pay22_eq (n : FVec F S640x1024 .bf16) (w : Vec F S1x1024x512 .bf16) : k0_pay22 n w = InVec.plain n w := by
  unfold k0_pay22 InVec.plain InVec.proj
  rfl

/-- The second. -/
theorem pay23_eq (n : FVec F S640x1024 .bf16) (w : Vec F S1x1024x512 .bf16) : k0_pay23 n w = InVec.plain n w := by
  unfold k0_pay23 InVec.plain InVec.proj
  rfl

/-- A cast to the same shape changes nothing. -/
theorem pay2_eq (a : Vec F S640x128 .f32) : k0_pay2 a = a := shapeCast_self _ _
/-- A cast to the same shape changes nothing. -/
theorem pay3_eq (a : Vec F S640x128 .f32) : k0_pay3 a = a := shapeCast_self _ _
/-- A cast to the same shape changes nothing. -/
theorem pay4_eq (a : Vec F S640x128 .f32) : k0_pay4 a = a := shapeCast_self _ _

/-- The product that the queries start from. -/
theorem pay5_eq (i : grid0.Coords) (x : Vec F S1x640x1024 .f32) (g : Vec F S1x1024 .f32) (w : Vec F S1x1024x512 .bf16) :
    k0_pay5 i x g w = InVec.proj (InVec.normed (BitVec.ofNat 32 (i 1).val) x g) w := by
  unfold k0_pay5 InVec.proj
  rw [pay1_eq]
  rfl

/-- The keys before the rotation. -/
theorem pay11_eq (n : FVec F S640x1024 .bf16) (w : Vec F S1x1024x512 .bf16) (g : Vec F S1x512 .f32) (gm : Vec F S256x256 .bf16) :
    k0_pay11 n w g gm gm = InVec.headNorm (InVec.proj n w) (InVec.meanSq (InVec.proj n w) gm) g := by
  unfold k0_pay11 InVec.headNorm InVec.meanSq InVec.proj
  rfl

/-- The rotation of a block already normalised, stored by rows. -/
theorem keyed_eq (z : FVec F S640x512 .f32) (a b c : Vec F S640x128 .f32) (h : S640x512.Slices ![0, 0] S640x128) :
    k0_pay15 a b c z (extractStridedSlice S640x128 ![0, 0] z h) (mulf (extractStridedSlice S640x128 ![0, 0] z h) a)
      (mulf (dynamicRotate 1 120#32 none (extractStridedSlice S640x128 ![0, 0] z h) rotates_S640x128_d1) b)
      = shapeCast (InVec.L 640 512) (truncf .bf16 (InVec.rope z a b c) (by decide)) rfl := by
  unfold k0_pay15 InVec.rope InVec.turn
  rfl

/-- The keys. -/
theorem pay15_eq (n : FVec F S640x1024 .bf16) (w : Vec F S1x1024x512 .bf16) (g : Vec F S1x512 .f32) (gm : Vec F S256x256 .bf16) (a b c : Vec F S640x128 .f32) :
    k0_pay15 (k0_pay2 a) (k0_pay3 b) (k0_pay4 c) (k0_pay11 n w g gm gm) (k0_pay12 n w g gm gm) (k0_pay13 n (k0_pay2 a) w g gm gm)
      (k0_pay14 n (k0_pay3 b) w g gm gm) = InVec.keys n w g gm a b c := by
  rw [pay2_eq, pay3_eq, pay4_eq]
  unfold k0_pay13 k0_pay14 k0_pay12
  refine (keyed_eq (k0_pay11 n w g gm gm) a b c slices_S640x512_o0_0_S640x128).trans ?_
  rw [pay11_eq]
  rfl

/-- The scaled queries before the rotation. -/
theorem pay6_eq (z : FVec F S640x512 .f32) (g : Vec F S1x512 .f32) (gm : Vec F S256x256 .bf16) :
    k0_pay6 z g gm gm = mulf (InVec.headNorm z (InVec.meanSq z gm) g) (broadcast (InVec.M 640 512) (Scalar.ofBits .f32 0x3E38AA3B#32)) := by
  unfold k0_pay6 InVec.headNorm InVec.meanSq
  rfl

/-- The rotation of a block already normalised, transposed. -/
theorem turned_eq (z : FVec F S640x512 .f32) (a b c : Vec F S640x128 .f32) (h0 : S640x512.Slices ![0, 0] S640x128) (h1 : S640x512.Slices ![0, 128] S640x128)
    (h2 : S640x512.Slices ![0, 256] S640x128) :
    k0_pay10 a b c z (InVec.turn (extractStridedSlice S640x128 ![0, 0] z h0) a b c) (InVec.turn (extractStridedSlice S640x128 ![0, 128] z h1) a b c)
      (InVec.turn (extractStridedSlice S640x128 ![0, 256] z h2) a b c)
      = shapeCast (InVec.L 512 640) (truncf .bf16 (transpose (InVec.M 512 640) [1, 0] (InVec.rope z a b c) InVec.transposes) (by decide)) rfl := by
  unfold k0_pay10 InVec.rope InVec.turn
  rfl

/-- The queries. -/
theorem pay10_eq (i : grid0.Coords) (x : Vec F S1x640x1024 .f32) (ga : Vec F S1x1024 .f32) (w : Vec F S1x1024x512 .bf16) (g : Vec F S1x512 .f32) (gm : Vec F S256x256 .bf16) (a b c : Vec F S640x128 .f32) :
    k0_pay10 (k0_pay2 a) (k0_pay3 b) (k0_pay4 c) (k0_pay6 (k0_pay5 i x ga w) g gm gm) (k0_pay7 (k0_pay2 a) (k0_pay3 b) (k0_pay4 c) (k0_pay5 i x ga w) g gm gm)
      (k0_pay8 (k0_pay2 a) (k0_pay3 b) (k0_pay4 c) (k0_pay5 i x ga w) g gm gm) (k0_pay9 (k0_pay2 a) (k0_pay3 b) (k0_pay4 c) (k0_pay5 i x ga w) g gm gm)
      = InVec.queries (InVec.normed (BitVec.ofNat 32 (i 1).val) x ga) w g gm a b c := by
  rw [pay2_eq, pay3_eq, pay4_eq, pay5_eq]
  unfold k0_pay7 k0_pay8 k0_pay9
  refine (turned_eq (k0_pay6 (InVec.proj (InVec.normed (BitVec.ofNat 32 (i 1).val) x ga) w) g gm gm) a b c slices_S640x512_o0_0_S640x128
    slices_S640x512_o0_128_S640x128 slices_S640x512_o0_256_S640x128).trans ?_
  rw [pay6_eq]
  rfl

/-- One head's slab of the values. -/
theorem slab_eq (n : FVec F S640x1024 .bf16) (w : Vec F S1x1024x512 .bf16) (h : Fin 4) (hs : S512x640.Slices ![128 * h.val, 0] S128x640)
    (hc : S128x640.ShapeCasts S1x1x128x640) (hr : ∀ a : Fin 4, (![0, h.val, 0, 0] : Fin 4 → Nat) a + S1x1x128x640.size a ≤ S1x4x128x640.size a) (x : S1x1x128x640.Idx) :
    shapeCast S1x1x128x640 (extractStridedSlice S128x640 ![128 * h.val, 0] (k0_pay16 n w) hs) hc x
      = InVec.values n w ((Rect.unit (s := S1x4x128x640) ![0, h.val, 0, 0] S1x1x128x640.size hr).emb x) := by
  have hx0 : (x 0).val < 1 := (x 0).isLt
  have hx1 : (x 1).val < 1 := (x 1).isLt
  have hx : x = ix4 0 0 (x 2) (x 3) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  unfold k0_pay16 InVec.values InVec.proj
  rw [hx]
  pointwise
  have e : (⟨128 * h.val + (x 2).val, by have h2 : (x 2).val < 128 := (x 2).isLt; omega⟩ : Fin 512)
      = ⟨128 * (h.val + 1 * 0) + (0 + 1 * (x 2).val), by have h2 : (x 2).val < 128 := (x 2).isLt; omega⟩ := Fin.ext (by show _ + _ = _ + _; omega)
  have e3 : x 3 = (⟨0 + 1 * (x 3).val, by have h3 : (x 3).val < 640 := (x 3).isLt; omega⟩ : Fin 640) := Fin.ext (by show (x 3).val = 0 + 1 * (x 3).val; omega)
  exact congrArg₂ (fun a b => (truncf .bf16 (InVec.proj n w) (by decide) : FVec F (InVec.M 640 512) .bf16) (ix2 a b)) e3 e

/-- The four stores of the values, one head each. -/
abbrev slabs (n : FVec F S640x1024 .bf16) (w : Vec F S1x1024x512 .bf16)
    (h0 : ∀ a : Fin 4, (![0, 0, 0, 0] : Fin 4 → Nat) a + (![1, 1, 128, 640] : Fin 4 → Nat) a ≤ S1x4x128x640.size a)
    (h1 : ∀ a : Fin 4, (![0, 1, 0, 0] : Fin 4 → Nat) a + (![1, 1, 128, 640] : Fin 4 → Nat) a ≤ S1x4x128x640.size a)
    (h2 : ∀ a : Fin 4, (![0, 2, 0, 0] : Fin 4 → Nat) a + (![1, 1, 128, 640] : Fin 4 → Nat) a ≤ S1x4x128x640.size a)
    (h3 : ∀ a : Fin 4, (![0, 3, 0, 0] : Fin 4 → Nat) a + (![1, 1, 128, 640] : Fin 4 → Nat) a ≤ S1x4x128x640.size a) : List (View.Piece (Elt F) S1x4x128x640 .bf16) :=
  [⟨Rect.unit ![0, 3, 0, 0] ![1, 1, 128, 640] h3, k0_pay21 (k0_pay16 n w)⟩, ⟨Rect.unit ![0, 2, 0, 0] ![1, 1, 128, 640] h2, k0_pay20 (k0_pay16 n w)⟩,
    ⟨Rect.unit ![0, 1, 0, 0] ![1, 1, 128, 640] h1, k0_pay19 (k0_pay16 n w)⟩, ⟨Rect.unit ![0, 0, 0, 0] ![1, 1, 128, 640] h0, k0_pay18 (k0_pay17 n w)⟩]

/-- The part of the values that one store writes. -/
theorem mem_slab (y : S1x4x128x640.Idx) (o : Nat) (h : ∀ a : Fin 4, (![0, o, 0, 0] : Fin 4 → Nat) a + (![1, 1, 128, 640] : Fin 4 → Nat) a ≤ S1x4x128x640.size a)
    (h0 : (y 1).val = o) : y ∈ (Rect.unit (s := S1x4x128x640) ![0, o, 0, 0] ![1, 1, 128, 640] h).set :=
  Rect.mem_set_unit.mpr fun a => match a with
    | ⟨0, _⟩ => ⟨Nat.zero_le _, (Nat.zero_add 1).symm ▸ (y 0).isLt⟩
    | ⟨1, _⟩ => ⟨h0.ge, h0.trans_lt (Nat.lt_succ_self o)⟩
    | ⟨2, _⟩ => ⟨Nat.zero_le _, (Nat.zero_add 128).symm ▸ (y 2).isLt⟩
    | ⟨3, _⟩ => ⟨Nat.zero_le _, (Nat.zero_add 640).symm ▸ (y 3).isLt⟩

/-- The four stores cover the block. -/
theorem slabs_cover (n : FVec F S640x1024 .bf16) (w : Vec F S1x1024x512 .bf16) (h0) (h1) (h2) (h3) (y : S1x4x128x640.Idx) :
    ∃ p ∈ slabs n w h0 h1 h2 h3, y ∈ p.1.set := by
  have h : (y 1).val < 4 := (y 1).isLt
  by_cases e3 : (y 1).val = 3
  · exact ⟨_, List.mem_cons_self, mem_slab y 3 h3 e3⟩
  by_cases e2 : (y 1).val = 2
  · exact ⟨_, List.mem_cons_of_mem _ List.mem_cons_self, mem_slab y 2 h2 e2⟩
  by_cases e1 : (y 1).val = 1
  · exact ⟨_, List.mem_cons_of_mem _ (List.mem_cons_of_mem _ List.mem_cons_self), mem_slab y 1 h1 e1⟩
  · exact ⟨_, List.mem_cons_of_mem _ (List.mem_cons_of_mem _ (List.mem_cons_of_mem _ List.mem_cons_self)), mem_slab y 0 h0 (by omega)⟩

/-- The values, as the body's four stores leave them. -/
theorem values_eq (n : FVec F S640x1024 .bf16) (w : Vec F S1x1024x512 .bf16) (h0) (h1) (h2) (h3) :
    View.canon (slabs n w h0 h1 h2 h3) = InVec.values n w := by
  funext y
  refine View.canon_apply_of_pieces (InVec.values n w) _ (fun p hp x => ?_) y (slabs_cover n w h0 h1 h2 h3 y)
  rcases List.mem_cons.mp hp with rfl | hp
  · exact slab_eq n w 3 slices_S512x640_o384_0_S128x640 shapeCasts_S128x640_S1x1x128x640 h3 x
  rcases List.mem_cons.mp hp with rfl | hp
  · exact slab_eq n w 2 slices_S512x640_o256_0_S128x640 shapeCasts_S128x640_S1x1x128x640 h2 x
  rcases List.mem_cons.mp hp with rfl | hp
  · exact slab_eq n w 1 slices_S512x640_o128_0_S128x640 shapeCasts_S128x640_S1x1x128x640 h1 x
  · obtain rfl := List.mem_singleton.mp hp
    exact slab_eq n w 0 slices_S512x640_o0_0_S128x640 shapeCasts_S128x640_S1x1x128x640 h0 x

variable (i : grid0.Coords) (x0 : Vec F S1x640x1024 .f32) (x1 : Vec F S1x1024 .f32) (x2 : Vec F S1x1024x2560 .bf16) (x3 : Vec F S1x512 .f32) (x4 : Vec F S1x512 .f32) (x5 : Vec F S640x128 .f32) (x6 : Vec F S640x128 .f32) (x7 : Vec F S640x128 .f32) (x8 : Vec F S256x256 .bf16)

set_option maxRecDepth 16384 in
/-- The stored queries. -/
theorem out9_eq : out0_9 i x0 x1 x2 x3 x4 x5 x6 x7 x8
    = InVec.queries (InVec.normed (BitVec.ofNat 32 (i 1).val) x0 x1) (InVec.cols x2 0 (by omega)) x3 x8 x5 x6 x7 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l1 : ∀ h, View.ld (Val := Elt F) (e' := .f32) x1 (Rect.unit ![0,0] ![1, 1024] h) = x1 := fun h => View.ld_unit_zero (S := S1x1024) hz2 h x1
  have l3 : ∀ h, View.ld (Val := Elt F) (e' := .f32) x3 (Rect.unit ![0,0] ![1, 512] h) = x3 := fun h => View.ld_unit_zero (S := S1x512) hz2 h x3
  have l5 : ∀ h, View.ld (Val := Elt F) (e' := .f32) x5 (Rect.unit ![0,0] ![640, 128] h) = x5 := fun h => View.ld_unit_zero (S := S640x128) hz2 h x5
  have l6 : ∀ h, View.ld (Val := Elt F) (e' := .f32) x6 (Rect.unit ![0,0] ![640, 128] h) = x6 := fun h => View.ld_unit_zero (S := S640x128) hz2 h x6
  have l7 : ∀ h, View.ld (Val := Elt F) (e' := .f32) x7 (Rect.unit ![0,0] ![640, 128] h) = x7 := fun h => View.ld_unit_zero (S := S640x128) hz2 h x7
  have l8 : ∀ h, View.ld (Val := Elt F) (e' := .bf16) x8 (Rect.unit ![0,0] ![256, 256] h) = x8 := fun h => View.ld_unit_zero (S := S256x256) hz2 h x8
  unfold_out out0_9
  simp only [l0, l1, l3, l5, l6, l7, l8]
  rw [View.canon_unit_zero hz3]
  rw [cols_eq x2 0 _ (by omega), pay10_eq]

set_option maxRecDepth 16384 in
/-- The stored keys. -/
theorem out10_eq : out0_10 i x0 x1 x2 x3 x4 x5 x6 x7 x8
    = InVec.keys (InVec.normed (BitVec.ofNat 32 (i 1).val) x0 x1) (InVec.cols x2 512 (by omega)) x4 x8 x5 x6 x7 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l1 : ∀ h, View.ld (Val := Elt F) (e' := .f32) x1 (Rect.unit ![0,0] ![1, 1024] h) = x1 := fun h => View.ld_unit_zero (S := S1x1024) hz2 h x1
  have l4 : ∀ h, View.ld (Val := Elt F) (e' := .f32) x4 (Rect.unit ![0,0] ![1, 512] h) = x4 := fun h => View.ld_unit_zero (S := S1x512) hz2 h x4
  have l5 : ∀ h, View.ld (Val := Elt F) (e' := .f32) x5 (Rect.unit ![0,0] ![640, 128] h) = x5 := fun h => View.ld_unit_zero (S := S640x128) hz2 h x5
  have l6 : ∀ h, View.ld (Val := Elt F) (e' := .f32) x6 (Rect.unit ![0,0] ![640, 128] h) = x6 := fun h => View.ld_unit_zero (S := S640x128) hz2 h x6
  have l7 : ∀ h, View.ld (Val := Elt F) (e' := .f32) x7 (Rect.unit ![0,0] ![640, 128] h) = x7 := fun h => View.ld_unit_zero (S := S640x128) hz2 h x7
  have l8 : ∀ h, View.ld (Val := Elt F) (e' := .bf16) x8 (Rect.unit ![0,0] ![256, 256] h) = x8 := fun h => View.ld_unit_zero (S := S256x256) hz2 h x8
  unfold_out out0_10
  simp only [l0, l1, l4, l5, l6, l7, l8]
  rw [View.canon_unit_zero hz3]
  rw [cols_eq x2 512 _ (by omega), pay1_eq, pay15_eq]

set_option maxRecDepth 16384 in
/-- The stored values. -/
theorem out11_eq : out0_11 i x0 x1 x2 x3 x4 x5 x6 x7 x8
    = InVec.values (InVec.normed (BitVec.ofNat 32 (i 1).val) x0 x1) (InVec.cols x2 1024 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l1 : ∀ h, View.ld (Val := Elt F) (e' := .f32) x1 (Rect.unit ![0,0] ![1, 1024] h) = x1 := fun h => View.ld_unit_zero (S := S1x1024) hz2 h x1
  unfold_out out0_11
  refine (values_eq _ _ _ _ _ _).trans ?_
  rw [l0, l1, cols_eq x2 1024 _ (by omega), pay1_eq]

set_option maxRecDepth 16384 in
/-- The stored input of the recurrence. -/
theorem out12_eq : out0_12 i x0 x1 x2 x3 x4 x5 x6 x7 x8
    = InVec.plain (InVec.normed (BitVec.ofNat 32 (i 1).val) x0 x1) (InVec.cols x2 1536 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l1 : ∀ h, View.ld (Val := Elt F) (e' := .f32) x1 (Rect.unit ![0,0] ![1, 1024] h) = x1 := fun h => View.ld_unit_zero (S := S1x1024) hz2 h x1
  unfold_out out0_12
  simp only [l0, l1]
  rw [View.canon_unit_zero hz3]
  rw [cols_eq x2 1536 _ (by omega), pay1_eq, pay22_eq]

set_option maxRecDepth 16384 in
/-- The stored gate. -/
theorem out13_eq : out0_13 i x0 x1 x2 x3 x4 x5 x6 x7 x8
    = InVec.plain (InVec.normed (BitVec.ofNat 32 (i 1).val) x0 x1) (InVec.cols x2 2048 (by omega)) := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 1024] h) = x0 := fun h => View.ld_unit_zero (S := S1x640x1024) hz3 h x0
  have l1 : ∀ h, View.ld (Val := Elt F) (e' := .f32) x1 (Rect.unit ![0,0] ![1, 1024] h) = x1 := fun h => View.ld_unit_zero (S := S1x1024) hz2 h x1
  unfold_out out0_13
  simp only [l0, l1]
  rw [View.canon_unit_zero hz3]
  rw [cols_eq x2 2048 _ (by omega), pay1_eq, pay23_eq]

end Cert.Sec

end
-- ==== Proof.SecHost.lean ====
/- What the second layer's input projection finds in the arrays that host code prepares. -/
module

public import proofs.«01_k».proof.Proof.InHost
public import proofs.«01_k».proof.Proof.InTile
public import proofs.«01_k».proof.Proof.Gen.Kernel4Ideal.Value
public import Idealize.ShloMosaic.Lib.Claim
public import Idealize.ShloMosaic.Lib.StableHlo.ReadAt
public import Idealize.ShloMosaic.Lib.Pipeline.ValueKit.Point

@[expose] public section

noncomputable section

namespace Cert.Sec

open Cert.Kernel4Ideal Cert.Kernel4Ideal.Gen Idealize.ShloMosaic Idealize.ShloMosaic.TcCoe Idealize.SL.Sem
open Cert.In (rem rem_eq pick64 pick8 quot lane lane_eq freqOf freq_eq isFirst isSecond freqOf_eq isFirst_eq isSecond_eq isEither_eq)
open scoped BigOperators

variable (m : (ℓ : Loc nD τ sig) → Buf (Elt Ideal) ℓ)

/-- A word that the host holds as a constant. -/
theorem const_word (b : BitVec 32) : constantI S_ 32 b ix0 = b := rfl
/-- A number that the host holds as a constant. -/
theorem const_num (b : BitVec 32) : constant (F := Ideal) S_ .f32 b ix0 = Ideal.ofBits .f32 b := rfl
/-- The host's take along the frequencies, read at a row and a lane. -/
theorem take_apply {α : Type} (x : S8320x8.Idx → α) (idx : IVec S128x1 32) (s : Fin 8320) (d : Fin 128) :
    Host.gather gather_S8320x8_S128x1_S8320x128_0_1_n_n_1_1_83201 x idx (ix2 s d)
      = x (ix2 s ⟨min (idx (ix2 d 0)).toInt.toNat 7, by omega⟩) := by
  unfold Host.gather
  refine congrArg x (funext fun a => Fin.ext ?_)
  match a with
  | ⟨0, _⟩ =>
    show GatherDims.start _ (ix2 s d) idx 0 + GatherDims.batchCoord _ (ix2 s d) 0 + GatherDims.offCoord _ (ix2 s d) 0 = s.val
    rw [GatherDims.batchCoord_eq_zero _ _ _ List.not_mem_nil]
    unfold GatherDims.start
    rw [dif_neg (by decide)]
    simp only [Nat.zero_add, Nat.add_zero]
    rfl
  | ⟨1, _⟩ =>
    show GatherDims.start _ (ix2 s d) idx 1 + GatherDims.batchCoord _ (ix2 s d) 1 + GatherDims.offCoord _ (ix2 s d) 1 = min (idx (ix2 d 0)).toInt.toNat 7
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8320x8_S128x1_S8320x128_0_1_n_n_1_1_83201.startIndexMap from List.mem_singleton.mpr rfl)]
    refine congrArg (fun i => min (idx i).toInt.toNat 7) (funext fun b => Fin.ext ?_)
    match b with
    | ⟨0, _⟩ => rfl
    | ⟨1, _⟩ => rfl

/-- The cosines, one in the lanes that are not rotated. -/
theorem cos_entry (c : Dev nD) (s : Fin 8320) (d : Fin 128) :
    V m c main_v48 (ix2 s d) = if d.val % 64 < 16 then Ideal.cos (InRow.turn (IntOp.subi (BitVec.ofNat 32 s.val) 112#32) ⟨d.val % 8, by omega⟩) else 1 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at
  rw [take_apply]
  pointwise
  simp only [id_eq, const_word, const_num, pick64, pick8, rem_eq, lane_eq, freq_eq, freqOf_eq]
  have hc := isEither_eq d
  unfold isFirst isSecond at hc
  rw [hc]
  split_ifs
  · rfl
  · exact Ideal.ofBits_one_f32

/-- The negated sines, zero outside the first half. -/
theorem sina_entry (c : Dev nD) (s : Fin 8320) (d : Fin 128) :
    V m c main_v50 (ix2 s d) = if d.val % 64 < 8 then -Ideal.sin (InRow.turn (IntOp.subi (BitVec.ofNat 32 s.val) 112#32) ⟨d.val % 8, by omega⟩) else 0 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at
  rw [take_apply]
  pointwise
  simp only [id_eq, const_word, const_num, pick64, pick8, rem_eq, lane_eq, freq_eq, freqOf_eq]
  have hc := isFirst_eq d
  unfold isFirst at hc
  rw [hc]
  split_ifs
  · rfl
  · exact Ideal.ofBits_zero_f32

/-- The sines, zero outside the second half. -/
theorem sinb_entry (c : Dev nD) (s : Fin 8320) (d : Fin 128) :
    V m c main_v51 (ix2 s d) = if 8 ≤ d.val % 64 ∧ d.val % 64 < 16 then Ideal.sin (InRow.turn (IntOp.subi (BitVec.ofNat 32 s.val) 112#32) ⟨d.val % 8, by omega⟩) else 0 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at
  rw [take_apply]
  pointwise
  simp only [id_eq, const_word, const_num, pick64, pick8, rem_eq, lane_eq, freq_eq, freqOf_eq]
  have hc := isSecond_eq d
  unfold isSecond at hc
  rw [hc]
  split_ifs
  · rfl
  · exact Ideal.ofBits_zero_f32

/-- The weights of a mean of 64. -/
theorem gmean_entry (c : Dev nD) (k j : Fin 256) :
    V m c main_v60 (ix2 k j) = if k.val / 64 = j.val / 64 then Ideal.ofBits .f32 0x3C800000#32 else 0 := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at
  have hq : ∀ i : Fin 256, quot (BitVec.ofNat 32 i.val) = BitVec.ofNat 32 (i.val / 64) := by decide +kernel
  show Scalar.select (IntOp.cmpi .eq (quot (BitVec.ofNat 32 k.val)) (quot (BitVec.ofNat 32 j.val))) (Ideal.ofBits .f32 0x3C800000#32) 0 = _
  rw [hq, hq]
  by_cases h : k.val / 64 = j.val / 64
  · rw [if_pos h, h]
    simp [IntOp.cmpi, Scalar.select]
  · rw [if_neg h]
    have hne : ∀ a b : Fin 4, a.val ≠ b.val → IntOp.cmpi .eq (BitVec.ofNat 32 a.val) (BitVec.ofNat 32 b.val) = 0#1 := by decide +kernel
    rw [hne ⟨k.val / 64, by omega⟩ ⟨j.val / 64, by omega⟩ h]
    rfl

/-- The norm's gains are the second layer's row of the argument. -/
theorem gain_entry (c : Dev nD) (j : Fin 1024) : V m c main_v64 (ix2 0 j) = m ((c : Thread nD τ).loc main_arg1) (ix2 1 j) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at

/-- The weights are the argument. -/
theorem w_entry (c : Dev nD) (l : Fin 2) (k : Fin 1024) (j : Fin 2560) : V m c main_v61 (ix3 l k j) = m ((c : Thread nD τ).loc main_arg2) (ix3 l k j) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at

/-- The query gains, one row of 64 for every group. -/
theorem qgain_entry (c : Dev nD) (j : Fin 512) : V m c main_v70 (ix2 0 j) = m ((c : Thread nD τ).loc main_arg3) (ix2 1 ⟨j.val % 64, by omega⟩) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at

/-- The key gains, one row of 64 for every group. -/
theorem kgain_entry (c : Dev nD) (j : Fin 512) : V m c main_v76 (ix2 0 j) = m ((c : Thread nD τ).loc main_arg4) (ix2 1 ⟨j.val % 64, by omega⟩) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at

/-- The stream is the argument under 112 rows of zeros. -/
theorem stream_entry (c : Dev nD) (b : Fin 4) (s : Fin 8320) (j : Fin 1024) :
    V m c main_v0 (ix3 b s j) = InTile.padded (fun b s j => m ((c : Thread nD τ).loc main_arg0) (ix3 b s j)) b s j := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_reads_at
  unfold InTile.padded
  have hs : s.val - 112 < 8208 := by omega
  by_cases h : 112 ≤ s.val
  · rw [dif_pos h]
    first
      | rw [dif_pos ⟨h, hs⟩]
      | rw [dif_pos h]
  · rw [dif_neg h]
    first
      | rw [dif_neg (fun e => h e.1)]
      | rw [dif_neg h]
    simp [FloatOps.sitofp]

end Cert.Sec

end
-- ==== Proof.SecArray.lean ====
/- What each input block of the second layer's input projection holds in terms of the arguments, and so its five
   result arrays. -/
module

public import proofs.«01_k».proof.Proof.SecBlock
public import proofs.«01_k».proof.Proof.SecHost
public import proofs.«01_k».proof.Proof.InTile
public import Idealize.ShloMosaic.Lib.Claim
public import Idealize.ShloMosaic.Lib.Pipeline.ValueKit.Point

@[expose] public section

noncomputable section

namespace Cert.Sec

open Cert.Kernel4Ideal Cert.Kernel4Ideal.Gen Idealize.ShloMosaic Idealize.ShloMosaic.TcCoe Idealize.SL.Sem
open scoped BigOperators

variable (m : (ℓ : Loc nD τ sig) → Buf (Elt Ideal) ℓ)

/-- A grid point's batch. -/
abbrev bat (t : Fin cfg0.N) : Fin 4 := ⟨t.val / 13, by have : t.val < 52 := t.isLt; omega⟩
/-- A grid point's tile of 640 rows. -/
abbrev til (t : Fin cfg0.N) : Fin 13 := ⟨t.val % 13, by omega⟩

/-- A grid point's second coordinate is its tile. -/
theorem coord1 : ∀ t : Fin cfg0.N, (grid0.coords t 1).val = t.val % 13 := by decide +kernel
/-- The stream's rows. -/
theorem index0 : ∀ t : Fin cfg0.N, win0_0.index t = ![t.val / 13, t.val % 13, 0] := by decide +kernel
/-- The gains. -/
theorem index1 : ∀ t : Fin cfg0.N, win0_1.index t = ![0, 0] := by decide +kernel
/-- The second layer's weights. -/
theorem index2 : ∀ t : Fin cfg0.N, win0_2.index t = ![1, 0, 0] := by decide +kernel
/-- The query gains. -/
theorem index3 : ∀ t : Fin cfg0.N, win0_3.index t = ![0, 0] := by decide +kernel
/-- The key gains. -/
theorem index4 : ∀ t : Fin cfg0.N, win0_4.index t = ![0, 0] := by decide +kernel
/-- The cosines' rows. -/
theorem index5 : ∀ t : Fin cfg0.N, win0_5.index t = ![t.val % 13, 0] := by decide +kernel
/-- The negated sines' rows. -/
theorem index6 : ∀ t : Fin cfg0.N, win0_6.index t = ![t.val % 13, 0] := by decide +kernel
/-- The sines' rows. -/
theorem index7 : ∀ t : Fin cfg0.N, win0_7.index t = ![t.val % 13, 0] := by decide +kernel
/-- The weights of a mean. -/
theorem index8 : ∀ t : Fin cfg0.N, win0_8.index t = ![0, 0] := by decide +kernel
/-- The queries' columns. -/
theorem index9 : ∀ t : Fin cfg0.N, win0_9.index t = ![t.val / 13, 0, t.val % 13] := by decide +kernel
/-- The keys' rows. -/
theorem index10 : ∀ t : Fin cfg0.N, win0_10.index t = ![t.val / 13, t.val % 13, 0] := by decide +kernel
/-- The values' columns. -/
theorem index11 : ∀ t : Fin cfg0.N, win0_11.index t = ![t.val / 13, 0, 0, t.val % 13] := by decide +kernel
/-- The recurrent heads' rows. -/
theorem index12 : ∀ t : Fin cfg0.N, win0_12.index t = ![t.val / 13, t.val % 13, 0] := by decide +kernel
/-- The gate's rows. -/
theorem index13 : ∀ t : Fin cfg0.N, win0_13.index t = ![t.val / 13, t.val % 13, 0] := by decide +kernel
/-- The gains' block. -/
theorem block1 (c : Dev nD) (t : Fin cfg0.N) (j : Fin 1024) : iblk m c 1 t (ix2 0 j) = m ((c : Thread nD τ).loc main_arg1) (ix2 1 j) := by
  refine Eq.trans ?_ (gain_entry m c j)
  blk_ext [iblk, index1 t]

/-- The weights' block. -/
theorem block2 (c : Dev nD) (t : Fin cfg0.N) (k : Fin 1024) (j : Fin 2560) : iblk m c 2 t (ix3 0 k j) = m ((c : Thread nD τ).loc main_arg2) (ix3 1 k j) := by
  refine Eq.trans ?_ (w_entry m c 1 k j)
  blk_ext [iblk, index2 t]

/-- The query gains' block. -/
theorem block3 (c : Dev nD) (t : Fin cfg0.N) (j : Fin 512) : iblk m c 3 t (ix2 0 j) = m ((c : Thread nD τ).loc main_arg3) (ix2 1 ⟨j.val % 64, by omega⟩) := by
  refine Eq.trans ?_ (qgain_entry m c j)
  blk_ext [iblk, index3 t]

/-- The key gains' block. -/
theorem block4 (c : Dev nD) (t : Fin cfg0.N) (j : Fin 512) : iblk m c 4 t (ix2 0 j) = m ((c : Thread nD τ).loc main_arg4) (ix2 1 ⟨j.val % 64, by omega⟩) := by
  refine Eq.trans ?_ (kgain_entry m c j)
  blk_ext [iblk, index4 t]

/-- The cosines' block. -/
theorem block5 (c : Dev nD) (t : Fin cfg0.N) (r : Fin 640) (d : Fin 128) : iblk m c 5 t (ix2 r d)
    = if d.val % 64 < 16 then Ideal.cos (InRow.turn (IntOp.subi (BitVec.ofNat 32 (InTile.at_ (til t) r).val) 112#32) ⟨d.val % 8, by omega⟩) else (1 : EReal) := by
  refine Eq.trans ?_ (cos_entry m c (InTile.at_ (til t) r) d)
  blk_ext [iblk, index5 t]

/-- The negated sines' block. -/
theorem block6 (c : Dev nD) (t : Fin cfg0.N) (r : Fin 640) (d : Fin 128) : iblk m c 6 t (ix2 r d)
    = if d.val % 64 < 8 then -Ideal.sin (InRow.turn (IntOp.subi (BitVec.ofNat 32 (InTile.at_ (til t) r).val) 112#32) ⟨d.val % 8, by omega⟩) else (0 : EReal) := by
  refine Eq.trans ?_ (sina_entry m c (InTile.at_ (til t) r) d)
  blk_ext [iblk, index6 t]

/-- The sines' block. -/
theorem block7 (c : Dev nD) (t : Fin cfg0.N) (r : Fin 640) (d : Fin 128) : iblk m c 7 t (ix2 r d)
    = if 8 ≤ d.val % 64 ∧ d.val % 64 < 16 then Ideal.sin (InRow.turn (IntOp.subi (BitVec.ofNat 32 (InTile.at_ (til t) r).val) 112#32) ⟨d.val % 8, by omega⟩) else (0 : EReal) := by
  refine Eq.trans ?_ (sinb_entry m c (InTile.at_ (til t) r) d)
  blk_ext [iblk, index7 t]

/-- The block of the weights of a mean. -/
theorem block8 (c : Dev nD) (t : Fin cfg0.N) (k j : Fin 256) : iblk m c 8 t (ix2 k j) = if k.val / 64 = j.val / 64 then Ideal.ofBits .f32 0x3C800000#32 else (0 : EReal) := by
  refine Eq.trans ?_ (gmean_entry m c k j)
  blk_ext [iblk, index8 t]

/-- The stream, by batch, row and channel. -/
abbrev hs (c : Dev nD) : Fin 4 → Fin 8208 → Fin 1024 → EReal := fun b s j => m ((c : Thread nD τ).loc main_arg0) (ix3 b s j)

/-- The stream's block. -/
theorem block0 (c : Dev nD) (t : Fin cfg0.N) (r : Fin 640) (j : Fin 1024) :
    iblk m c 0 t (ix3 0 r j) = InTile.padded (hs m c) (bat t) (InTile.at_ (til t) r) j := by
  refine Eq.trans ?_ (stream_entry m c (bat t) (InTile.at_ (til t) r) j)
  blk_ext [iblk, index0 t]

/-- The second layer's gains. -/
abbrev gs (c : Dev nD) : Fin 1024 → EReal := fun k => m ((c : Thread nD τ).loc main_arg1) (ix2 1 k)
/-- The second layer's weights. -/
abbrev ws (c : Dev nD) : Fin 1024 → Fin 2560 → EReal := fun k j => m ((c : Thread nD τ).loc main_arg2) (ix3 1 k j)
/-- The second layer's query gains. -/
abbrev qs (c : Dev nD) : Fin 64 → EReal := fun k => m ((c : Thread nD τ).loc main_arg3) (ix2 1 k)
/-- The second layer's key gains. -/
abbrev ks (c : Dev nD) : Fin 64 → EReal := fun k => m ((c : Thread nD τ).loc main_arg4) (ix2 1 k)

/-- What a grid point leaves of the queries. -/
theorem left9 (c : Dev nD) (t : Fin cfg0.N) : (dats m 0 c).flushed 9 t = (cfg0.win 9).cut (grid0.coords t) (InVec.queries (F := Ideal) (InVec.normed (BitVec.ofNat 32 (til t).val) (iblk m c 0 t) (iblk m c 1 t)) (InVec.cols (iblk m c 2 t) 0 (by omega)) (iblk m c 3 t) (iblk m c 8 t) (iblk m c 5 t) (iblk m c 6 t) (iblk m c 7 t)) := by
  rw [Value.flushed9, out9_eq, coord1]

/-- What a grid point leaves of the keys. -/
theorem left10 (c : Dev nD) (t : Fin cfg0.N) : (dats m 0 c).flushed 10 t = (cfg0.win 10).cut (grid0.coords t) (InVec.keys (F := Ideal) (InVec.normed (BitVec.ofNat 32 (til t).val) (iblk m c 0 t) (iblk m c 1 t)) (InVec.cols (iblk m c 2 t) 512 (by omega)) (iblk m c 4 t) (iblk m c 8 t) (iblk m c 5 t) (iblk m c 6 t) (iblk m c 7 t)) := by
  rw [Value.flushed10, out10_eq, coord1]

/-- What a grid point leaves of the values. -/
theorem left11 (c : Dev nD) (t : Fin cfg0.N) : (dats m 0 c).flushed 11 t = (cfg0.win 11).cut (grid0.coords t) (InVec.values (F := Ideal) (InVec.normed (BitVec.ofNat 32 (til t).val) (iblk m c 0 t) (iblk m c 1 t)) (InVec.cols (iblk m c 2 t) 1024 (by omega))) := by
  rw [Value.flushed11, out11_eq, coord1]

/-- What a grid point leaves of the recurrent heads' input. -/
theorem left12 (c : Dev nD) (t : Fin cfg0.N) : (dats m 0 c).flushed 12 t = (cfg0.win 12).cut (grid0.coords t) (InVec.plain (F := Ideal) (InVec.normed (BitVec.ofNat 32 (til t).val) (iblk m c 0 t) (iblk m c 1 t)) (InVec.cols (iblk m c 2 t) 1536 (by omega))) := by
  rw [Value.flushed12, out12_eq, coord1]

/-- What a grid point leaves of the gate. -/
theorem left13 (c : Dev nD) (t : Fin cfg0.N) : (dats m 0 c).flushed 13 t = (cfg0.win 13).cut (grid0.coords t) (InVec.plain (F := Ideal) (InVec.normed (BitVec.ofNat 32 (til t).val) (iblk m c 0 t) (iblk m c 1 t)) (InVec.cols (iblk m c 2 t) 2048 (by omega))) := by
  rw [Value.flushed13, out13_eq, coord1]

/-- The whole array of the queries. -/
theorem array9 (c : Dev nD) : (dats m 0 c).arrAt 9 cfg0.N = fun y : S4x512x8320.Idx => InTile.padded (InTile.queries (hs m c) (gs m c) (ws m c) (qs m c)) (y 0) (y 2) (y 1) := by
  refine (dats m 0 c).arrAt_eq_of_covers 9 _ (by decide +kernel) fun t hf y => ?_
  change (dats m 0 c).flushed 9 t y = _
  rw [left9]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.queries_tile (hs m c) (gs m c) (ws m c) (qs m c) (iblk m c 0 t) (iblk m c 1 t) (iblk m c 2 t) (bat t) (til t) (y 2) (fun k => block0 m c t (y 2) k) (fun k => block1 m c t k) (fun k j => block2 m c t k j) (iblk m c 8 t) (iblk m c 3 t) (iblk m c 5 t) (iblk m c 6 t) (iblk m c 7 t) (fun k j => block8 m c t k j) (fun k => block3 m c t k) (fun d => block5 m c t (y 2) d) (fun d => block6 m c t (y 2) d) (fun d => block7 m c t (y 2) d) (y 1)
  refine ((congrArg _ hy).symm.trans h).trans (InTile.padded_at (n := 512) _ ?_ ?_ ?_)
  · blk_simp [index9 t]
  · refine Eq.trans (b := 640 * (t.val % 13) + (y 2).val) rfl ?_
    blk_simp [index9 t]
    omega
  · blk_simp [index9 t]

/-- The whole array of the keys. -/
theorem array10 (c : Dev nD) : (dats m 0 c).arrAt 10 cfg0.N = fun y : S4x8320x512.Idx => InTile.padded (InTile.heads (hs m c) (gs m c) (ws m c) (ks m c) 512 (by omega)) (y 0) (y 1) (y 2) := by
  refine (dats m 0 c).arrAt_eq_of_covers 10 _ (by decide +kernel) fun t hf y => ?_
  change (dats m 0 c).flushed 10 t y = _
  rw [left10]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.keys_tile (hs m c) (gs m c) (ws m c) (ks m c) (iblk m c 0 t) (iblk m c 1 t) (iblk m c 2 t) (bat t) (til t) (y 1) (fun k => block0 m c t (y 1) k) (fun k => block1 m c t k) (fun k j => block2 m c t k j) (iblk m c 8 t) (iblk m c 4 t) (iblk m c 5 t) (iblk m c 6 t) (iblk m c 7 t) (fun k j => block8 m c t k j) (fun k => block4 m c t k) (fun d => block5 m c t (y 1) d) (fun d => block6 m c t (y 1) d) (fun d => block7 m c t (y 1) d) 512 (by omega) (y 2)
  refine ((congrArg _ hy).symm.trans h).trans (InTile.padded_at (n := 512) _ ?_ ?_ ?_)
  · blk_simp [index10 t]
  · refine Eq.trans (b := 640 * (t.val % 13) + (y 1).val) rfl ?_
    blk_simp [index10 t]
    omega
  · blk_simp [index10 t]

/-- The whole array of the values. -/
theorem array11 (c : Dev nD) : (dats m 0 c).arrAt 11 cfg0.N = fun y : S4x4x128x8320.Idx => InTile.padded (InTile.cut (hs m c) (gs m c) (ws m c) 1024 (by omega)) (y 0) (y 3) ⟨128 * (y 1).val + (y 2).val, by have h1 : (y 1).val < 4 := (y 1).isLt; have h2 : (y 2).val < 128 := (y 2).isLt; omega⟩ := by
  refine (dats m 0 c).arrAt_eq_of_covers 11 _ (by decide +kernel) fun t hf y => ?_
  change (dats m 0 c).flushed 11 t y = _
  rw [left11]
  have hy0 : (y 0).val < 1 := (y 0).isLt
  have hy : ix4 0 (y 1) (y 2) (y 3) = y := by
    funext a
    match a with
    | ⟨0, _⟩ => exact Fin.ext (by show 0 = (y 0).val; omega)
    | ⟨1, _⟩ => rfl
    | ⟨2, _⟩ => rfl
    | ⟨3, _⟩ => rfl
  have h := InTile.values_tile (hs m c) (gs m c) (ws m c) (iblk m c 0 t) (iblk m c 1 t) (iblk m c 2 t) (bat t) (til t) (y 3) (fun k => block0 m c t (y 3) k) (fun k => block1 m c t k) (fun k j => block2 m c t k j) 1024 (by omega) (y 1) (y 2)
  refine ((congrArg _ hy).symm.trans h).trans (InTile.padded_at (n := 512) _ ?_ ?_ ?_)
  · blk_simp [index11 t]
  · refine Eq.trans (b := 640 * (t.val % 13) + (y 3).val) rfl ?_
    blk_simp [index11 t]
    omega
  · blk_simp [index11 t]

/-- The whole array of the recurrent heads' input. -/
theorem array12 (c : Dev nD) : (dats m 0 c).arrAt 12 cfg0.N = fun y : S4x8320x512.Idx => InTile.padded (InTile.cut (hs m c) (gs m c) (ws m c) 1536 (by omega)) (y 0) (y 1) (y 2) := by
  refine (dats m 0 c).arrAt_eq_of_covers 12 _ (by decide +kernel) fun t hf y => ?_
  change (dats m 0 c).flushed 12 t y = _
  rw [left12]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.plain_tile (hs m c) (gs m c) (ws m c) (iblk m c 0 t) (iblk m c 1 t) (iblk m c 2 t) (bat t) (til t) (y 1) (fun k => block0 m c t (y 1) k) (fun k => block1 m c t k) (fun k j => block2 m c t k j) 1536 (by omega) (y 2)
  refine ((congrArg _ hy).symm.trans h).trans (InTile.padded_at (n := 512) _ ?_ ?_ ?_)
  · blk_simp [index12 t]
  · refine Eq.trans (b := 640 * (t.val % 13) + (y 1).val) rfl ?_
    blk_simp [index12 t]
    omega
  · blk_simp [index12 t]

/-- The whole array of the gate. -/
theorem array13 (c : Dev nD) : (dats m 0 c).arrAt 13 cfg0.N = fun y : S4x8320x512.Idx => InTile.padded (InTile.cut (hs m c) (gs m c) (ws m c) 2048 (by omega)) (y 0) (y 1) (y 2) := by
  refine (dats m 0 c).arrAt_eq_of_covers 13 _ (by decide +kernel) fun t hf y => ?_
  change (dats m 0 c).flushed 13 t y = _
  rw [left13]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := InTile.plain_tile (hs m c) (gs m c) (ws m c) (iblk m c 0 t) (iblk m c 1 t) (iblk m c 2 t) (bat t) (til t) (y 1) (fun k => block0 m c t (y 1) k) (fun k => block1 m c t k) (fun k j => block2 m c t k j) 2048 (by omega) (y 2)
  refine ((congrArg _ hy).symm.trans h).trans (InTile.padded_at (n := 512) _ ?_ ?_ ?_)
  · blk_simp [index13 t]
  · refine Eq.trans (b := 640 * (t.val % 13) + (y 1).val) rfl ?_
    blk_simp [index13 t]
    omega
  · blk_simp [index13 t]

end Cert.Sec

end
-- ==== Proof.SecRef.lean ====
/- The second layer's input projection's reference, read at the elements of its five results. -/
module

public import proofs.«01_k».proof.Proof.InRef
public import proofs.«01_k».proof.Proof.Gen.Reference4Ideal.Run
public import proofs.«01_k».proof.Proof.Gen.Reference4Ideal.Read
public import Idealize.ShloMosaic.Lib.Pipeline.Value
public import Idealize.ShloMosaic.Lib.Pipeline.ValueKit.Point

@[expose] public section

noncomputable section

namespace Cert.SecRef

open Cert.Reference4Ideal Cert.Reference4Ideal.Gen Idealize.ShloMosaic Idealize.ShloMosaic.TcCoe Idealize.SL.Sem
open Cert.InRef (norm norm_apply headNorm headNorm_apply rope rope_apply chan rows rows_apply split split_apply merge merge_apply)
open scoped BigOperators

variable (x0 : Vec Ideal S4x8208x1024 .f32) (x1 : Vec Ideal S2x1024 .f32) (x2 : Vec Ideal S2x1024x2560 .f32)

/-- The stream, by batch, row and channel. -/
abbrev hs : Fin 4 → Fin 8208 → Fin 1024 → EReal := fun b s j => x0 (ix3 b s j)

/-- The second layer's gains. -/
abbrev gs : Fin 1024 → EReal := fun k => x1 (ix2 1 k)

/-- The second layer's weights. -/
abbrev ws : Fin 1024 → Fin 2560 → EReal := fun k j => x2 (ix3 1 k j)

/-- The second layer's gains of the heads. -/
abbrev hgs (x3 : Vec Ideal S2x64 .f32) : Fin 64 → EReal := fun k => x3 (ix2 1 k)

/-- The normalised stream. -/
theorem normed_apply (b : Fin 4) (s : Fin 8208) (j : Fin 1024) :
    Read.val_main_v32 x0 x1 (ix3 b s j) = InTile.norm (hs x0) (gs x1) b s j := by
  have e : Read.val_main_v32 x0 x1 = norm x0
    (shapeCast S1024 (extractStridedSlice S1x1024 ![1, 0] x1 slices_S2x1024_S1x1024_1_0) shapeCasts_S1x1024_S1024) := rfl
  rw [e, norm_apply]
  unfold InTile.norm
  pointwise

/-- The projection. -/
theorem proj_apply (b : Fin 4) (s : Fin 8208) (c : Fin 2560) :
    Read.val_main_v35 x0 x1 x2 (ix3 b s c) = InRow.proj (InTile.norm (hs x0) (gs x1) b s) (ws x2) c := by
  unfold Read.val_main_v35 Read.val_main_v34 Read.val_main_v33 InRow.proj
  have hn := normed_apply x0 x1
  generalize Read.val_main_v32 x0 x1 = n at hn ⊢
  pointwise
  simp only [hn]

/-- The rotation's angles. -/
theorem angle_apply (s : Fin 8208) (e : Fin 8) : Read.val_main_v15 (F := Ideal) (ix2 s e) = InTile.angle s e := by
  unfold Read.val_main_v15 Read.val_main_v14 Read.val_main_v13 Read.val_main_v12 Read.val_main_v11 Read.val_main_v10 Read.val_main_v9 Read.val_main_v8
    Read.val_main_v7 Read.val_main_v6 Read.val_main_v5 Read.val_main_v4 Read.val_main_v3 Read.val_main_v2 Read.val_main_v1 Read.val_main_v0
    Read.val_main_cst Read.val_main_cst_0 Read.val_main_cst_1 Read.val_main_cst_2 InTile.angle InRow.turn
  pointwise

/-- A row of 512 columns of the projection. -/
theorem cut_apply (o : Nat) (ho : o + 512 ≤ 2560) (z : Vec Ideal S4x8208x512 .f32)
    (hz : ∀ b s j, z (ix3 b s j) = Read.val_main_v35 x0 x1 x2 (ix3 b s ⟨o + j.val, by omega⟩)) (b : Fin 4) (s : Fin 8208) (j : Fin 512) :
    z (ix3 b s j) = InTile.cut (hs x0) (gs x1) (ws x2) o ho b s j := by
  rw [hz, proj_apply]
  rfl

/-- The columns of the queries. -/
theorem v36_apply (b : Fin 4) (s : Fin 8208) (j : Fin 512) :
    Read.val_main_v36 x0 x1 x2 (ix3 b s j) = InTile.cut (hs x0) (gs x1) (ws x2) 0 (by omega) b s j := by
  refine cut_apply x0 x1 x2 0 _ _ (fun b s j => ?_) b s j
  unfold Read.val_main_v36
  generalize Read.val_main_v35 x0 x1 x2 = z
  pointwise

/-- The columns of the keys. -/
theorem v37_apply (b : Fin 4) (s : Fin 8208) (j : Fin 512) :
    Read.val_main_v37 x0 x1 x2 (ix3 b s j) = InTile.cut (hs x0) (gs x1) (ws x2) 512 (by omega) b s j := by
  refine cut_apply x0 x1 x2 512 _ _ (fun b s j => ?_) b s j
  unfold Read.val_main_v37
  generalize Read.val_main_v35 x0 x1 x2 = z
  pointwise

/-- The columns of the values. -/
theorem v38_apply (b : Fin 4) (s : Fin 8208) (j : Fin 512) :
    Read.val_main_v38 x0 x1 x2 (ix3 b s j) = InTile.cut (hs x0) (gs x1) (ws x2) 1024 (by omega) b s j := by
  refine cut_apply x0 x1 x2 1024 _ _ (fun b s j => ?_) b s j
  unfold Read.val_main_v38
  generalize Read.val_main_v35 x0 x1 x2 = z
  pointwise

/-- The columns of the recurrence's input. -/
theorem v39_apply (b : Fin 4) (s : Fin 8208) (j : Fin 512) :
    Read.val_main_v39 x0 x1 x2 (ix3 b s j) = InTile.cut (hs x0) (gs x1) (ws x2) 1536 (by omega) b s j := by
  refine cut_apply x0 x1 x2 1536 _ _ (fun b s j => ?_) b s j
  unfold Read.val_main_v39
  generalize Read.val_main_v35 x0 x1 x2 = z
  pointwise

/-- The columns of the gate. -/
theorem v40_apply (b : Fin 4) (s : Fin 8208) (j : Fin 512) :
    Read.val_main_v40 x0 x1 x2 (ix3 b s j) = InTile.cut (hs x0) (gs x1) (ws x2) 2048 (by omega) b s j := by
  refine cut_apply x0 x1 x2 2048 _ _ (fun b s j => ?_) b s j
  unfold Read.val_main_v40
  generalize Read.val_main_v35 x0 x1 x2 = z
  pointwise

/-- Normalised and rotated heads of 512 columns of the projection. -/
theorem heads_apply (x3 : Vec Ideal S2x64 .f32) (o : Nat) (ho : o + 512 ≤ 2560) (z : Vec Ideal S4x8208x512 .f32)
    (hz : ∀ b s j, z (ix3 b s j) = InTile.cut (hs x0) (gs x1) (ws x2) o ho b s j) (b : Fin 4) (s : Fin 8208) (h : Fin 4) (i : Fin 2) (e : Fin 64) :
    rope (headNorm (split z) (shapeCast S64 (extractStridedSlice S1x64 ![1, 0] x3 slices_S2x64_S1x64_1_0) shapeCasts_S1x64_S64))
      (Read.val_main_v16 (F := Ideal)) (Read.val_main_v17 (F := Ideal)) (ix5 b s h i e)
      = InTile.heads (hs x0) (gs x1) (ws x2) (hgs x3) o ho b s (chan h i e) := by
  have hg : (fun k : Fin 64 => shapeCast S64 (extractStridedSlice S1x64 ![1, 0] x3 slices_S2x64_S1x64_1_0) shapeCasts_S1x64_S64 (ix1 k)) = hgs x3 := by
    funext k
    pointwise
  have hc : (fun k : Fin 8 => Read.val_main_v16 (F := Ideal) (ix2 s k)) = fun k => Ideal.cos (InTile.angle s k) := by
    funext k
    rw [← angle_apply]
    rfl
  have hs : (fun k : Fin 8 => Read.val_main_v17 (F := Ideal) (ix2 s k)) = fun k => Ideal.sin (InTile.angle s k) := by
    funext k
    rw [← angle_apply]
    rfl
  unfold InTile.heads
  rw [← hg, ← hc, ← hs]
  refine rope_apply _ _ _ _ b s h i e (fun e => ?_)
  refine headNorm_apply _ _ _ b s h i e (fun e => ?_)
  rw [split_apply, hz]

/-- The scaled queries, side by side. -/
theorem v108_apply (x3 : Vec Ideal S2x64 .f32) (b : Fin 4) (s : Fin 8208) (j : Fin 512) :
    Read.val_main_v108 x0 x1 x2 x3 (ix3 b s j) = InTile.queries (hs x0) (gs x1) (ws x2) (hgs x3) b s j := by
  refine merge_apply (Read.val_main_v107 x0 x1 x2 x3) _ (fun b s h i e => ?_) b s j
  refine (congrArg (· * InRow.qScale) (heads_apply x0 x1 x2 x3 0 (by omega) _ (v36_apply x0 x1 x2) b s h i e) : _)

/-- The keys, side by side. -/
theorem v110_apply (x4 : Vec Ideal S2x64 .f32) (b : Fin 4) (s : Fin 8208) (j : Fin 512) :
    Read.val_main_v110 x0 x1 x2 x4 (ix3 b s j) = InTile.heads (hs x0) (gs x1) (ws x2) (hgs x4) 512 (by omega) b s j := by
  refine merge_apply (Read.val_main_v105 x0 x1 x2 x4) _ (fun b s h i e => ?_) b s j
  exact heads_apply x0 x1 x2 x4 512 (by omega) _ (v37_apply x0 x1 x2) b s h i e

/-- The first result: the scaled queries, transposed. -/
theorem v116_apply (x3 : Vec Ideal S2x64 .f32) (b : Fin 4) (j : Fin 512) (s : Fin 8320) : Read.val_main_v116 x0 x1 x2 x3 (ix3 b j s)
    = InTile.padded (InTile.queries (hs x0) (gs x1) (ws x2) (hgs x3)) b s j := by
  rw [← rows_apply _ _ (v108_apply x0 x1 x2 x3)]
  have e : Read.val_main_v116 x0 x1 x2 x3 = truncf .bf16 (transpose S4x512x8320 [0, 2, 1] (rows (Read.val_main_v108 x0 x1 x2 x3)) transposes_S4x8320x512_S4x512x8320_0_2_1) bitsLt_bf16_f32 := rfl
  rw [e]
  generalize rows (Read.val_main_v108 x0 x1 x2 x3) = z
  pointwise

/-- The second result: the keys. -/
theorem v117_apply (x4 : Vec Ideal S2x64 .f32) (b : Fin 4) (s : Fin 8320) (j : Fin 512) : Read.val_main_v117 x0 x1 x2 x4 (ix3 b s j)
    = InTile.padded (InTile.heads (hs x0) (gs x1) (ws x2) (hgs x4) 512 (by omega)) b s j :=
  rows_apply _ _ (v110_apply x0 x1 x2 x4) b s j

/-- The values' heads side by side again. -/
theorem v112_apply (b : Fin 4) (s : Fin 8208) (j : Fin 512) :
    Read.val_main_v112 x0 x1 x2 (ix3 b s j) = InTile.cut (hs x0) (gs x1) (ws x2) 1024 (by omega) b s j := by
  rw [← v38_apply]
  unfold Read.val_main_v112 Read.val_main_v43
  generalize Read.val_main_v38 x0 x1 x2 = z
  pointwise

/-- The third result: the values, one head's channels after the other. -/
theorem v119_apply (b : Fin 4) (h : Fin 4) (d : Fin 128) (s : Fin 8320) : Read.val_main_v119 x0 x1 x2 (ix4 b h d s)
    = InTile.padded (InTile.cut (hs x0) (gs x1) (ws x2) 1024 (by omega)) b s ⟨128 * h.val + d.val, by omega⟩ := by
  rw [← rows_apply _ _ (v112_apply x0 x1 x2)]
  have e : Read.val_main_v119 x0 x1 x2 = truncf .bf16 (transpose S4x4x128x8320 [0, 2, 3, 1] (shapeCast S4x8320x4x128 (rows (Read.val_main_v112 x0 x1 x2)) shapeCasts_S4x8320x512_S4x8320x4x128)
    transposes_S4x8320x4x128_S4x4x128x8320_0_2_3_1) bitsLt_bf16_f32 := rfl
  rw [e]
  generalize rows (Read.val_main_v112 x0 x1 x2) = z
  pointwise
  exact congrArg (fun k => z (ix3 b s k)) (Fin.ext (by show h.val * 128 + d.val = 128 * h.val + d.val; omega))

/-- The fourth result: the recurrence's input. -/
theorem v120_apply (b : Fin 4) (s : Fin 8320) (j : Fin 512) : Read.val_main_v120 x0 x1 x2 (ix3 b s j)
    = InTile.padded (InTile.cut (hs x0) (gs x1) (ws x2) 1536 (by omega)) b s j :=
  rows_apply _ _ (v39_apply x0 x1 x2) b s j

/-- The fifth result: the gate. -/
theorem v121_apply (b : Fin 4) (s : Fin 8320) (j : Fin 512) : Read.val_main_v121 x0 x1 x2 (ix3 b s j)
    = InTile.padded (InTile.cut (hs x0) (gs x1) (ws x2) 2048 (by omega)) b s j :=
  rows_apply _ _ (v40_apply x0 x1 x2) b s j

/-- The first result as one array. -/
theorem v116_eq (x3 : Vec Ideal S2x64 .f32) : Read.val_main_v116 x0 x1 x2 x3 = fun y : S4x512x8320.Idx => InTile.padded (InTile.queries (hs x0) (gs x1) (ws x2) (hgs x3)) (y 0) (y 2) (y 1) := by
  funext y
  obtain ⟨b, j, s, rfl⟩ : ∃ (b : Fin 4) (j : Fin 512) (s : Fin 8320), y = ix3 b j s := ⟨y 0, y 1, y 2, ValueIdx.eq_ix3 y⟩
  exact v116_apply x0 x1 x2 x3 b j s

/-- The second result as one array. -/
theorem v117_eq (x4 : Vec Ideal S2x64 .f32) : Read.val_main_v117 x0 x1 x2 x4 = fun y : S4x8320x512.Idx => InTile.padded (InTile.heads (hs x0) (gs x1) (ws x2) (hgs x4) 512 (by omega)) (y 0) (y 1) (y 2) := by
  funext y
  obtain ⟨b, s, j, rfl⟩ : ∃ (b : Fin 4) (s : Fin 8320) (j : Fin 512), y = ix3 b s j := ⟨y 0, y 1, y 2, ValueIdx.eq_ix3 y⟩
  exact v117_apply x0 x1 x2 x4 b s j

/-- The third result as one array. -/
theorem v119_eq : Read.val_main_v119 x0 x1 x2 = fun y : S4x4x128x8320.Idx => InTile.padded (InTile.cut (hs x0) (gs x1) (ws x2) 1024 (by omega)) (y 0) (y 3)
    ⟨128 * (y 1).val + (y 2).val, by have h1 : (y 1).val < 4 := (y 1).isLt; have h2 : (y 2).val < 128 := (y 2).isLt; omega⟩ := by
  funext y
  obtain ⟨b, h, d, s, rfl⟩ : ∃ (b : Fin 4) (h : Fin 4) (d : Fin 128) (s : Fin 8320), y = ix4 b h d s := ⟨y 0, y 1, y 2, y 3, ValueIdx.eq_ix4 y⟩
  exact v119_apply x0 x1 x2 b h d s

/-- The fourth result as one array. -/
theorem v120_eq : Read.val_main_v120 x0 x1 x2 = fun y : S4x8320x512.Idx => InTile.padded (InTile.cut (hs x0) (gs x1) (ws x2) 1536 (by omega)) (y 0) (y 1) (y 2) := by
  funext y
  obtain ⟨b, s, j, rfl⟩ : ∃ (b : Fin 4) (s : Fin 8320) (j : Fin 512), y = ix3 b s j := ⟨y 0, y 1, y 2, ValueIdx.eq_ix3 y⟩
  exact v120_apply x0 x1 x2 b s j

/-- The fifth result as one array. -/
theorem v121_eq : Read.val_main_v121 x0 x1 x2 = fun y : S4x8320x512.Idx => InTile.padded (InTile.cut (hs x0) (gs x1) (ws x2) 2048 (by omega)) (y 0) (y 1) (y 2) := by
  funext y
  obtain ⟨b, s, j, rfl⟩ : ∃ (b : Fin 4) (s : Fin 8320) (j : Fin 512), y = ix3 b s j := ⟨y 0, y 1, y 2, ValueIdx.eq_ix3 y⟩
  exact v121_apply x0 x1 x2 b s j

end Cert.SecRef

end
-- ==== Proof.SecClaim.lean ====
/- The second layer's input projection and its reference compute the same extended reals, in all five results. -/
module

public import proofs.«01_k».proof.Proof.SecArray
public import proofs.«01_k».proof.Proof.SecRef
public import proofs.«01_k».proof.Defs
public import Idealize.ShloMosaic.Lib.Claim
public import Idealize.ShloMosaic.Adequacy
public import Idealize.ShloMosaic.Init

@[expose] public section

noncomputable section

namespace Cert.Sec

open Idealize.ShloMosaic Idealize.SL.Sem

/-- The algebraic claim: both runs leave the same five arrays, each with 112 rows of zeros in front of every batch. -/
theorem algebraic : algebraic_Kernel4Ideal_Reference4Ideal := by
  pair_intro
  · run_from Cert.Kernel4Ideal.Value.run_blocks m g
  · run_from Cert.Reference4Ideal.Value.run m' g'
    · obtain ⟨h0, h1, h2, h3, h4⟩ := hagree c
      rw [array9 m c, Cert.Reference4Ideal.Read.val_main_v116_eq, h0, h1, h2, h3]
      exact SecRef.v116_eq _ _ _ _
    · obtain ⟨h0, h1, h2, h3, h4⟩ := hagree c
      rw [array10 m c, Cert.Reference4Ideal.Read.val_main_v117_eq, h0, h1, h2, h4]
      exact SecRef.v117_eq _ _ _ _
    · rw [array11 m c]
      exact (Cert.Reference4Ideal.Read.val_main_v119_eq _ _ _).trans (SecRef.v119_eq _ _ _)
    · rw [array12 m c]
      exact (Cert.Reference4Ideal.Read.val_main_v120_eq _ _ _).trans (SecRef.v120_eq _ _ _)
    · rw [array13 m c]
      exact (Cert.Reference4Ideal.Read.val_main_v121_eq _ _ _).trans (SecRef.v121_eq _ _ _)

end Cert.Sec

end
-- ==== Proof.RecScan.lean ====
/- The recurrence h ↦ a·h + u of the recurrent branch over the extended reals: the state after a row as a fold over the
   rows, the doubling scheme that computes it in a tile, and the two spellings of the input's scale. -/
module

public import proofs.«01_k».proof.Proof.Row

@[expose] public section

noncomputable section

namespace RecScan

open Idealize.ShloMosaic

/-- The state after rows 0, …, n of the recurrence, from the state `h` before them. -/
def run (a u : ℕ → EReal) (h : EReal) : ℕ → EReal
  | 0 => a 0 * h + u 0
  | n + 1 => a (n + 1) * run a u h n + u (n + 1)

/-- The state that a span of `d` rows ending at row `r` starts from: the state after row `r - d`, or the first one. -/
def before (a u : ℕ → EReal) (h : EReal) (d r : ℕ) : EReal :=
  if d ≤ r then run a u h (r - d) else h

/-- `A`, `U` describe spans of `d` rows: applied to the state before the span they give the state after it, and the
    factors are finite and not negative. -/
structure Span (n : ℕ) (a u : ℕ → EReal) (d : ℕ) (A U : ℕ → EReal) : Prop where
  apply : ∀ h r, r < n → A r * before a u h d r + U r = run a u h r
  nonneg : ∀ r, r < n → 0 ≤ A r
  finite : ∀ r, r < n → A r ≠ ⊤

/-- One row is a span. -/
theorem span_one {n : ℕ} {a u : ℕ → EReal} (h0 : ∀ r, r < n → 0 ≤ a r) (h1 : ∀ r, r < n → a r ≠ ⊤) : Span n a u 1 a u where
  apply h r _ := by
    cases r with
    | zero => simp [before, run]
    | succ r => simp [before, run]
  nonneg := h0
  finite := h1

/-- A product of finite factors that are not negative is finite. -/
theorem mul_ne_top {x y : EReal} (hx : 0 ≤ x) (hx' : x ≠ ⊤) (hy : 0 ≤ y) (hy' : y ≠ ⊤) : x * y ≠ ⊤ := by
  lift x to ℝ using ⟨hx', ne_of_gt (lt_of_lt_of_le (EReal.bot_lt_coe 0) hx)⟩
  lift y to ℝ using ⟨hy', ne_of_gt (lt_of_lt_of_le (EReal.bot_lt_coe 0) hy)⟩
  rw [← EReal.coe_mul]
  exact EReal.coe_ne_top _

/-- Doubling: a span of `d` rows after the one of the `d` rows before is a span of `2 d` rows. -/
theorem span_double {n : ℕ} {a u : ℕ → EReal} {d : ℕ} {A U : ℕ → EReal} (hs : Span n a u d A U) :
    Span n a u (d + d) (fun r => A r * (if d ≤ r then A (r - d) else 1)) (fun r => A r * (if d ≤ r then U (r - d) else 0) + U r) where
  apply h r hr := by
    by_cases hd : d ≤ r
    · rw [if_pos hd, if_pos hd]
      have e := hs.apply h (r - d) (by omega)
      have e2 : before a u h (d + d) r = before a u h d (r - d) := by
        unfold before
        by_cases h2 : d + d ≤ r
        · rw [if_pos h2, if_pos (by omega), Nat.sub_sub]
        · rw [if_neg h2, if_neg (by omega)]
      have e3 := hs.apply h r hr
      rw [show before a u h d r = run a u h (r - d) from if_pos hd, ← e,
        EReal.left_distrib_of_nonneg_of_ne_top (hs.nonneg r hr) (hs.finite r hr), ← mul_assoc, add_assoc] at e3
      rw [e2]
      exact e3
    · rw [if_neg hd, if_neg hd, mul_one, mul_zero, zero_add]
      have e3 := hs.apply h r hr
      rw [show before a u h d r = h from if_neg hd] at e3
      rw [show before a u h (d + d) r = h from if_neg (by omega)]
      exact e3
  nonneg r hr := by
    split
    · exact mul_nonneg (hs.nonneg r hr) (hs.nonneg _ (by omega))
    · rw [mul_one]; exact hs.nonneg r hr
  finite r hr := by
    split
    · exact mul_ne_top (hs.nonneg r hr) (hs.finite r hr) (hs.nonneg _ (by omega)) (hs.finite _ (by omega))
    · rw [mul_one]; exact hs.finite r hr

/-- A span longer than the tile gives the state from the first one. -/
theorem span_full {n : ℕ} {a u : ℕ → EReal} {d : ℕ} {A U : ℕ → EReal} (hs : Span n a u d A U) (hd : n ≤ d) (h : EReal) (r : ℕ) (hr : r < n) :
    U r + A r * h = run a u h r := by
  have e := hs.apply h r hr
  rw [show before a u h d r = h from if_neg (by omega)] at e
  rw [add_comm]
  exact e

/-- The recurrence over rows o, o+1, … from the state after row o − 1 is the recurrence from the start. -/
theorem run_shift (a u : ℕ → EReal) (h : EReal) (o : ℕ) (r : ℕ) :
    run (fun i => a (o + 1 + i)) (fun i => u (o + 1 + i)) (run a u h o) r = run a u h (o + 1 + r) := by
  induction r with
  | zero => rfl
  | succ r ih => simp only [run]; rw [ih]; rfl

/-- Rows that add nothing leave the zero state. -/
theorem run_zero (a u : ℕ → EReal) (n : ℕ) (hu : ∀ r, r ≤ n → u r = 0) : run a u 0 n = 0 := by
  induction n with
  | zero => simp [run, hu 0 le_rfl]
  | succ n ih => rw [run, ih fun r hr => hu r (by omega), mul_zero, zero_add, hu _ le_rfl]

/-- Rows before `o` that add nothing can be left out. -/
theorem run_skip (a u : ℕ → EReal) (o n : ℕ) (hu : ∀ r, r < o → u r = 0) :
    run a u 0 (o + n) = run (fun i => a (o + i)) (fun i => u (o + i)) 0 n := by
  cases o with
  | zero => simp only [Nat.zero_add]
  | succ o =>
    rw [← run_shift a u 0 o n, run_zero a u o fun r hr => hu r (by omega)]

/-- The state only looks at the rows up to its own. -/
theorem run_congr {a a' u u' : ℕ → EReal} {h : EReal} {n : ℕ} (ha : ∀ r, r ≤ n → a r = a' r) (hu : ∀ r, r ≤ n → u r = u' r) :
    run a u h n = run a' u' h n := by
  induction n with
  | zero => simp only [run, ha 0 le_rfl, hu 0 le_rfl]
  | succ n ih =>
    simp only [run]
    rw [ih (fun r hr => ha r (by omega)) (fun r hr => hu r (by omega)), ha _ le_rfl, hu _ le_rfl]

/-! ### The decay and the input's scale -/

/-- The exponential is never negative. -/
theorem exp_nonneg (x : EReal) : 0 ≤ Ideal.exp x := by
  induction x using EReal.rec with
  | bot => simp
  | coe r => rw [Ideal.exp_coe]; exact_mod_cast (Real.exp_pos r).le
  | top => simp

/-- The exponential of what is not positive is finite. -/
theorem exp_ne_top {x : EReal} (hx : x ≤ 0) : Ideal.exp x ≠ ⊤ := by
  induction x using EReal.rec with
  | bot => simp
  | coe r => rw [Ideal.exp_coe]; exact EReal.coe_ne_top _
  | top => exact absurd hx (by simp)

/-- The logistic function is never negative. -/
theorem logistic_nonneg (x : EReal) : 0 ≤ Ideal.logistic x := by
  induction x using EReal.rec with
  | bot => simp
  | coe r =>
    rw [Ideal.logistic_coe]
    exact_mod_cast inv_nonneg.mpr (by positivity)
  | top => simp

/-- log (1 + y) of what is not negative is not negative. -/
theorem log1p_nonneg {y : EReal} (hy : 0 ≤ y) : 0 ≤ Ideal.log1p y := by
  unfold Ideal.log1p
  induction y using EReal.rec with
  | bot => exact absurd hy (by simp)
  | coe r =>
    have hr : (0 : ℝ) ≤ r := by exact_mod_cast hy
    rw [← EReal.coe_one, ← EReal.coe_add, Ideal.log_coe, if_neg (by linarith)]
    exact_mod_cast Real.log_nonneg (by linarith)
  | top =>
    rw [EReal.add_top_of_ne_bot (show (1 : EReal) ≠ ⊥ from EReal.coe_ne_bot 1)]
    simp

/-- 1 − e^{2x} written with the hyperbolic tangent: −tanh x · (e^{x}·e^{x} + 1). -/
theorem scale_eq (x : EReal) :
    (0 - Ideal.tanh x) * (Ideal.exp x * Ideal.exp x + 1) = -(Ideal.exp ((2 : ℝ) * x) - 1) := by
  induction x using EReal.rec with
  | bot =>
    rw [EReal.coe_mul_bot_of_pos (by norm_num)]
    simp
  | coe r =>
    rw [← EReal.coe_mul]
    simp only [Ideal.exp_coe, Ideal.tanh_coe]
    rw [← EReal.coe_one, ← EReal.coe_zero, ← EReal.coe_sub, ← EReal.coe_mul, ← EReal.coe_add, ← EReal.coe_mul,
      ← EReal.coe_sub, ← EReal.coe_neg]
    congr 1
    rw [Real.tanh_eq_sinh_div_cosh, Real.sinh_eq, Real.cosh_eq, Real.exp_neg, two_mul, Real.exp_add]
    have h := (Real.exp_pos r).ne'
    field_simp
    ring
  | top =>
    rw [EReal.coe_mul_top_of_pos (by norm_num)]
    simp only [Ideal.exp_top, Ideal.tanh_top]
    rw [EReal.top_mul_top, EReal.top_add_of_ne_bot (show (1 : EReal) ≠ ⊥ from EReal.coe_ne_bot 1)]
    rw [show ((0 : EReal) - 1) = ((-1 : ℝ) : EReal) from by rw [← EReal.coe_one, ← EReal.coe_zero, ← EReal.coe_sub]; norm_num,
      EReal.coe_mul_top_of_neg (by norm_num), ← EReal.coe_one, EReal.top_sub_coe, EReal.neg_top]

end RecScan
-- ==== Proof.RecVec.lean ====
/- The arithmetic of one tile of the recurrent branch: the buffer of rows with the eight before them, the doubling steps as
   functions of tiles, and the tile's states as the recurrence over its rows. -/
module

public import proofs.«01_k».proof.Proof.RecScan
public import proofs.«01_k».proof.Proof.Gen.Kernel5Ideal.Skeleton
public import Idealize.ShloMosaic.Lib.MatmulPlain
public import Idealize.ShloMosaic.Lib.KernelVsHost
public import Idealize.ShloMosaic.Lib.Tactic

@[expose] public section

noncomputable section

namespace Cert.Rec

open Cert.Kernel5Ideal Cert.Kernel5Ideal.Gen Idealize.ShloMosaic
open scoped BigOperators

section Any

variable {F : FTy → Type} [FloatOps F]

/-- The buffer: eight rows, then the tile's rows. -/
def buf (t : Vec F S8x512 .f32) (x : Vec F S1x640x512 .f32) : Vec F S648x512 .f32 := fun y =>
  if h : (y 0).val < 8 then t (ix2 ⟨(y 0).val, h⟩ (y 1))
  else x (ix3 0 ⟨(y 0).val - 8, by have : (y 0).val < 648 := (y 0).isLt; omega⟩ (y 1))

/-- The buffer's first eight rows. -/
def head (B : Vec F S648x512 .f32) : Vec F S8x512 .f32 := fun y =>
  B (ix2 ⟨(y 0).val, by have : (y 0).val < 8 := (y 0).isLt; omega⟩ (y 1))

/-- 640 rows of the buffer from row `o` on. -/
def rows (B : Vec F S648x512 .f32) (o : Nat) (ho : o ≤ 8) : Vec F S640x512 .f32 := fun y =>
  B (ix2 ⟨o + (y 0).val, by have : (y 0).val < 640 := (y 0).isLt; omega⟩ (y 1))

/-- One tap of the convolution. -/
def tap (w : Vec F S4x512 .f32) (k : Fin 4) : Vec F S1x512 .f32 := fun y => w (ix2 k (y 1))

/-- One half of a gate's weight. -/
def slab (w : Vec F S2x256x256 .bf16) (k : Fin 2) : Vec F S1x256x256 .bf16 := fun y => w (ix3 k (y 1) (y 2))

/-- The rows' numbers in the tile. -/
def nums : IVec S640x1 32 := iota .tc S640x1 32 [0] iota_S640x1_d0_w32

/-- The bias and the first three taps. -/
def taps3 (B : Vec F S648x512 .f32) (w : Vec F S4x512 .f32) (b : Vec F S1x512 .f32) : FVec F S640x512 .f32 :=
  k0_pay5 b (tap w 0) (rows B 5 (by omega)) (tap w 1) (rows B 6 (by omega)) (tap w 2) (rows B 7 (by omega))

/-- The convolution. -/
def conv (B : Vec F S648x512 .f32) (w : Vec F S4x512 .f32) (b : Vec F S1x512 .f32) : FVec F S640x512 .f32 :=
  k0_pay7 (taps3 B w b) (k0_pay6 (tap w 3)) (rows B 8 (by omega))

/-- The recurrence gate. -/
def rgate (B : Vec F S648x512 .f32) (w : Vec F S4x512 .f32) (b : Vec F S1x512 .f32) (m : Vec F S2x256x256 .bf16) (v : Vec F S1x512 .f32) : FVec F S640x512 .f32 :=
  k0_pay10 (taps3 B w b) (k0_pay6 (tap w 3)) (rows B 8 (by omega)) (slab m 0) (slab m 1) v

/-- The input gate. -/
def igate (B : Vec F S648x512 .f32) (w : Vec F S4x512 .f32) (b : Vec F S1x512 .f32) (m : Vec F S2x256x256 .bf16) (v : Vec F S1x512 .f32) : FVec F S640x512 .f32 :=
  k0_pay11 (taps3 B w b) (k0_pay6 (tap w 3)) (rows B 8 (by omega)) (slab m 0) (slab m 1) v

/-- Where a row's number is at least `d`: the tile moved `d` rows down; elsewhere `f`. -/
def moved (d : BitVec 32) (f : F .f32) (x : FVec F S640x512 .f32) : FVec F S640x512 .f32 :=
  select (broadcastTo S640x512 (shapeCast S640x1 (cmpi .sge nums (broadcast S640x1 d)) shapeCasts_S640x1_S640x1) broadcasts_S640x1_S640x512)
    (dynamicRotate 0 d none x rotates_S640x512_d0) (broadcast S640x512 f)

/-- The factors of spans twice as long. -/
def stepA (d : BitVec 32) (A : FVec F S640x512 .f32) : FVec F S640x512 .f32 :=
  mulf A (moved d (Scalar.ofBits .f32 0x3F800000#32) A)

/-- The summands of spans twice as long. -/
def stepU (d : BitVec 32) (A U : FVec F S640x512 .f32) : FVec F S640x512 .f32 :=
  addf (mulf A (moved d (Scalar.ofBits .f32 0x00000000#32) U)) U

/-- What the rows add to the state: zero in the rows before row 112 of the batch. -/
def input (p : BitVec 32) (xc r i : FVec F S640x512 .f32) (L : Vec F S1x512 .f32) : FVec F S640x512 .f32 :=
  select (broadcastTo S640x512 (shapeCast S640x1 (cmpi .sge (k0_pay14 p) k0_pay16) shapeCasts_S640x1_S640x1) broadcasts_S640x1_S640x512)
    (mulf (mulf (k0_pay15 p r L) i) xc) (broadcast S640x512 (Scalar.ofBits .f32 0x00000000#32))

/-- The first two doublings of the factors. -/
def A4 (a : FVec F S640x512 .f32) : FVec F S640x512 .f32 := stepA 2#32 (stepA 1#32 a)
/-- The first two doublings of the summands. -/
def U4 (a u : FVec F S640x512 .f32) : FVec F S640x512 .f32 := stepU 2#32 (stepA 1#32 a) (stepU 1#32 a u)
/-- Two more of the factors. -/
def A16 (A : FVec F S640x512 .f32) : FVec F S640x512 .f32 := stepA 8#32 (stepA 4#32 A)
/-- Two more of the summands. -/
def U16 (A U : FVec F S640x512 .f32) : FVec F S640x512 .f32 := stepU 8#32 (stepA 4#32 A) (stepU 4#32 A U)
/-- Three more of the factors. -/
def A128 (A : FVec F S640x512 .f32) : FVec F S640x512 .f32 := stepA 64#32 (stepA 32#32 (stepA 16#32 A))
/-- Three more of the summands. -/
def U128 (A U : FVec F S640x512 .f32) : FVec F S640x512 .f32 :=
  stepU 64#32 (stepA 32#32 (stepA 16#32 A)) (stepU 32#32 (stepA 16#32 A) (stepU 16#32 A U))
/-- The last three of the factors. -/
def A1024 (A : FVec F S640x512 .f32) : FVec F S640x512 .f32 := stepA 512#32 (stepA 256#32 (stepA 128#32 A))
/-- The last three of the summands. -/
def U1024 (A U : FVec F S640x512 .f32) : FVec F S640x512 .f32 :=
  stepU 512#32 (stepA 256#32 (stepA 128#32 A)) (stepU 256#32 (stepA 128#32 A) (stepU 128#32 A U))

/-- The factors after all ten doublings. -/
def fullA (a : FVec F S640x512 .f32) : FVec F S640x512 .f32 := A1024 (A128 (A16 (A4 a)))
/-- The summands after all ten doublings. -/
def fullU (a u : FVec F S640x512 .f32) : FVec F S640x512 .f32 :=
  U1024 (A128 (A16 (A4 a))) (U128 (A16 (A4 a)) (U16 (A4 a) (U4 a u)))

/-- The factors after the first doubling. -/
theorem pay17_eq (a : FVec F S640x512 .f32) : k0_pay17 a nums = stepA 1#32 a := by
  unfold k0_pay17 stepA moved; rfl
/-- The first two doublings, as the body writes them. -/
theorem pay18_eq (p : BitVec 32) (a xc r i : FVec F S640x512 .f32) (L : Vec F S1x512 .f32) :
    k0_pay18 xc i a nums (k0_pay14 p) (k0_pay15 p r L) k0_pay16 = U4 a (input p xc r i L) := by
  unfold k0_pay18 U4 input; rw [pay17_eq]; rfl
/-- The factors after the first two doublings. -/
theorem pay19_eq (a : FVec F S640x512 .f32) : k0_pay19 a nums = A4 a := by
  unfold k0_pay19 A4; rw [pay17_eq]; rfl
/-- The factors after the third doubling. -/
theorem pay22_eq (a : FVec F S640x512 .f32) :
    k0_pay22 (A4 a) (k0_pay20 nums) (k0_pay21 a nums) (Scalar.ofBits .f32 0x3F800000#32) = stepA 4#32 (A4 a) := by
  unfold k0_pay22 k0_pay20 k0_pay21; rw [pay19_eq]; rfl
/-- The summands after four doublings. -/
theorem pay23_eq (a U : FVec F S640x512 .f32) :
    k0_pay23 nums U (A4 a) (k0_pay20 nums) (k0_pay21 a nums) (Scalar.ofBits .f32 0x3F800000#32) = U16 (A4 a) U := by
  unfold k0_pay23; rw [pay22_eq]; rfl
/-- The factors after four doublings. -/
theorem pay24_eq (a : FVec F S640x512 .f32) :
    k0_pay24 nums (A4 a) (k0_pay20 nums) (k0_pay21 a nums) (Scalar.ofBits .f32 0x3F800000#32) = A16 (A4 a) := by
  unfold k0_pay24; rw [pay22_eq]; rfl
/-- These factors moved 16 rows down, one in front. -/
theorem pay25_eq (a : FVec F S640x512 .f32) :
    k0_pay25 nums (A4 a) (k0_pay20 nums) (k0_pay21 a nums) (Scalar.ofBits .f32 0x3F800000#32)
      = moved 16#32 (Scalar.ofBits .f32 0x3F800000#32) (A16 (A4 a)) := by
  unfold k0_pay25; rw [pay24_eq]; rfl
/-- The summands moved 16 rows down, zero in front. -/
theorem pay26_eq (a U : FVec F S640x512 .f32) :
    k0_pay26 nums U (A4 a) (k0_pay20 nums) (k0_pay21 a nums) (Scalar.ofBits .f32 0x3F800000#32)
      = moved 16#32 (Scalar.ofBits .f32 0x00000000#32) (U16 (A4 a) U) := by
  unfold k0_pay26; rw [pay23_eq]; rfl
/-- The factors after the fifth doubling. -/
theorem pay27_eq (A : FVec F S640x512 .f32) : k0_pay27 A (moved 16#32 (Scalar.ofBits .f32 0x3F800000#32) A) = stepA 16#32 A := rfl
/-- The factors after the sixth doubling. -/
theorem pay28_eq (A : FVec F S640x512 .f32) :
    k0_pay28 nums A (moved 16#32 (Scalar.ofBits .f32 0x3F800000#32) A) = stepA 32#32 (stepA 16#32 A) := by
  unfold k0_pay28; rw [pay27_eq]; rfl
/-- The summands after seven doublings. -/
theorem pay29_eq (A U : FVec F S640x512 .f32) :
    k0_pay29 nums U A (moved 16#32 (Scalar.ofBits .f32 0x3F800000#32) A) (moved 16#32 (Scalar.ofBits .f32 0x00000000#32) U) = U128 A U := by
  unfold k0_pay29; rw [pay28_eq, pay27_eq]; rfl
/-- The factors after seven doublings. -/
theorem pay30_eq (A : FVec F S640x512 .f32) :
    k0_pay30 nums A (moved 16#32 (Scalar.ofBits .f32 0x3F800000#32) A) = A128 A := by
  unfold k0_pay30; rw [pay28_eq]; rfl
/-- These factors moved 128 rows down, one in front. -/
theorem pay31_eq (A : FVec F S640x512 .f32) :
    k0_pay31 nums A (moved 16#32 (Scalar.ofBits .f32 0x3F800000#32) A) = moved 128#32 (Scalar.ofBits .f32 0x3F800000#32) (A128 A) := by
  unfold k0_pay31; rw [pay30_eq]; rfl
/-- The factors after the eighth doubling. -/
theorem pay32_eq (A : FVec F S640x512 .f32) : k0_pay32 A (moved 128#32 (Scalar.ofBits .f32 0x3F800000#32) A) = stepA 128#32 A := rfl
/-- The factors after the ninth doubling. -/
theorem pay33_eq (A : FVec F S640x512 .f32) :
    k0_pay33 nums A (moved 128#32 (Scalar.ofBits .f32 0x3F800000#32) A) = stepA 256#32 (stepA 128#32 A) := by
  unfold k0_pay33; rw [pay32_eq]; rfl
/-- The summands after all ten doublings. -/
theorem pay34_eq (A U : FVec F S640x512 .f32) :
    k0_pay34 nums U A (moved 128#32 (Scalar.ofBits .f32 0x3F800000#32) A) 128#32 = U1024 A U := by
  unfold k0_pay34; rw [pay33_eq, pay32_eq]; rfl
/-- The factors after all ten doublings. -/
theorem pay35_eq (A : FVec F S640x512 .f32) :
    k0_pay35 nums A (moved 128#32 (Scalar.ofBits .f32 0x3F800000#32) A) = A1024 A := by
  unfold k0_pay35; rw [pay33_eq]; rfl

/-- The tile's states from the state before it. -/
def states (p : BitVec 32) (B : Vec F S648x512 .f32) (x2 : Vec F S4x512 .f32) (x3 : Vec F S1x512 .f32) (x4 x5 : Vec F S2x256x256 .bf16)
    (x6 x7 x8 : Vec F S1x512 .f32) (h : Vec F S1x512 .f32) : FVec F S640x512 .f32 :=
  have r := rgate B x2 x3 x4 x6
  have a := k0_pay13 r x8
  have u := input p (conv B x2 x3) r (igate B x2 x3 x5 x7) x8
  k0_pay36 (fullU a u) (fullA a) h

end Any

/-! ### The doublings over the extended reals -/

/-- A column of a tile as a function of the row. -/
def col (x : FVec Ideal S640x512 .f32) (c : Fin 512) (r : ℕ) : EReal := if h : r < 640 then x (ix2 ⟨r, h⟩ c) else 0

/-- An element of a tile by its column. -/
theorem col_at (x : FVec Ideal S640x512 .f32) (c : Fin 512) (r : Fin 640) : x (ix2 r c) = col x c r.val := by
  unfold col; rw [dif_pos r.isLt]

/-- The rows' numbers. -/
theorem nums_at (r : Fin 640) (z : Fin 1) : nums (ix2 r z) = BitVec.ofNat 32 r.val := by
  unfold nums
  pointwise

/-- The comparison of a row's number with a distance. -/
theorem ge_at : ∀ (k : Fin 10) (r : Fin 640), IntOp.cmpi .sge (BitVec.ofNat 32 r.val) (BitVec.ofNat 32 (2 ^ k.val)) = if 2 ^ k.val ≤ r.val then 1#1 else 0#1 := by
  decide +kernel

/-- The tile moved down by `d` rows. -/
theorem moved_at (k : Fin 10) (d : ℕ) (hd : d = 2 ^ k.val) (f : EReal) (x : FVec Ideal S640x512 .f32) (c : Fin 512) (r : ℕ) (hr : r < 640) :
    col (moved (BitVec.ofNat 32 d) f x) c r = if d ≤ r then col x c (r - d) else f := by
  have hk : d < 640 := by
    have := Nat.pow_le_pow_right (n := 2) (by omega) (show k.val ≤ 9 by omega)
    omega
  have hm : (BitVec.ofNat 32 d).toNat = d := by rw [BitVec.toNat_ofNat]; omega
  have hc := ge_at k ⟨r, hr⟩
  rw [← hd] at hc
  unfold col
  rw [dif_pos hr]
  unfold moved
  have e : select (broadcastTo S640x512 (shapeCast S640x1 (cmpi .sge nums (broadcast S640x1 (BitVec.ofNat 32 d))) shapeCasts_S640x1_S640x1) broadcasts_S640x1_S640x512)
      (dynamicRotate 0 (BitVec.ofNat 32 d) none x rotates_S640x512_d0) (broadcast S640x512 f) (ix2 (⟨r, hr⟩ : Fin 640) c)
      = Scalar.select (IntOp.cmpi .sge (nums (ix2 (⟨r, hr⟩ : Fin 640) (0 : Fin 1))) (BitVec.ofNat 32 d))
        (dynamicRotate 0 (BitVec.ofNat 32 d) none x rotates_S640x512_d0 (ix2 (⟨r, hr⟩ : Fin 640) c)) f := by
    pointwise
  refine e.trans ?_
  rw [nums_at, hc]
  by_cases hle : d ≤ r
  · rw [if_pos hle, if_pos hle, dif_pos (by omega)]
    refine (if_pos rfl).trans ?_
    refine dynamicRotate_apply (0 : Fin 2) _ x _ _ _ fun b => ?_
    match b with
    | ⟨0, _⟩ =>
      show r - d = (r + 640 - (BitVec.ofNat 32 d).toNat % 640) % 640
      rw [hm]; omega
    | ⟨1, _⟩ => rfl
  · rw [if_neg hle, if_neg hle]
    exact if_neg (by decide)

/-- The bits of one. -/
theorem one_bits : (Scalar.ofBits .f32 0x3F800000#32 : Ideal .f32) = (1 : EReal) := Ideal.ofBits_one_f32

/-- Spans of `d` rows in every column. -/
def Spans (a u : FVec Ideal S640x512 .f32) (d : ℕ) (A U : FVec Ideal S640x512 .f32) : Prop :=
  ∀ c : Fin 512, RecScan.Span 640 (col a c) (col u c) d (col A c) (col U c)

/-- One doubling. -/
theorem spans_step (k : Fin 10) {a u A U : FVec Ideal S640x512 .f32} {d : ℕ} (hd : d = 2 ^ k.val) (h : Spans a u d A U) :
    Spans a u (d + d) (stepA (BitVec.ofNat 32 d) A) (stepU (BitVec.ofNat 32 d) A U) := fun c => by
  have hs := RecScan.span_double (h c)
  have eA : ∀ r, r < 640 → col (stepA (BitVec.ofNat 32 d) A) c r = col A c r * (if d ≤ r then col A c (r - d) else 1) := fun r hr => by
    rw [← one_bits, ← moved_at k d hd _ A c r hr]
    unfold stepA col
    rw [dif_pos hr, dif_pos hr, dif_pos hr]
    rfl
  have eU : ∀ r, r < 640 → col (stepU (BitVec.ofNat 32 d) A U) c r = col A c r * (if d ≤ r then col U c (r - d) else 0) + col U c r := fun r hr => by
    have hz : (Scalar.ofBits .f32 0x00000000#32 : Ideal .f32) = (0 : EReal) := Ideal.ofBits_zero _
    rw [← hz, ← moved_at k d hd _ U c r hr]
    unfold stepU col
    rw [dif_pos hr, dif_pos hr, dif_pos hr, dif_pos hr]
    rfl
  exact {
    apply := fun h r hr => by rw [eA r hr, eU r hr]; exact hs.apply h r hr
    nonneg := fun r hr => by rw [eA r hr]; exact hs.nonneg r hr
    finite := fun r hr => by rw [eA r hr]; exact hs.finite r hr }

/-- After all ten doublings the spans are longer than the tile. -/
theorem spans_full {a u : FVec Ideal S640x512 .f32} (h0 : ∀ y, 0 ≤ a y) (h1 : ∀ y, a y ≠ ⊤) : Spans a u 1024 (fullA a) (fullU a u) := by
  have s : Spans a u 1 a u := fun c => RecScan.span_one
    (fun r hr => by unfold col; rw [dif_pos hr]; exact h0 _) (fun r hr => by unfold col; rw [dif_pos hr]; exact h1 _)
  have s := spans_step 0 rfl s
  have s := spans_step 1 rfl s
  have s := spans_step 2 rfl s
  have s := spans_step 3 rfl s
  have s := spans_step 4 rfl s
  have s := spans_step 5 rfl s
  have s := spans_step 6 rfl s
  have s := spans_step 7 rfl s
  have s := spans_step 8 rfl s
  have s := spans_step 9 rfl s
  exact s

/-- The tile's states: the recurrence over the rows, from the state before them. -/
theorem states_at (a u : FVec Ideal S640x512 .f32) (h0 : ∀ y, 0 ≤ a y) (h1 : ∀ y, a y ≠ ⊤) (h : Vec Ideal S1x512 .f32) (r : Fin 640) (c : Fin 512) :
    k0_pay36 (fullU a u) (fullA a) h (ix2 r c) = RecScan.run (col a c) (col u c) (h (ix2 0 c)) r.val := by
  have e := RecScan.span_full (spans_full (u := u) h0 h1 c) (by omega) (h (ix2 0 c)) r.val r.isLt
  rw [← e, ← col_at, ← col_at]
  unfold k0_pay36
  pointwise

end Cert.Rec
-- ==== Proof.RecBlock.lean ====
/- What one grid point of the recurrent branch's call leaves in its result block and in the scratch it carries. -/
module

public import proofs.«01_k».proof.Proof.RecVec
public import proofs.«01_k».proof.Proof.Gen.Kernel5Ideal.Value

@[expose] public section

noncomputable section

namespace Cert.Rec

open Cert.Kernel5Ideal Cert.Kernel5Ideal.Gen Idealize.ShloMosaic Idealize.ShloMosaic.TcCoe Idealize.SL.Sem
open scoped BigOperators

variable {F : FTy → Type} [FloatOps F]

/-- Rows of the buffer that a load or store of whole rows touches. -/
theorem mem_rows (y : S648x512.Idx) (o n : Nat) (h : ∀ a : Fin 2, (![o, 0] : Fin 2 → Nat) a + (![n, 512] : Fin 2 → Nat) a ≤ S648x512.size a) :
    y ∈ (Rect.unit (s := S648x512) ![o, 0] ![n, 512] h).set ↔ o ≤ (y 0).val ∧ (y 0).val < o + n := by
  rw [Rect.mem_set_unit]
  constructor
  · intro h; exact h 0
  · intro h a
    match a with
    | ⟨0, _⟩ => exact h
    | ⟨1, _⟩ => exact ⟨Nat.zero_le _, (Nat.zero_add 512).symm ▸ (y 1).isLt⟩

/-- A load of 640 rows of the buffer. -/
theorem ld_rows (B : Vec F S648x512 .f32) (o : Nat) (ho : o ≤ 8) (h) :
    View.ld (Val := Elt F) (e' := .f32) B (Rect.unit ![o, 0] ![640, 512] h) = rows B o ho := by
  funext y
  refine congrArg B (funext fun a => Fin.ext ?_)
  match a with
  | ⟨0, _⟩ => show o + 1 * (y 0).val = o + (y 0).val; omega
  | ⟨1, _⟩ => show 0 + 1 * (y 1).val = (y 1).val; omega

/-- A load of one tap. -/
theorem ld_tap (w : Vec F S4x512 .f32) (o : Fin 4) (h) :
    View.ld (Val := Elt F) (e' := .f32) w (Rect.unit ![o.val, 0] ![1, 512] h) = tap w o := by
  funext y
  refine congrArg w (funext fun a => Fin.ext ?_)
  match a with
  | ⟨0, _⟩ => show o.val + 1 * (y 0).val = o.val; have : (y 0).val < 1 := (y 0).isLt; omega
  | ⟨1, _⟩ => show 0 + 1 * (y 1).val = (y 1).val; omega

/-- A load of one half of a gate's weight. -/
theorem ld_slab (w : Vec F S2x256x256 .bf16) (o : Fin 2) (h) :
    View.ld (Val := Elt F) (e' := .bf16) w (Rect.unit ![o.val, 0, 0] ![1, 256, 256] h) = slab w o := by
  funext y
  refine congrArg w (funext fun a => Fin.ext ?_)
  match a with
  | ⟨0, _⟩ => show o.val + 1 * (y 0).val = o.val; have : (y 0).val < 1 := (y 0).isLt; omega
  | ⟨1, _⟩ => show 0 + 1 * (y 1).val = (y 1).val; omega
  | ⟨2, _⟩ => show 0 + 1 * (y 2).val = (y 2).val; omega

/-- The tile's rows as the body stores them. -/
theorem pay4_at (x : Vec F S1x640x512 .f32) (r : Fin 640) (c : Fin 512) : k0_pay4 x (ix2 r c) = x (ix3 0 r c) := by
  unfold k0_pay4 k0_pay3
  pointwise

/-- The tile's last eight rows. -/
def tail (x : Vec F S1x640x512 .f32) : Vec F S8x512 .f32 := fun y =>
  x (ix3 0 ⟨632 + (y 0).val, by have : (y 0).val < 8 := (y 0).isLt; omega⟩ (y 1))

/-- An element of the tail as the body stores it. -/
theorem pay8_at (x : Vec F S1x640x512 .f32) (r : Fin 8) (c : Fin 512) : k0_pay8 (k0_pay3 x) (ix2 r c) = tail x (ix2 r c) := by
  unfold k0_pay8 k0_pay3 tail
  pointwise

/-- The tail as the body stores it. -/
theorem pay8_eq (x : Vec F S1x640x512 .f32) : k0_pay8 (k0_pay3 x) = tail x := by
  funext y
  rw [eq_ix2 y]
  exact pay8_at x _ _

/-- The buffer's rows from the eighth on are the tile. -/
theorem rows8 (t : Vec F S8x512 .f32) (x : Vec F S1x640x512 .f32) : rows (buf t x) 8 le_rfl = k0_pay4 x := by
  funext y
  rw [eq_ix2 y]
  have h0 : (y 0).val < 640 := (y 0).isLt
  refine Eq.trans ?_ (pay4_at x (y 0) (y 1)).symm
  unfold rows buf
  rw [dif_neg (by show ¬(8 + (y 0).val < 8); omega)]
  refine congrArg x (funext fun a => Fin.ext ?_)
  match a with
  | ⟨0, _⟩ => rfl
  | ⟨1, _⟩ => show 8 + (y 0).val - 8 = (y 0).val; omega
  | ⟨2, _⟩ => rfl

/-- The rows' store over eight rows is the buffer. -/
theorem canon_buf (t : Vec F S8x512 .f32) (x : Vec F S1x640x512 .f32) (h8) (h0) :
    View.canon [(⟨Rect.unit ![8, 0] ![640, 512] h8, k0_pay4 x⟩ : View.Piece (Elt F) S648x512 .f32), ⟨Rect.unit ![0, 0] ![8, 512] h0, t⟩] = buf t x := by
  funext y
  refine View.canon_apply_of_pieces (buf t x) _ (fun p hp z => ?_) y ?_
  · rcases List.mem_cons.mp hp with rfl | hp
    · have hz : (z 0).val < 640 := (z 0).isLt
      show k0_pay4 x z = _
      rw [← rows8 t x]
      unfold rows
      refine congrArg (buf t x) (funext fun a => Fin.ext ?_)
      match a with
      | ⟨0, _⟩ => show 8 + (z 0).val = 8 + 1 * (z 0).val; omega
      | ⟨1, _⟩ => show (z 1).val = 0 + 1 * (z 1).val; omega
    · obtain rfl := List.mem_singleton.mp hp
      have hz : (z 0).val < 8 := (z 0).isLt
      unfold buf
      rw [dif_pos (by show 0 + 1 * (z 0).val < 8; omega)]
      refine congrArg t (funext fun a => Fin.ext ?_)
      match a with
      | ⟨0, _⟩ => show (z 0).val = 0 + 1 * (z 0).val; omega
      | ⟨1, _⟩ => show (z 1).val = 0 + 1 * (z 1).val; omega
  · have h1 : (y 0).val < 648 := (y 0).isLt
    by_cases h : (y 0).val < 8
    · exact ⟨_, List.mem_cons_of_mem _ (List.mem_singleton.mpr rfl), (mem_rows y 0 8 h0).mpr ⟨Nat.zero_le _, by omega⟩⟩
    · exact ⟨_, List.mem_cons_self, (mem_rows y 8 640 h8).mpr ⟨by omega, by omega⟩⟩

/-- The eight rows' store over the rows is the buffer. -/
theorem canon_buf' (t : Vec F S8x512 .f32) (x : Vec F S1x640x512 .f32) (h8) (h0) (L : List (View.Piece (Elt F) S648x512 .f32)) :
    View.canon ((⟨Rect.unit ![0, 0] ![8, 512] h0, t⟩ : View.Piece (Elt F) S648x512 .f32) :: ⟨Rect.unit ![8, 0] ![640, 512] h8, k0_pay4 x⟩ :: L) = buf t x := by
  funext y
  have h1 : (y 0).val < 648 := (y 0).isLt
  by_cases h : (y 0).val < 8
  · have hy : y = (Rect.unit (s := S648x512) ![0, 0] ![8, 512] h0).emb (ix2 ⟨(y 0).val, h⟩ (y 1)) := by
      funext a
      match a with
      | ⟨0, _⟩ => exact Fin.ext (by show (y 0).val = 0 + 1 * (y 0).val; omega)
      | ⟨1, _⟩ => exact Fin.ext (by show (y 1).val = 0 + 1 * (y 1).val; omega)
    conv_lhs => rw [hy]
    rw [View.canon_cons_emb]
    unfold buf
    rw [dif_pos h]
  · rw [View.canon_cons_of_not_mem _ _ (fun hm => h (by have := ((mem_rows y 0 8 h0).mp hm).2; omega))]
    have hy : y = (Rect.unit (s := S648x512) ![8, 0] ![640, 512] h8).emb (ix2 ⟨(y 0).val - 8, by omega⟩ (y 1)) := by
      funext a
      match a with
      | ⟨0, _⟩ => exact Fin.ext (by show (y 0).val = 8 + 1 * ((y 0).val - 8); omega)
      | ⟨1, _⟩ => exact Fin.ext (by show (y 1).val = 0 + 1 * (y 1).val; omega)
    conv_lhs => rw [hy]
    rw [View.canon_cons_emb]
    refine (pay4_at x ⟨(y 0).val - 8, by omega⟩ (y 1)).trans ?_
    unfold buf
    rw [dif_neg h]

/-- The rows' store over a buffer keeps that buffer's first eight rows. -/
theorem read_buf (v : View sig .tc .vmem S648x512 .f32) (f : v.ty.Contents (Elt F)) (B : Vec F S648x512 .f32) (hf : v.read (Elt F) f = B)
    (x : Vec F S1x640x512 .f32) (h8) :
    View.read (Elt F) v (v.writes (Elt F) f [⟨Rect.unit ![8, 0] ![640, 512] h8, k0_pay4 x⟩]) = buf (head B) x := by
  funext y
  have h1 : (y 0).val < 648 := (y 0).isLt
  by_cases h : (y 0).val < 8
  · refine (View.read_writes_apply_of_forall_not_mem v f y _ (fun p hp hm => ?_)).trans ?_
    · obtain rfl := List.mem_singleton.mp hp
      have := ((mem_rows y 8 640 h8).mp hm).1
      omega
    rw [hf]
    unfold buf head
    rw [dif_pos h]
    exact congrArg B (eq_ix2 y)
  · have hm : y ∈ (Rect.unit (s := S648x512) ![8, 0] ![640, 512] h8).set := (mem_rows y 8 640 h8).mpr ⟨by omega, by omega⟩
    refine (View.read_writes_apply_eq_canon v f y _ ?_).trans ?_
    · exact ⟨_, List.mem_cons_self, hm⟩
    have hy : y = (Rect.unit (s := S648x512) ![8, 0] ![640, 512] h8).emb (ix2 ⟨(y 0).val - 8, by omega⟩ (y 1)) := by
      funext a
      match a with
      | ⟨0, _⟩ => exact Fin.ext (by show (y 0).val = 8 + 1 * ((y 0).val - 8); omega)
      | ⟨1, _⟩ => exact Fin.ext (by show (y 1).val = 0 + 1 * (y 1).val; omega)
    conv_lhs => rw [hy]
    rw [View.canon_cons_emb]
    refine (pay4_at x ⟨(y 0).val - 8, by omega⟩ (y 1)).trans ?_
    unfold buf
    rw [dif_neg h]

/-- A load of rows after both stores. -/
theorem readCov_rows (v : View sig .tc .vmem S648x512 .f32) (t : Vec F S8x512 .f32) (x : Vec F S1x640x512 .f32) (h8) (h0) (o : Nat) (ho : o ≤ 8) (h) :
    v.readCov [(⟨Rect.unit ![8, 0] ![640, 512] h8, k0_pay4 x⟩ : View.Piece (Elt F) S648x512 .f32), ⟨Rect.unit ![0, 0] ![8, 512] h0, t⟩]
      (Rect.unit ![o, 0] ![640, 512] h).toLoadRect = rows (buf t x) o ho := by
  rw [View.readCov_eq_canon', canon_buf]
  exact ld_rows (buf t x) o ho h

set_option maxRecDepth 16384 in
set_option maxHeartbeats 2000000 in
/-- The result block, in a batch's first tile. -/
theorem out0_A_10_eq (c : Dev nD) (i : grid0.Coords) (arg2 : Memref sig .tc .vmem S1x640x512 .f32) (harg2 : arg2.IsWhole) (arg3 : Memref sig .tc .vmem S1x640x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x640x512 .bf16) (harg12 : arg12.IsWhole) (arg13 : Memref sig .tc .vmem S648x512 .f32) (harg13 : arg13.IsWhole) (arg14 : Memref sig .tc .vmem S1x512 .f32) (harg14 : arg14.IsWhole)  (hc0 : cond0_0 i)
    (x0 : Vec F S1x640x512 .f32) (x1 : Vec F S1x640x512 .f32) (x2 : Vec F S4x512 .f32) (x3 : Vec F S1x512 .f32) (x4 : Vec F S2x256x256 .bf16) (x5 : Vec F S2x256x256 .bf16) (x6 : Vec F S1x512 .f32) (x7 : Vec F S1x512 .f32) (x8 : Vec F S1x512 .f32) (x9 : Vec F S1x512 .f32) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
    = k0_pay38 (fullU (k0_pay13 (rgate (buf k0_pay1 x0) x2 x3 x4 x6) x8) (input (BitVec.ofNat 32 (i 1).val) (conv (buf k0_pay1 x0) x2 x3) (rgate (buf k0_pay1 x0) x2 x3 x4 x6) (igate (buf k0_pay1 x0) x2 x3 x5 x7) x8)) (fullA (k0_pay13 (rgate (buf k0_pay1 x0) x2 x3 x4 x6) x8)) k0_pay2 x1 x9 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 512] h) = x0 := fun h => View.ld_unit_zero (S := S1x640x512) hz3 h x0
  have l1 : ∀ h, View.ld (Val := Elt F) (e' := .f32) x1 (Rect.unit ![0,0,0] ![1, 640, 512] h) = x1 := fun h => View.ld_unit_zero (S := S1x640x512) hz3 h x1
  have l3 : ∀ (z : Vec F S1x512 .f32) h, View.ld (Val := Elt F) (e' := .f32) z (Rect.unit ![0,0] ![1, 512] h) = z := fun z h => View.ld_unit_zero (S := S1x512) hz2 h z
  have w0 : ∀ h, View.ld (Val := Elt F) (e' := .f32) x2 (Rect.unit ![0,0] ![1, 512] h) = tap x2 0 := ld_tap x2 0
  have w1 : ∀ h, View.ld (Val := Elt F) (e' := .f32) x2 (Rect.unit ![1,0] ![1, 512] h) = tap x2 1 := ld_tap x2 1
  have w2 : ∀ h, View.ld (Val := Elt F) (e' := .f32) x2 (Rect.unit ![2,0] ![1, 512] h) = tap x2 2 := ld_tap x2 2
  have w3 : ∀ h, View.ld (Val := Elt F) (e' := .f32) x2 (Rect.unit ![3,0] ![1, 512] h) = tap x2 3 := ld_tap x2 3
  have m0 : ∀ (z : Vec F S2x256x256 .bf16) h, View.ld (Val := Elt F) (e' := .bf16) z (Rect.unit ![0,0,0] ![1, 256, 256] h) = slab z 0 := fun z => ld_slab z 0
  have m1 : ∀ (z : Vec F S2x256x256 .bf16) h, View.ld (Val := Elt F) (e' := .bf16) z (Rect.unit ![1,0,0] ![1, 256, 256] h) = slab z 1 := fun z => ld_slab z 1
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  have r5 := fun h8 h0 h => readCov_rows arg13.view k0_pay1 x0 h8 h0 5 (by omega) h
  have r6 := fun h8 h0 h => readCov_rows arg13.view k0_pay1 x0 h8 h0 6 (by omega) h
  have r7 := fun h8 h0 h => readCov_rows arg13.view k0_pay1 x0 h8 h0 7 (by omega) h
  have r8 := fun h8 h0 h => readCov_rows arg13.view k0_pay1 x0 h8 h0 8 (by omega) h
  have rh : ∀ h, arg14.view.readCov [(⟨Rect.unit ![0, 0] ![1, 512] h, k0_pay2⟩ : View.Piece (Elt F) S1x512 .f32)] (Rect.unit ![0, 0] ![1, 512] h).toLoadRect = k0_pay2 :=
    fun h => View.readCov_cons_toLoadRect _ _ _ _
  have hn : iota Kind.tc S640x1 32 [0] iota_S640x1_d0_w32 = nums := rfl
  simp only [View.readAt_eq_ld, harg2.read_unread, harg3.read_unread, harg4.read_unread, harg5.read_unread, harg6.read_unread, harg7.read_unread, harg8.read_unread, harg9.read_unread, harg10.read_unread, harg11.read_unread, l0]
  simp only [l1, l3, w0, w1, w2, w3, m0, m1, r5, r6, r7, r8, rh, hn]
  rw [View.canon_unit_zero hz3]
  unfold conv rgate igate taps3
  simp only [pay18_eq, pay19_eq, pay22_eq, pay23_eq, pay24_eq, pay25_eq, pay26_eq, pay28_eq, pay29_eq, pay30_eq, pay31_eq, pay33_eq, pay34_eq, pay35_eq]
  rfl

set_option maxRecDepth 16384 in
set_option maxHeartbeats 2000000 in
/-- The carried state, in a batch's first tile. -/
theorem sout0_A_1_eq (c : Dev nD) (i : grid0.Coords) (arg2 : Memref sig .tc .vmem S1x640x512 .f32) (harg2 : arg2.IsWhole) (arg3 : Memref sig .tc .vmem S1x640x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x640x512 .bf16) (harg12 : arg12.IsWhole) (arg13 : Memref sig .tc .vmem S648x512 .f32) (harg13 : arg13.IsWhole) (arg14 : Memref sig .tc .vmem S1x512 .f32) (harg14 : arg14.IsWhole)  (hc0 : cond0_0 i)
    (x0 : Vec F S1x640x512 .f32) (x1 : Vec F S1x640x512 .f32) (x2 : Vec F S4x512 .f32) (x3 : Vec F S1x512 .f32) (x4 : Vec F S2x256x256 .bf16) (x5 : Vec F S2x256x256 .bf16) (x6 : Vec F S1x512 .f32) (x7 : Vec F S1x512 .f32) (x8 : Vec F S1x512 .f32) (x9 : Vec F S1x512 .f32) : sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
    = k0_pay37 (fullU (k0_pay13 (rgate (buf k0_pay1 x0) x2 x3 x4 x6) x8) (input (BitVec.ofNat 32 (i 1).val) (conv (buf k0_pay1 x0) x2 x3) (rgate (buf k0_pay1 x0) x2 x3 x4 x6) (igate (buf k0_pay1 x0) x2 x3 x5 x7) x8)) (fullA (k0_pay13 (rgate (buf k0_pay1 x0) x2 x3 x4 x6) x8)) k0_pay2 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 512] h) = x0 := fun h => View.ld_unit_zero (S := S1x640x512) hz3 h x0
  have l1 : ∀ h, View.ld (Val := Elt F) (e' := .f32) x1 (Rect.unit ![0,0,0] ![1, 640, 512] h) = x1 := fun h => View.ld_unit_zero (S := S1x640x512) hz3 h x1
  have l3 : ∀ (z : Vec F S1x512 .f32) h, View.ld (Val := Elt F) (e' := .f32) z (Rect.unit ![0,0] ![1, 512] h) = z := fun z h => View.ld_unit_zero (S := S1x512) hz2 h z
  have w0 : ∀ h, View.ld (Val := Elt F) (e' := .f32) x2 (Rect.unit ![0,0] ![1, 512] h) = tap x2 0 := ld_tap x2 0
  have w1 : ∀ h, View.ld (Val := Elt F) (e' := .f32) x2 (Rect.unit ![1,0] ![1, 512] h) = tap x2 1 := ld_tap x2 1
  have w2 : ∀ h, View.ld (Val := Elt F) (e' := .f32) x2 (Rect.unit ![2,0] ![1, 512] h) = tap x2 2 := ld_tap x2 2
  have w3 : ∀ h, View.ld (Val := Elt F) (e' := .f32) x2 (Rect.unit ![3,0] ![1, 512] h) = tap x2 3 := ld_tap x2 3
  have m0 : ∀ (z : Vec F S2x256x256 .bf16) h, View.ld (Val := Elt F) (e' := .bf16) z (Rect.unit ![0,0,0] ![1, 256, 256] h) = slab z 0 := fun z => ld_slab z 0
  have m1 : ∀ (z : Vec F S2x256x256 .bf16) h, View.ld (Val := Elt F) (e' := .bf16) z (Rect.unit ![1,0,0] ![1, 256, 256] h) = slab z 1 := fun z => ld_slab z 1
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  have r5 := fun h8 h0 h => readCov_rows arg13.view k0_pay1 x0 h8 h0 5 (by omega) h
  have r6 := fun h8 h0 h => readCov_rows arg13.view k0_pay1 x0 h8 h0 6 (by omega) h
  have r7 := fun h8 h0 h => readCov_rows arg13.view k0_pay1 x0 h8 h0 7 (by omega) h
  have r8 := fun h8 h0 h => readCov_rows arg13.view k0_pay1 x0 h8 h0 8 (by omega) h
  have rh : ∀ h, arg14.view.readCov [(⟨Rect.unit ![0, 0] ![1, 512] h, k0_pay2⟩ : View.Piece (Elt F) S1x512 .f32)] (Rect.unit ![0, 0] ![1, 512] h).toLoadRect = k0_pay2 :=
    fun h => View.readCov_cons_toLoadRect _ _ _ _
  have hn : iota Kind.tc S640x1 32 [0] iota_S640x1_d0_w32 = nums := rfl
  simp only [View.readAt_eq_ld, harg2.read_unread, harg3.read_unread, harg4.read_unread, harg5.read_unread, harg6.read_unread, harg7.read_unread, harg8.read_unread, harg9.read_unread, harg10.read_unread, harg11.read_unread, l0]
  simp only [l1, l3, w0, w1, w2, w3, m0, m1, r5, r6, r7, r8, rh, hn]
  rw [View.canon_cons_unit_zero hz2]
  unfold conv rgate igate taps3
  simp only [pay18_eq, pay19_eq, pay22_eq, pay23_eq, pay24_eq, pay25_eq, pay26_eq, pay28_eq, pay29_eq, pay30_eq, pay31_eq, pay33_eq, pay34_eq, pay35_eq]
  rfl

set_option maxRecDepth 16384 in
set_option maxHeartbeats 2000000 in
/-- The carried rows, in a batch's first tile. -/
theorem sout0_A_0_eq (c : Dev nD) (i : grid0.Coords) (arg2 : Memref sig .tc .vmem S1x640x512 .f32) (harg2 : arg2.IsWhole) (arg3 : Memref sig .tc .vmem S1x640x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x640x512 .bf16) (harg12 : arg12.IsWhole) (arg13 : Memref sig .tc .vmem S648x512 .f32) (harg13 : arg13.IsWhole) (arg14 : Memref sig .tc .vmem S1x512 .f32) (harg14 : arg14.IsWhole)  (hc0 : cond0_0 i)
    (x0 : Vec F S1x640x512 .f32) (x1 : Vec F S1x640x512 .f32) (x2 : Vec F S4x512 .f32) (x3 : Vec F S1x512 .f32) (x4 : Vec F S2x256x256 .bf16) (x5 : Vec F S2x256x256 .bf16) (x6 : Vec F S1x512 .f32) (x7 : Vec F S1x512 .f32) (x8 : Vec F S1x512 .f32) (x9 : Vec F S1x512 .f32) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
    = buf (tail x0) x0 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 512] h) = x0 := fun h => View.ld_unit_zero (S := S1x640x512) hz3 h x0
  have l1 : ∀ h, View.ld (Val := Elt F) (e' := .f32) x1 (Rect.unit ![0,0,0] ![1, 640, 512] h) = x1 := fun h => View.ld_unit_zero (S := S1x640x512) hz3 h x1
  have l3 : ∀ (z : Vec F S1x512 .f32) h, View.ld (Val := Elt F) (e' := .f32) z (Rect.unit ![0,0] ![1, 512] h) = z := fun z h => View.ld_unit_zero (S := S1x512) hz2 h z
  have w0 : ∀ h, View.ld (Val := Elt F) (e' := .f32) x2 (Rect.unit ![0,0] ![1, 512] h) = tap x2 0 := ld_tap x2 0
  have w1 : ∀ h, View.ld (Val := Elt F) (e' := .f32) x2 (Rect.unit ![1,0] ![1, 512] h) = tap x2 1 := ld_tap x2 1
  have w2 : ∀ h, View.ld (Val := Elt F) (e' := .f32) x2 (Rect.unit ![2,0] ![1, 512] h) = tap x2 2 := ld_tap x2 2
  have w3 : ∀ h, View.ld (Val := Elt F) (e' := .f32) x2 (Rect.unit ![3,0] ![1, 512] h) = tap x2 3 := ld_tap x2 3
  have m0 : ∀ (z : Vec F S2x256x256 .bf16) h, View.ld (Val := Elt F) (e' := .bf16) z (Rect.unit ![0,0,0] ![1, 256, 256] h) = slab z 0 := fun z => ld_slab z 0
  have m1 : ∀ (z : Vec F S2x256x256 .bf16) h, View.ld (Val := Elt F) (e' := .bf16) z (Rect.unit ![1,0,0] ![1, 256, 256] h) = slab z 1 := fun z => ld_slab z 1
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp only [View.readAt_eq_ld, harg2.read_unread, l0]
  rw [canon_buf', pay8_eq]

set_option maxRecDepth 16384 in
set_option maxHeartbeats 2000000 in
/-- The result block, in a later tile. -/
theorem out0_B_10_eq (c : Dev nD) (i : grid0.Coords) (arg2 : Memref sig .tc .vmem S1x640x512 .f32) (harg2 : arg2.IsWhole) (arg3 : Memref sig .tc .vmem S1x640x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x640x512 .bf16) (harg12 : arg12.IsWhole) (arg13 : Memref sig .tc .vmem S648x512 .f32) (harg13 : arg13.IsWhole) (arg14 : Memref sig .tc .vmem S1x512 .f32) (harg14 : arg14.IsWhole)  (hc0 : ¬cond0_0 i)
    (x0 : Vec F S1x640x512 .f32) (x1 : Vec F S1x640x512 .f32) (x2 : Vec F S4x512 .f32) (x3 : Vec F S1x512 .f32) (x4 : Vec F S2x256x256 .bf16) (x5 : Vec F S2x256x256 .bf16) (x6 : Vec F S1x512 .f32) (x7 : Vec F S1x512 .f32) (x8 : Vec F S1x512 .f32) (x9 : Vec F S1x512 .f32) (xs0 : Vec F S648x512 .f32) (xs1 : Vec F S1x512 .f32) : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1
    = k0_pay38 (fullU (k0_pay13 (rgate (buf (head xs0) x0) x2 x3 x4 x6) x8) (input (BitVec.ofNat 32 (i 1).val) (conv (buf (head xs0) x0) x2 x3) (rgate (buf (head xs0) x0) x2 x3 x4 x6) (igate (buf (head xs0) x0) x2 x3 x5 x7) x8)) (fullA (k0_pay13 (rgate (buf (head xs0) x0) x2 x3 x4 x6) x8)) xs1 x1 x9 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 512] h) = x0 := fun h => View.ld_unit_zero (S := S1x640x512) hz3 h x0
  have l1 : ∀ h, View.ld (Val := Elt F) (e' := .f32) x1 (Rect.unit ![0,0,0] ![1, 640, 512] h) = x1 := fun h => View.ld_unit_zero (S := S1x640x512) hz3 h x1
  have l3 : ∀ (z : Vec F S1x512 .f32) h, View.ld (Val := Elt F) (e' := .f32) z (Rect.unit ![0,0] ![1, 512] h) = z := fun z h => View.ld_unit_zero (S := S1x512) hz2 h z
  have w0 : ∀ h, View.ld (Val := Elt F) (e' := .f32) x2 (Rect.unit ![0,0] ![1, 512] h) = tap x2 0 := ld_tap x2 0
  have w1 : ∀ h, View.ld (Val := Elt F) (e' := .f32) x2 (Rect.unit ![1,0] ![1, 512] h) = tap x2 1 := ld_tap x2 1
  have w2 : ∀ h, View.ld (Val := Elt F) (e' := .f32) x2 (Rect.unit ![2,0] ![1, 512] h) = tap x2 2 := ld_tap x2 2
  have w3 : ∀ h, View.ld (Val := Elt F) (e' := .f32) x2 (Rect.unit ![3,0] ![1, 512] h) = tap x2 3 := ld_tap x2 3
  have m0 : ∀ (z : Vec F S2x256x256 .bf16) h, View.ld (Val := Elt F) (e' := .bf16) z (Rect.unit ![0,0,0] ![1, 256, 256] h) = slab z 0 := fun z => ld_slab z 0
  have m1 : ∀ (z : Vec F S2x256x256 .bf16) h, View.ld (Val := Elt F) (e' := .bf16) z (Rect.unit ![1,0,0] ![1, 256, 256] h) = slab z 1 := fun z => ld_slab z 1
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  have rb := fun h8 => read_buf arg13.view (harg13.unread xs0) xs0 (harg13.read_unread xs0) x0 h8
  have b5 := fun h => ld_rows (buf (head xs0) x0) 5 (by omega) h
  have b6 := fun h => ld_rows (buf (head xs0) x0) 6 (by omega) h
  have b7 := fun h => ld_rows (buf (head xs0) x0) 7 (by omega) h
  have r8 : ∀ h, arg13.view.readCov [(⟨Rect.unit ![8, 0] ![640, 512] h, k0_pay4 x0⟩ : View.Piece (Elt F) S648x512 .f32)] (Rect.unit ![8, 0] ![640, 512] h).toLoadRect = rows (buf (head xs0) x0) 8 (by omega) :=
    fun h => (View.readCov_cons_toLoadRect _ _ _ _).trans (rows8 (head xs0) x0).symm
  have hn : iota Kind.tc S640x1 32 [0] iota_S640x1_d0_w32 = nums := rfl
  simp only [View.readAt_eq_ld, harg2.read_unread, harg3.read_unread, harg4.read_unread, harg5.read_unread, harg6.read_unread, harg7.read_unread, harg8.read_unread, harg9.read_unread, harg10.read_unread, harg11.read_unread, harg14.read_unread, l0]
  simp only [l1, l3, w0, w1, w2, w3, m0, m1, rb, b5, b6, b7, r8, hn]
  rw [View.canon_unit_zero hz3]
  unfold conv rgate igate taps3
  simp only [pay18_eq, pay19_eq, pay22_eq, pay23_eq, pay24_eq, pay25_eq, pay26_eq, pay28_eq, pay29_eq, pay30_eq, pay31_eq, pay33_eq, pay34_eq, pay35_eq]
  rfl

set_option maxRecDepth 16384 in
set_option maxHeartbeats 2000000 in
/-- The carried state, in a later tile. -/
theorem sout0_B_1_eq (c : Dev nD) (i : grid0.Coords) (arg2 : Memref sig .tc .vmem S1x640x512 .f32) (harg2 : arg2.IsWhole) (arg3 : Memref sig .tc .vmem S1x640x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x640x512 .bf16) (harg12 : arg12.IsWhole) (arg13 : Memref sig .tc .vmem S648x512 .f32) (harg13 : arg13.IsWhole) (arg14 : Memref sig .tc .vmem S1x512 .f32) (harg14 : arg14.IsWhole)  (hc0 : ¬cond0_0 i)
    (x0 : Vec F S1x640x512 .f32) (x1 : Vec F S1x640x512 .f32) (x2 : Vec F S4x512 .f32) (x3 : Vec F S1x512 .f32) (x4 : Vec F S2x256x256 .bf16) (x5 : Vec F S2x256x256 .bf16) (x6 : Vec F S1x512 .f32) (x7 : Vec F S1x512 .f32) (x8 : Vec F S1x512 .f32) (x9 : Vec F S1x512 .f32) (xs0 : Vec F S648x512 .f32) (xs1 : Vec F S1x512 .f32) : sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1
    = k0_pay37 (fullU (k0_pay13 (rgate (buf (head xs0) x0) x2 x3 x4 x6) x8) (input (BitVec.ofNat 32 (i 1).val) (conv (buf (head xs0) x0) x2 x3) (rgate (buf (head xs0) x0) x2 x3 x4 x6) (igate (buf (head xs0) x0) x2 x3 x5 x7) x8)) (fullA (k0_pay13 (rgate (buf (head xs0) x0) x2 x3 x4 x6) x8)) xs1 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 512] h) = x0 := fun h => View.ld_unit_zero (S := S1x640x512) hz3 h x0
  have l1 : ∀ h, View.ld (Val := Elt F) (e' := .f32) x1 (Rect.unit ![0,0,0] ![1, 640, 512] h) = x1 := fun h => View.ld_unit_zero (S := S1x640x512) hz3 h x1
  have l3 : ∀ (z : Vec F S1x512 .f32) h, View.ld (Val := Elt F) (e' := .f32) z (Rect.unit ![0,0] ![1, 512] h) = z := fun z h => View.ld_unit_zero (S := S1x512) hz2 h z
  have w0 : ∀ h, View.ld (Val := Elt F) (e' := .f32) x2 (Rect.unit ![0,0] ![1, 512] h) = tap x2 0 := ld_tap x2 0
  have w1 : ∀ h, View.ld (Val := Elt F) (e' := .f32) x2 (Rect.unit ![1,0] ![1, 512] h) = tap x2 1 := ld_tap x2 1
  have w2 : ∀ h, View.ld (Val := Elt F) (e' := .f32) x2 (Rect.unit ![2,0] ![1, 512] h) = tap x2 2 := ld_tap x2 2
  have w3 : ∀ h, View.ld (Val := Elt F) (e' := .f32) x2 (Rect.unit ![3,0] ![1, 512] h) = tap x2 3 := ld_tap x2 3
  have m0 : ∀ (z : Vec F S2x256x256 .bf16) h, View.ld (Val := Elt F) (e' := .bf16) z (Rect.unit ![0,0,0] ![1, 256, 256] h) = slab z 0 := fun z => ld_slab z 0
  have m1 : ∀ (z : Vec F S2x256x256 .bf16) h, View.ld (Val := Elt F) (e' := .bf16) z (Rect.unit ![1,0,0] ![1, 256, 256] h) = slab z 1 := fun z => ld_slab z 1
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  have rb := fun h8 => read_buf arg13.view (harg13.unread xs0) xs0 (harg13.read_unread xs0) x0 h8
  have b5 := fun h => ld_rows (buf (head xs0) x0) 5 (by omega) h
  have b6 := fun h => ld_rows (buf (head xs0) x0) 6 (by omega) h
  have b7 := fun h => ld_rows (buf (head xs0) x0) 7 (by omega) h
  have r8 : ∀ h, arg13.view.readCov [(⟨Rect.unit ![8, 0] ![640, 512] h, k0_pay4 x0⟩ : View.Piece (Elt F) S648x512 .f32)] (Rect.unit ![8, 0] ![640, 512] h).toLoadRect = rows (buf (head xs0) x0) 8 (by omega) :=
    fun h => (View.readCov_cons_toLoadRect _ _ _ _).trans (rows8 (head xs0) x0).symm
  have hn : iota Kind.tc S640x1 32 [0] iota_S640x1_d0_w32 = nums := rfl
  simp only [View.readAt_eq_ld, harg2.read_unread, harg3.read_unread, harg4.read_unread, harg5.read_unread, harg6.read_unread, harg7.read_unread, harg8.read_unread, harg9.read_unread, harg10.read_unread, harg11.read_unread, harg14.read_unread, l0]
  simp only [l1, l3, w0, w1, w2, w3, m0, m1, rb, b5, b6, b7, r8, hn]
  rw [View.canon_cons_unit_zero hz2]
  unfold conv rgate igate taps3
  simp only [pay18_eq, pay19_eq, pay22_eq, pay23_eq, pay24_eq, pay25_eq, pay26_eq, pay28_eq, pay29_eq, pay30_eq, pay31_eq, pay33_eq, pay34_eq, pay35_eq]
  rfl

set_option maxRecDepth 16384 in
set_option maxHeartbeats 2000000 in
/-- The carried rows, in a later tile. -/
theorem sout0_B_0_eq (c : Dev nD) (i : grid0.Coords) (arg2 : Memref sig .tc .vmem S1x640x512 .f32) (harg2 : arg2.IsWhole) (arg3 : Memref sig .tc .vmem S1x640x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x640x512 .bf16) (harg12 : arg12.IsWhole) (arg13 : Memref sig .tc .vmem S648x512 .f32) (harg13 : arg13.IsWhole) (arg14 : Memref sig .tc .vmem S1x512 .f32) (harg14 : arg14.IsWhole)  (hc0 : ¬cond0_0 i)
    (x0 : Vec F S1x640x512 .f32) (x1 : Vec F S1x640x512 .f32) (x2 : Vec F S4x512 .f32) (x3 : Vec F S1x512 .f32) (x4 : Vec F S2x256x256 .bf16) (x5 : Vec F S2x256x256 .bf16) (x6 : Vec F S1x512 .f32) (x7 : Vec F S1x512 .f32) (x8 : Vec F S1x512 .f32) (x9 : Vec F S1x512 .f32) (xs0 : Vec F S648x512 .f32) (xs1 : Vec F S1x512 .f32) : sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1
    = buf (tail x0) x0 := by
  have hz2 : (![0,0] : Fin 2 → Nat) = fun _ => 0 := funext fun a => by fin_cases a <;> rfl
  have hz3 : (![0,0,0] : Fin 3 → Nat) = fun _ => 0 := funext fun a => by fin_cases a <;> rfl
  have l0 : ∀ h, View.ld (Val := Elt F) (e' := .f32) x0 (Rect.unit ![0,0,0] ![1, 640, 512] h) = x0 := fun h => View.ld_unit_zero (S := S1x640x512) hz3 h x0
  have l1 : ∀ h, View.ld (Val := Elt F) (e' := .f32) x1 (Rect.unit ![0,0,0] ![1, 640, 512] h) = x1 := fun h => View.ld_unit_zero (S := S1x640x512) hz3 h x1
  have l3 : ∀ (z : Vec F S1x512 .f32) h, View.ld (Val := Elt F) (e' := .f32) z (Rect.unit ![0,0] ![1, 512] h) = z := fun z h => View.ld_unit_zero (S := S1x512) hz2 h z
  have w0 : ∀ h, View.ld (Val := Elt F) (e' := .f32) x2 (Rect.unit ![0,0] ![1, 512] h) = tap x2 0 := ld_tap x2 0
  have w1 : ∀ h, View.ld (Val := Elt F) (e' := .f32) x2 (Rect.unit ![1,0] ![1, 512] h) = tap x2 1 := ld_tap x2 1
  have w2 : ∀ h, View.ld (Val := Elt F) (e' := .f32) x2 (Rect.unit ![2,0] ![1, 512] h) = tap x2 2 := ld_tap x2 2
  have w3 : ∀ h, View.ld (Val := Elt F) (e' := .f32) x2 (Rect.unit ![3,0] ![1, 512] h) = tap x2 3 := ld_tap x2 3
  have m0 : ∀ (z : Vec F S2x256x256 .bf16) h, View.ld (Val := Elt F) (e' := .bf16) z (Rect.unit ![0,0,0] ![1, 256, 256] h) = slab z 0 := fun z => ld_slab z 0
  have m1 : ∀ (z : Vec F S2x256x256 .bf16) h, View.ld (Val := Elt F) (e' := .bf16) z (Rect.unit ![1,0,0] ![1, 256, 256] h) = slab z 1 := fun z => ld_slab z 1
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  simp only [View.readAt_eq_ld, harg2.read_unread, l0]
  rw [canon_buf', pay8_eq]

end Cert.Rec
-- ==== Proof.RecRow.lean ====
/- The recurrent branch over the extended reals, as plain functions of one batch's rows and the weights: the causal
   convolution, the two gates, the decay, the recurrence, and the gated and normalised result. The rows are counted with
   120 rows of zeros in front of the batch's own: 112 rows of padding and eight rows before them. -/
module

public import proofs.«01_k».proof.Proof.RecScan
public import proofs.«01_k».proof.Proof.InRow

@[expose] public section

noncomputable section

namespace Cert.RecRow

open Idealize.ShloMosaic
open scoped BigOperators

/-- The branch's weights: four taps and their bias, the two gates' blocks and biases, the decay's parameter. -/
structure Wts where
  w : Fin 4 → Fin 512 → EReal
  cb : Fin 512 → EReal
  mr : Fin 8 → Fin 64 → Fin 64 → EReal
  mi : Fin 8 → Fin 64 → Fin 64 → EReal
  br : Fin 512 → EReal
  bi : Fin 512 → EReal
  L : Fin 512 → EReal

/-- A gate: the channels' own block of 64, a bias, the logistic function. -/
def gate (m : Fin 8 → Fin 64 → Fin 64 → EReal) (b : Fin 512 → EReal) (z : Fin 512 → EReal) (c : Fin 512) : EReal :=
  Ideal.logistic ((∑ d : Fin 64, z ⟨64 * (c.val / 64) + d.val, by omega⟩ * m ⟨c.val / 64, by omega⟩ d ⟨c.val % 64, by omega⟩) + b c)

/-- The soft maximum with zero. -/
def soft (z : EReal) : EReal := max z 0 + Ideal.log1p (Ideal.exp (-(max z (-z))))

/-- The soft maximum is not negative. -/
theorem soft_nonneg (z : EReal) : 0 ≤ soft z :=
  add_nonneg (le_max_right _ _) (RecScan.log1p_nonneg (RecScan.exp_nonneg _))

/-- The decay's exponent. -/
def expo (r l : EReal) : EReal := Ideal.ofBits .f32 0x41000000#32 * r * -(soft (-l))

/-- The constant 8 is not negative. -/
theorem eight_nonneg : 0 ≤ Ideal.ofBits .f32 0x41000000#32 := by
  have h : Ideal.ofBits .f32 0x41000000#32 = ((8 : ℝ) : EReal) := by
    simp [Ideal.ofBits, Ideal.ieee, -EReal.coe_mul]; norm_num
  rw [h]
  exact EReal.coe_nonneg.mpr (by norm_num)

/-- The decay's exponent is not positive. -/
theorem expo_nonpos {r : EReal} (hr : 0 ≤ r) (l : EReal) : expo r l ≤ 0 := by
  unfold expo
  rw [mul_neg]
  exact EReal.neg_le_zero.mpr (mul_nonneg (mul_nonneg eight_nonneg hr) (soft_nonneg _))

/-- The input's factor. -/
def factor (la : EReal) : EReal := Ideal.sqrt (max ((0 - Ideal.tanh la) * (Ideal.exp la * Ideal.exp la + 1)) 0)

variable (W : Wts) (x : ℕ → Fin 512 → EReal)

/-- The convolution. -/
def conv (T : ℕ) (c : Fin 512) : EReal := W.cb c + W.w 0 c * x (T + 5) c + W.w 1 c * x (T + 6) c + W.w 2 c * x (T + 7) c + W.w 3 c * x (T + 8) c

/-- The decay's exponent at a row. -/
def rate (T : ℕ) (c : Fin 512) : EReal := expo (gate W.mr W.br (conv W x T) c) (W.L c)

/-- The decay at a row. -/
def decay (T : ℕ) (c : Fin 512) : EReal := Ideal.exp (rate W x T c)

/-- What a row adds to the state: nothing before row 112. -/
def inp (T : ℕ) (c : Fin 512) : EReal :=
  if 112 ≤ T then (if T = 112 then 1 else factor (rate W x T c)) * gate W.mi W.bi (conv W x T) c * conv W x T c else 0

/-- The state after a row. -/
def state (T : ℕ) (c : Fin 512) : EReal := RecScan.run (fun n => decay W x n c) (fun n => inp W x n c) 0 T

/-- The Gaussian unit, in its form by the hyperbolic tangent. -/
def gelu (g : EReal) : EReal :=
  g * (Ideal.ofBits .f32 0x3F000000#32 * (1 + Ideal.tanh (Ideal.ofBits .f32 0x3F4C422A#32 * (g + Ideal.ofBits .f32 0x3D372713#32 * (g * (g * g))))))

/-- The gated state, normalised by its root mean square, with a gain. -/
def fin (h g k : Fin 512 → EReal) (c : Fin 512) : EReal :=
  h c * gelu (g c) * Ideal.rsqrt (Ideal.div (∑ e : Fin 512, h e * gelu (g e) * (h e * gelu (g e))) (Ideal.ofBits .f32 0x44000000#32)
    + Ideal.ofBits .f32 0x358637BD#32) * k c

/-- A decay is not negative. -/
theorem decay_nonneg (T : ℕ) (c : Fin 512) : 0 ≤ decay W x T c := RecScan.exp_nonneg _

/-- A decay is finite. -/
theorem decay_ne_top (T : ℕ) (c : Fin 512) : decay W x T c ≠ ⊤ :=
  RecScan.exp_ne_top (expo_nonpos (RecScan.logistic_nonneg _) _)

/-- The states before row 112 are zero. -/
theorem state_zero {T : ℕ} (hT : T < 112) (c : Fin 512) : state W x T c = 0 :=
  RecScan.run_zero _ _ T fun r hr => if_neg (by omega)

/-- The states from row 112 on. -/
theorem state_from (n : ℕ) (c : Fin 512) :
    state W x (112 + n) c = RecScan.run (fun i => decay W x (112 + i) c) (fun i => inp W x (112 + i) c) 0 n :=
  RecScan.run_skip _ _ 112 n fun r hr => if_neg (by omega)

/-- A zero state gives a zero result. -/
theorem fin_zero (h g k : Fin 512 → EReal) (hh : ∀ c, h c = 0) (c : Fin 512) : fin h g k c = 0 := by
  unfold fin
  rw [hh c, zero_mul, zero_mul, zero_mul]

end Cert.RecRow

end
-- ==== Proof.RecTile.lean ====
/- The elements of one tile of the recurrent branch. -/
module

public import proofs.«01_k».proof.Proof.RecRow
public import proofs.«01_k».proof.Proof.RecVec
public import proofs.«01_k».proof.Proof.InTile

@[expose] public section

noncomputable section

namespace Cert.Rec

open Cert.Kernel5Ideal Cert.Kernel5Ideal.Gen Idealize.ShloMosaic
open scoped BigOperators

/-- A block-diagonal sum keeps the terms of the channel's own block. -/
theorem sum_own (f : Fin 256 → EReal) (g : Fin 64 → EReal) (j : Fin 256) (w : Fin 256 → EReal)
    (hw : ∀ k : Fin 256, w k = if k.val / 64 = j.val / 64 then g ⟨k.val % 64, by omega⟩ else 0) :
    ∑ k : Fin 256, f k * w k = ∑ d : Fin 64, f ⟨64 * (j.val / 64) + d.val, by omega⟩ * g d := by
  have e : ∑ k : Fin 256, f k * w k = ∑ i : Fin 4, ∑ d : Fin 64, f ⟨64 * i.val + d.val, by omega⟩ * w ⟨64 * i.val + d.val, by omega⟩ := by
    rw [← Fintype.sum_prod_type' (fun (i : Fin 4) (d : Fin 64) => f ⟨64 * i.val + d.val, by omega⟩ * w ⟨64 * i.val + d.val, by omega⟩)]
    refine (Fintype.sum_equiv (finProdFinEquiv (m := 4) (n := 64)) _ _ fun p => ?_).symm
    have hp : (⟨64 * p.1.val + p.2.val, by omega⟩ : Fin 256) = finProdFinEquiv (m := 4) (n := 64) p := Fin.ext (by
      show 64 * p.1.val + p.2.val = p.2.val + 64 * p.1.val; omega)
    exact congrArg (fun k => f k * w k) hp
  rw [e, Finset.sum_eq_single (⟨j.val / 64, by omega⟩ : Fin 4)]
  · refine Finset.sum_congr rfl fun d _ => ?_
    rw [hw, if_pos (by show (64 * (j.val / 64) + d.val) / 64 = j.val / 64; omega)]
    refine congrArg (fun k => _ * g k) (Fin.ext ?_)
    show (64 * (j.val / 64) + d.val) % 64 = d.val
    omega
  · intro i _ hi
    refine Finset.sum_eq_zero fun d _ => ?_
    rw [hw, if_neg (fun h => hi (Fin.ext (by
      have h' : (64 * i.val + d.val) / 64 = j.val / 64 := h
      show i.val = j.val / 64
      omega))), mul_zero]
  · intro h
    exact absurd (Finset.mem_univ _) h

section
variable (B : FVec Ideal S648x512 .f32) (x2 : FVec Ideal S4x512 .f32) (x3 : FVec Ideal S1x512 .f32) (r : Fin 640) (c : Fin 512)

/-- The convolution's element. -/
theorem conv_raw : conv (F := Ideal) B x2 x3 (ix2 r c)
    = x3 (ix2 0 c) + x2 (ix2 0 c) * B (ix2 ⟨5 + r.val, by omega⟩ c) + x2 (ix2 1 c) * B (ix2 ⟨6 + r.val, by omega⟩ c)
      + x2 (ix2 2 c) * B (ix2 ⟨7 + r.val, by omega⟩ c) + x2 (ix2 3 c) * B (ix2 ⟨8 + r.val, by omega⟩ c) := by
  unfold conv taps3 k0_pay7 k0_pay6 k0_pay5 tap rows
  pointwise

/-- A gate's element, from the convolution's. -/
theorem gate_raw (m : FVec Ideal S2x256x256 .bf16) (v : FVec Ideal S1x512 .f32) (M : Fin 8 → Fin 64 → Fin 64 → EReal)
    (hm : ∀ (k : Fin 2) (i j : Fin 256), m (ix3 k i j) = if i.val / 64 = j.val / 64 then M ⟨4 * k.val + i.val / 64, by omega⟩ ⟨i.val % 64, by omega⟩ ⟨j.val % 64, by omega⟩ else 0) :
    rgate (F := Ideal) B x2 x3 m v (ix2 r c) = RecRow.gate M (fun e => v (ix2 0 e)) (fun e => conv (F := Ideal) B x2 x3 (ix2 r e)) c := by
  have e : rgate (F := Ideal) B x2 x3 m v (ix2 r c) = Ideal.logistic ((if h : c.val < 256
      then ∑ k : Fin 256, conv (F := Ideal) B x2 x3 (ix2 r ⟨k.val, by omega⟩) * m (ix3 0 k ⟨c.val, h⟩)
      else ∑ k : Fin 256, conv (F := Ideal) B x2 x3 (ix2 r ⟨256 + k.val, by omega⟩) * m (ix3 1 k ⟨c.val - 256, by omega⟩)) + v (ix2 0 c)) := by
    unfold rgate k0_pay10 k0_pay9 slab
    change _ = _
    pointwise
    rfl
  rw [e]
  unfold RecRow.gate
  refine congrArg (fun s => Ideal.logistic (s + v (ix2 0 c))) ?_
  by_cases h : c.val < 256
  · rw [dif_pos h]
    refine (sum_own (fun k => conv (F := Ideal) B x2 x3 (ix2 r ⟨k.val, by omega⟩)) (fun d => M ⟨c.val / 64, by omega⟩ d ⟨c.val % 64, by omega⟩) ⟨c.val, h⟩ _ fun k => ?_)
    rw [hm]
    refine ite_congr rfl (fun hk => ?_) fun _ => rfl
    have e1 : (⟨4 * (0 : Fin 2).val + k.val / 64, by omega⟩ : Fin 8) = ⟨c.val / 64, by omega⟩ := Fin.ext (by
      have hk' : k.val / 64 = c.val / 64 := hk
      show 4 * 0 + k.val / 64 = c.val / 64; omega)
    rw [e1]
  · rw [dif_neg h]
    refine (sum_own (fun k => conv (F := Ideal) B x2 x3 (ix2 r ⟨256 + k.val, by omega⟩)) (fun d => M ⟨c.val / 64, by omega⟩ d ⟨c.val % 64, by omega⟩) ⟨c.val - 256, by omega⟩ _ fun k => ?_).trans ?_
    · rw [hm]
      refine ite_congr rfl (fun hk => ?_) fun _ => rfl
      have e1 : (⟨4 * (1 : Fin 2).val + k.val / 64, by omega⟩ : Fin 8) = ⟨c.val / 64, by omega⟩ := Fin.ext (by
        have hk' : k.val / 64 = (c.val - 256) / 64 := hk
        show 4 * 1 + k.val / 64 = c.val / 64; omega)
      have e2 : (⟨(c.val - 256) % 64, by omega⟩ : Fin 64) = ⟨c.val % 64, by omega⟩ := Fin.ext (by
        show (c.val - 256) % 64 = c.val % 64; omega)
      rw [e1]
      exact congrArg _ e2
    · refine Finset.sum_congr rfl fun d _ => ?_
      have e3 : (⟨256 + (64 * ((c.val - 256) / 64) + d.val), by omega⟩ : Fin 512) = ⟨64 * (c.val / 64) + d.val, by omega⟩ := Fin.ext (by
        show 256 + (64 * ((c.val - 256) / 64) + d.val) = 64 * (c.val / 64) + d.val; omega)
      exact congrArg (fun k => conv (F := Ideal) B x2 x3 (ix2 r k) * _) e3

/-- The input gate is the same function of its weights as the recurrence gate. -/
theorem igate_eq (m : FVec Ideal S2x256x256 .bf16) (v : FVec Ideal S1x512 .f32) : igate (F := Ideal) B x2 x3 m v = rgate (F := Ideal) B x2 x3 m v := by
  unfold igate rgate k0_pay11 k0_pay10
  rfl
end

section
variable (rg : FVec Ideal S640x512 .f32) (L : FVec Ideal S1x512 .f32) (r : Fin 640) (c : Fin 512)

/-- The decay's exponent. -/
theorem expo_at : k0_pay12 (F := Ideal) rg L (ix2 r c) = RecRow.expo (rg (ix2 r c)) (L (ix2 0 c)) := by
  unfold k0_pay12 RecRow.expo RecRow.soft
  pointwise
  rw [if_neg (not_not.mpr rfl), zero_sub, zero_sub, zero_sub]
  rfl

/-- The decay. -/
theorem decay_at : k0_pay13 (F := Ideal) rg L (ix2 r c) = Ideal.exp (RecRow.expo (rg (ix2 r c)) (L (ix2 0 c))) := by
  rw [← expo_at]
  unfold k0_pay13
  pointwise

/-- The first row's number, compared. -/
theorem first_eq : ∀ (p : Fin 13) (r : Fin 640), IntOp.cmpi .eq (IntOp.addi (Scalar.muli (BitVec.ofNat 32 p.val) 640#32) (BitVec.ofNat 32 r.val)) 112#32
    = if 640 * p.val + r.val = 112 then 1#1 else 0#1 := by decide +kernel

/-- The input's factor. -/
theorem factor_at (p : Fin 13) : k0_pay15 (F := Ideal) (BitVec.ofNat 32 p.val) rg L (ix2 r c)
    = if 640 * p.val + r.val = 112 then 1 else RecRow.factor (RecRow.expo (rg (ix2 r c)) (L (ix2 0 c))) := by
  have e : k0_pay15 (F := Ideal) (BitVec.ofNat 32 p.val) rg L (ix2 r c)
      = Scalar.select (IntOp.cmpi .eq (IntOp.addi (Scalar.muli (BitVec.ofNat 32 p.val) 640#32) (BitVec.ofNat 32 r.val)) 112#32)
        (Ideal.ofBits .f32 0x3F800000#32) (RecRow.factor (RecRow.expo (rg (ix2 r c)) (L (ix2 0 c)))) := by
    rw [← expo_at]
    unfold k0_pay15 k0_pay14 k0_pay13 RecRow.factor
    pointwise
  rw [e, first_eq, Ideal.ofBits_one_f32]
  by_cases h : 640 * p.val + r.val = 112
  · rw [if_pos h, if_pos h]; rfl
  · rw [if_neg h, if_neg h]; rfl

/-- What a row adds to the state. -/
theorem input_at (p : Fin 13) (xc ig : FVec Ideal S640x512 .f32) : input (F := Ideal) (BitVec.ofNat 32 p.val) xc rg ig L (ix2 r c)
    = if 112 ≤ 640 * p.val + r.val then (if 640 * p.val + r.val = 112 then 1 else RecRow.factor (RecRow.expo (rg (ix2 r c)) (L (ix2 0 c)))) * ig (ix2 r c) * xc (ix2 r c) else 0 := by
  have e : input (F := Ideal) (BitVec.ofNat 32 p.val) xc rg ig L (ix2 r c)
      = Scalar.select (IntOp.cmpi .sge (IntOp.addi (Scalar.muli (BitVec.ofNat 32 p.val) 640#32) (BitVec.ofNat 32 r.val)) 112#32)
        (k0_pay15 (F := Ideal) (BitVec.ofNat 32 p.val) rg L (ix2 r c) * ig (ix2 r c) * xc (ix2 r c)) 0 := by
    unfold input k0_pay14 k0_pay16
    pointwise
  rw [e, InTile.mask_eq, factor_at]
  by_cases h : 112 ≤ 640 * p.val + r.val
  · rw [if_pos h, if_pos h]; rfl
  · rw [if_neg h, if_neg h]; rfl
end

/-- The carried state. -/
theorem last_at (U A : FVec Ideal S640x512 .f32) (h : FVec Ideal S1x512 .f32) (c : Fin 512) :
    k0_pay37 (F := Ideal) U A h (ix2 0 c) = k0_pay36 (F := Ideal) U A h (ix2 639 c) := by
  unfold k0_pay37
  pointwise

/-- The tile's result. -/
theorem result_at (U A : FVec Ideal S640x512 .f32) (h : FVec Ideal S1x512 .f32) (x1 : FVec Ideal S1x640x512 .f32) (x9 : FVec Ideal S1x512 .f32) (r : Fin 640) (c : Fin 512) :
    k0_pay38 (F := Ideal) U A h x1 x9 (ix3 0 r c)
      = RecRow.fin (fun e => k0_pay36 (F := Ideal) U A h (ix2 r e)) (fun e => x1 (ix3 0 r e)) (fun e => x9 (ix2 0 e)) c := by
  unfold k0_pay38 RecRow.fin RecRow.gelu
  pointwise

section
variable (W : RecRow.Wts) (x : ℕ → Fin 512 → EReal) (p : Fin 13)
variable (B : FVec Ideal S648x512 .f32) (x2 : FVec Ideal S4x512 .f32) (x3 : FVec Ideal S1x512 .f32) (x4 x5 : FVec Ideal S2x256x256 .bf16) (x6 x7 x8 : FVec Ideal S1x512 .f32)
variable (hB : ∀ (j : Fin 648) (c : Fin 512), B (ix2 j c) = x (640 * p.val + j.val) c)
variable (h2 : ∀ (k : Fin 4) (c : Fin 512), x2 (ix2 k c) = W.w k c) (h3 : ∀ c : Fin 512, x3 (ix2 0 c) = W.cb c)
variable (h4 : ∀ (k : Fin 2) (i j : Fin 256), x4 (ix3 k i j) = if i.val / 64 = j.val / 64 then W.mr ⟨4 * k.val + i.val / 64, by omega⟩ ⟨i.val % 64, by omega⟩ ⟨j.val % 64, by omega⟩ else 0)
variable (h5 : ∀ (k : Fin 2) (i j : Fin 256), x5 (ix3 k i j) = if i.val / 64 = j.val / 64 then W.mi ⟨4 * k.val + i.val / 64, by omega⟩ ⟨i.val % 64, by omega⟩ ⟨j.val % 64, by omega⟩ else 0)
variable (h6 : ∀ c : Fin 512, x6 (ix2 0 c) = W.br c) (h7 : ∀ c : Fin 512, x7 (ix2 0 c) = W.bi c) (h8 : ∀ c : Fin 512, x8 (ix2 0 c) = W.L c)

include hB h2 h3 in
/-- The tile's convolution. -/
theorem conv_tile (r : Fin 640) (c : Fin 512) : conv (F := Ideal) B x2 x3 (ix2 r c) = RecRow.conv W x (640 * p.val + r.val) c := by
  have n (k : Fin 4) (o : ℕ) (ho : o + r.val < 648) : B (ix2 ⟨o + r.val, ho⟩ c) = x (640 * p.val + r.val + o) c := by
    rw [hB]
    refine congrArg (fun q => x q c) ?_
    show 640 * p.val + (o + r.val) = _
    omega
  rw [conv_raw, h3, h2, h2, h2, h2, n 0, n 1, n 2, n 3]
  rfl

include hB h2 h3 h4 h6 in
/-- The tile's recurrence gate. -/
theorem rgate_tile (r : Fin 640) (c : Fin 512) : rgate (F := Ideal) B x2 x3 x4 x6 (ix2 r c) = RecRow.gate W.mr W.br (RecRow.conv W x (640 * p.val + r.val)) c := by
  rw [gate_raw B x2 x3 r c x4 x6 W.mr h4, funext h6, funext (conv_tile W x p B x2 x3 hB h2 h3 r)]

include hB h2 h3 h5 h7 in
/-- The tile's input gate. -/
theorem igate_tile (r : Fin 640) (c : Fin 512) : igate (F := Ideal) B x2 x3 x5 x7 (ix2 r c) = RecRow.gate W.mi W.bi (RecRow.conv W x (640 * p.val + r.val)) c := by
  rw [igate_eq, gate_raw B x2 x3 r c x5 x7 W.mi h5, funext h7, funext (conv_tile W x p B x2 x3 hB h2 h3 r)]

include hB h2 h3 h4 h6 h8 in
/-- The tile's decays. -/
theorem decay_tile (r : Fin 640) (c : Fin 512) : k0_pay13 (F := Ideal) (rgate (F := Ideal) B x2 x3 x4 x6) x8 (ix2 r c) = RecRow.decay W x (640 * p.val + r.val) c := by
  rw [decay_at, rgate_tile W x p B x2 x3 x4 x6 hB h2 h3 h4 h6, h8]
  rfl

include hB h2 h3 h4 h5 h6 h7 h8 in
/-- What the tile's rows add to the state. -/
theorem input_tile (r : Fin 640) (c : Fin 512) :
    input (F := Ideal) (BitVec.ofNat 32 p.val) (conv (F := Ideal) B x2 x3) (rgate (F := Ideal) B x2 x3 x4 x6) (igate (F := Ideal) B x2 x3 x5 x7) x8 (ix2 r c)
      = RecRow.inp W x (640 * p.val + r.val) c := by
  rw [input_at, conv_tile W x p B x2 x3 hB h2 h3, rgate_tile W x p B x2 x3 x4 x6 hB h2 h3 h4 h6, igate_tile W x p B x2 x3 x5 x7 hB h2 h3 h5 h7, h8]
  rfl

include hB h2 h3 h4 h5 h6 h7 h8 in
/-- The tile's states, from the state before it. -/
theorem state_tile (h : FVec Ideal S1x512 .f32) (hh : ∀ c : Fin 512, h (ix2 0 c) = if p.val = 0 then 0 else RecRow.state W x (640 * p.val - 1) c)
    (r : Fin 640) (c : Fin 512) :
    k0_pay36 (F := Ideal)
      (fullU (F := Ideal) (k0_pay13 (F := Ideal) (rgate (F := Ideal) B x2 x3 x4 x6) x8)
        (input (F := Ideal) (BitVec.ofNat 32 p.val) (conv (F := Ideal) B x2 x3) (rgate (F := Ideal) B x2 x3 x4 x6) (igate (F := Ideal) B x2 x3 x5 x7) x8))
      (fullA (F := Ideal) (k0_pay13 (F := Ideal) (rgate (F := Ideal) B x2 x3 x4 x6) x8)) h (ix2 r c)
      = RecRow.state W x (640 * p.val + r.val) c := by
  have ha (q : Fin 640) := decay_tile W x p B x2 x3 x4 x6 x8 hB h2 h3 h4 h6 h8 q
  have hu (q : Fin 640) := input_tile W x p B x2 x3 x4 x5 x6 x7 x8 hB h2 h3 h4 h5 h6 h7 h8 q
  have h0 (y : S640x512.Idx) : 0 ≤ k0_pay13 (F := Ideal) (rgate (F := Ideal) B x2 x3 x4 x6) x8 y := by
    obtain ⟨q, e, rfl⟩ : ∃ (q : Fin 640) (e : Fin 512), ix2 q e = y := ⟨y 0, y 1, by funext k; fin_cases k <;> rfl⟩
    rw [ha]
    exact RecRow.decay_nonneg _ _ _ _
  have h1 (y : S640x512.Idx) : k0_pay13 (F := Ideal) (rgate (F := Ideal) B x2 x3 x4 x6) x8 y ≠ ⊤ := by
    obtain ⟨q, e, rfl⟩ : ∃ (q : Fin 640) (e : Fin 512), ix2 q e = y := ⟨y 0, y 1, by funext k; fin_cases k <;> rfl⟩
    rw [ha]
    exact RecRow.decay_ne_top _ _ _ _
  rw [states_at _ _ h0 h1, hh]
  have e : RecScan.run (col (k0_pay13 (F := Ideal) (rgate (F := Ideal) B x2 x3 x4 x6) x8) c)
      (col (input (F := Ideal) (BitVec.ofNat 32 p.val) (conv (F := Ideal) B x2 x3) (rgate (F := Ideal) B x2 x3 x4 x6) (igate (F := Ideal) B x2 x3 x5 x7) x8) c)
      (if p.val = 0 then 0 else RecRow.state W x (640 * p.val - 1) c) r.val
      = RecScan.run (fun n => RecRow.decay W x (640 * p.val + n) c) (fun n => RecRow.inp W x (640 * p.val + n) c)
        (if p.val = 0 then 0 else RecRow.state W x (640 * p.val - 1) c) r.val := by
    refine RecScan.run_congr (fun n hn => ?_) (fun n hn => ?_)
    · exact (col_at _ c ⟨n, by omega⟩).symm.trans (ha ⟨n, by omega⟩ c)
    · exact (col_at _ c ⟨n, by omega⟩).symm.trans (hu ⟨n, by omega⟩ c)
  rw [e]
  by_cases hp : p.val = 0
  · rw [if_pos hp, hp]
    unfold RecRow.state
    simp only [Nat.mul_zero, Nat.zero_add]
  · rw [if_neg hp]
    have o : 640 * p.val = 640 * p.val - 1 + 1 := by omega
    unfold RecRow.state
    have s := RecScan.run_shift (fun n => RecRow.decay W x n c) (fun n => RecRow.inp W x n c) 0 (640 * p.val - 1) r.val
    rw [← o] at s
    exact s
end

end Cert.Rec

end
-- ==== Proof.RecHost.lean ====
/- What the recurrent branch finds in the arrays that host code prepares. -/
module

public import proofs.«01_k».proof.Proof.InTile
public import proofs.«01_k».proof.Proof.Gen.Kernel5Ideal.Value
public import Idealize.ShloMosaic.Lib.Claim
public import Idealize.ShloMosaic.Lib.StableHlo.ReadAt
public import Idealize.ShloMosaic.Lib.Pipeline.ValueKit.Point

@[expose] public section

noncomputable section

namespace Cert.Rec

open Cert.Kernel5Ideal Cert.Kernel5Ideal.Gen Idealize.ShloMosaic Idealize.ShloMosaic.TcCoe Idealize.SL.Sem
open scoped BigOperators

variable (m : (ℓ : Loc nD τ sig) → Buf (Elt Ideal) ℓ)

/-- The branch's input, with 112 rows of zeros in front. -/
theorem input_entry (c : Dev nD) (b : Fin 4) (s : Fin 8320) (j : Fin 512) :
    V m c main_v0 (ix3 b s j) = InTile.padded (fun b s j => m ((c : Thread nD τ).loc main_arg0) (ix3 b s j)) b s j := by
  unfold V
  simp only [hostOps0, hostOps0_1, hostOps0_2, hostOps0_3, hostOps0_4, List.flatten_cons, List.flatten_nil,
    List.append_nil, List.cons_append, List.nil_append]
  after_reads_at
  unfold InTile.padded
  have hs : s.val - 112 < 8208 := by omega
  by_cases h : 112 ≤ s.val
  · rw [dif_pos h]
    first
      | rw [dif_pos ⟨h, hs⟩]
      | rw [dif_pos h]
  · rw [dif_neg h]
    first
      | rw [dif_neg (fun e => h e.1)]
      | rw [dif_neg h]
    simp [FloatOps.sitofp]

/-- The gate, with 112 rows of zeros in front. -/
theorem gate_entry (c : Dev nD) (b : Fin 4) (s : Fin 8320) (j : Fin 512) :
    V m c main_v1 (ix3 b s j) = InTile.padded (fun b s j => m ((c : Thread nD τ).loc main_arg1) (ix3 b s j)) b s j := by
  unfold V
  simp only [hostOps0, hostOps0_1, hostOps0_2, hostOps0_3, hostOps0_4, List.flatten_cons, List.flatten_nil,
    List.append_nil, List.cons_append, List.nil_append]
  after_reads_at
  unfold InTile.padded
  have hs : s.val - 112 < 8208 := by omega
  by_cases h : 112 ≤ s.val
  · rw [dif_pos h]
    first
      | rw [dif_pos ⟨h, hs⟩]
      | rw [dif_pos h]
  · rw [dif_neg h]
    first
      | rw [dif_neg (fun e => h e.1)]
      | rw [dif_neg h]
    simp [FloatOps.sitofp]

/-- The taps are the second layer's. -/
theorem taps_entry (c : Dev nD) (k : Fin 4) (j : Fin 512) : V m c main_v3 (ix2 k j) = m ((c : Thread nD τ).loc main_arg2) (ix3 1 k j) := by
  unfold V
  simp only [hostOps0, hostOps0_1, hostOps0_2, hostOps0_3, hostOps0_4, List.flatten_cons, List.flatten_nil,
    List.append_nil, List.cons_append, List.nil_append]
  after_reads_at

/-- The second layer's row of an argument. -/
theorem bias_entry (c : Dev nD) (j : Fin 512) : V m c main_v6 (ix2 0 j) = m ((c : Thread nD τ).loc main_arg3) (ix2 1 j) := by
  unfold V
  simp only [hostOps0, hostOps0_1, hostOps0_2, hostOps0_3, hostOps0_4, List.flatten_cons, List.flatten_nil,
    List.append_nil, List.cons_append, List.nil_append]
  after_reads_at

/-- The second layer's row of an argument. -/
theorem rbias_entry (c : Dev nD) (j : Fin 512) : V m c main_v43 (ix2 0 j) = m ((c : Thread nD τ).loc main_arg5) (ix2 1 j) := by
  unfold V
  simp only [hostOps0, hostOps0_1, hostOps0_2, hostOps0_3, hostOps0_4, List.flatten_cons, List.flatten_nil,
    List.append_nil, List.cons_append, List.nil_append]
  after_reads_at

/-- The second layer's row of an argument. -/
theorem ibias_entry (c : Dev nD) (j : Fin 512) : V m c main_v46 (ix2 0 j) = m ((c : Thread nD τ).loc main_arg7) (ix2 1 j) := by
  unfold V
  simp only [hostOps0, hostOps0_1, hostOps0_2, hostOps0_3, hostOps0_4, List.flatten_cons, List.flatten_nil,
    List.append_nil, List.cons_append, List.nil_append]
  after_reads_at

/-- The second layer's row of an argument. -/
theorem rate_entry (c : Dev nD) (j : Fin 512) : V m c main_v49 (ix2 0 j) = m ((c : Thread nD τ).loc main_arg8) (ix2 1 j) := by
  unfold V
  simp only [hostOps0, hostOps0_1, hostOps0_2, hostOps0_3, hostOps0_4, List.flatten_cons, List.flatten_nil,
    List.append_nil, List.cons_append, List.nil_append]
  after_reads_at

/-- The second layer's row of an argument. -/
theorem gain_entry (c : Dev nD) (j : Fin 512) : V m c main_v52 (ix2 0 j) = m ((c : Thread nD τ).loc main_arg9) (ix2 1 j) := by
  unfold V
  simp only [hostOps0, hostOps0_1, hostOps0_2, hostOps0_3, hostOps0_4, List.flatten_cons, List.flatten_nil,
    List.append_nil, List.cons_append, List.nil_append]
  after_reads_at

/-- One where two blocks' numbers are equal. -/
theorem same_eq : ∀ i j : Fin 4, IntOp.cmpi .eq (IntOp.addi (BitVec.ofNat 32 i.val) 0#32) (BitVec.ofNat 32 j.val) = if i.val = j.val then 1#1 else 0#1 := by decide +kernel

/-- A number times a truth value. -/
theorem half_at (w : EReal) (a b : Fin 4) :
    w * FloatOps.uitofp (F := Ideal) .f32 (IntOp.cmpi .eq (IntOp.addi (BitVec.ofNat 32 a.val) 0#32) (BitVec.ofNat 32 b.val)) = if a.val = b.val then w else 0 := by
  rw [same_eq]
  by_cases h : a.val = b.val
  · rw [if_pos h, if_pos h]
    have e : FloatOps.uitofp (F := Ideal) .f32 1#1 = (1 : EReal) := by simp [FloatOps.uitofp]
    rw [e, mul_one]
  · rw [if_neg h, if_neg h]
    have e : FloatOps.uitofp (F := Ideal) .f32 0#1 = (0 : EReal) := by simp [FloatOps.uitofp]
    rw [e, mul_zero]

/-- A gate's weights, one half of the blocks on the diagonal of a square. -/
theorem rhalf_entry (c : Dev nD) (k : Fin 2) (i j : Fin 256) : V m c main_v23 (ix3 k i j)
    = if i.val / 64 = j.val / 64 then m ((c : Thread nD τ).loc main_arg4) (ix4 1 ⟨4 * k.val + i.val / 64, by omega⟩ ⟨i.val % 64, by omega⟩ ⟨j.val % 64, by omega⟩) else (0 : EReal) := by
  unfold V
  simp only [hostOps0, hostOps0_1, hostOps0_2, hostOps0_3, hostOps0_4, List.flatten_cons, List.flatten_nil,
    List.append_nil, List.cons_append, List.nil_append]
  after_reads_at
  pointwise
  refine (half_at _ ⟨i.val / 64, by omega⟩ ⟨j.val / 64, by omega⟩).trans (ite_congr rfl (fun _ => ?_) fun _ => rfl)
  refine congrArg (fun q : Fin 8 => m ((c : Thread nD τ).loc main_arg4) (ix4 1 q ⟨i.val % 64, by omega⟩ ⟨j.val % 64, by omega⟩)) (Fin.ext ?_)
  show k.val * 4 + i.val / 64 = 4 * k.val + i.val / 64
  omega

/-- A gate's weights, one half of the blocks on the diagonal of a square. -/
theorem ihalf_entry (c : Dev nD) (k : Fin 2) (i j : Fin 256) : V m c main_v40 (ix3 k i j)
    = if i.val / 64 = j.val / 64 then m ((c : Thread nD τ).loc main_arg6) (ix4 1 ⟨4 * k.val + i.val / 64, by omega⟩ ⟨i.val % 64, by omega⟩ ⟨j.val % 64, by omega⟩) else (0 : EReal) := by
  unfold V
  simp only [hostOps0, hostOps0_1, hostOps0_2, hostOps0_3, hostOps0_4, List.flatten_cons, List.flatten_nil,
    List.append_nil, List.cons_append, List.nil_append]
  after_reads_at
  pointwise
  refine (half_at _ ⟨i.val / 64, by omega⟩ ⟨j.val / 64, by omega⟩).trans (ite_congr rfl (fun _ => ?_) fun _ => rfl)
  refine congrArg (fun q : Fin 8 => m ((c : Thread nD τ).loc main_arg6) (ix4 1 q ⟨i.val % 64, by omega⟩ ⟨j.val % 64, by omega⟩)) (Fin.ext ?_)
  show k.val * 4 + i.val / 64 = 4 * k.val + i.val / 64
  omega

end Cert.Rec

end
-- ==== Proof.RecArray.lean ====
/- What each input block of the recurrent branch holds in terms of the arguments, what its grid points leave one after the
   other, and so its result array. -/
module

public import proofs.«01_k».proof.Proof.RecBlock
public import proofs.«01_k».proof.Proof.RecTile
public import proofs.«01_k».proof.Proof.RecHost
public import Idealize.ShloMosaic.Lib.Claim
public import Idealize.ShloMosaic.Lib.Pipeline.ValueKit.Point

@[expose] public section

noncomputable section

namespace Cert.Rec

open Cert.Kernel5Ideal Cert.Kernel5Ideal.Gen Idealize.ShloMosaic Idealize.ShloMosaic.TcCoe Idealize.SL.Sem
open scoped BigOperators

/-- A batch's rows, with 120 rows of zeros in front. -/
def ahead (f : Fin 4 → Fin 8208 → Fin 512 → EReal) (b : Fin 4) (n : ℕ) (e : Fin 512) : EReal :=
  if h : 120 ≤ n ∧ n < 8328 then f b ⟨n - 120, by omega⟩ e else 0

/-- The recurrent branch: zero in the 112 rows of padding, then the gated and normalised states. -/
def branch (W : RecRow.Wts) (x g : Fin 4 → Fin 8208 → Fin 512 → EReal) (k : Fin 512 → EReal) (b : Fin 4) (s : Fin 8208) (e : Fin 512) : EReal :=
  RecRow.fin (RecRow.state W (ahead x b) (112 + s.val)) (g b s) k e

/-- A padded row is one of the rows with zeros in front. -/
theorem padded_ahead (f : Fin 4 → Fin 8208 → Fin 512 → EReal) (b : Fin 4) (s : Fin 8320) (e : Fin 512) :
    InTile.padded f b s e = ahead f b (s.val + 8) e := by
  unfold InTile.padded ahead
  by_cases h : 112 ≤ s.val
  · rw [dif_pos h, dif_pos ⟨by omega, by omega⟩]
    refine congrArg (fun q => f b q e) (Fin.ext ?_)
    show s.val - 112 = s.val + 8 - 120
    omega
  · rw [dif_neg h, dif_neg (by omega)]

variable (m : (ℓ : Loc nD τ sig) → Buf (Elt Ideal) ℓ)

/-- A grid point's batch. -/
abbrev bat (t : Fin cfg0.N) : Fin 4 := ⟨t.val / 13, by have : t.val < 52 := t.isLt; omega⟩
/-- A grid point's tile of 640 rows. -/
abbrev til (t : Fin cfg0.N) : Fin 13 := ⟨t.val % 13, by omega⟩

/-- A grid point's second coordinate is its tile. -/
theorem coord1 : ∀ t : Fin cfg0.N, (grid0.coords t 1).val = t.val % 13 := by decide +kernel
/-- The input's rows. -/
theorem index0 : ∀ t : Fin cfg0.N, win0_0.index t = ![t.val / 13, t.val % 13, 0] := by decide +kernel
/-- The gate's rows. -/
theorem index1 : ∀ t : Fin cfg0.N, win0_1.index t = ![t.val / 13, t.val % 13, 0] := by decide +kernel
/-- The result's rows. -/
theorem index10 : ∀ t : Fin cfg0.N, win0_10.index t = ![t.val / 13, t.val % 13, 0] := by decide +kernel
/-- The taps. -/
theorem index2 : ∀ t : Fin cfg0.N, win0_2.index t = ![0, 0] := by decide +kernel
/-- The taps' bias. -/
theorem index3 : ∀ t : Fin cfg0.N, win0_3.index t = ![0, 0] := by decide +kernel
/-- The recurrence gate's weights. -/
theorem index4 : ∀ t : Fin cfg0.N, win0_4.index t = ![0, 0, 0] := by decide +kernel
/-- The input gate's weights. -/
theorem index5 : ∀ t : Fin cfg0.N, win0_5.index t = ![0, 0, 0] := by decide +kernel
/-- The recurrence gate's bias. -/
theorem index6 : ∀ t : Fin cfg0.N, win0_6.index t = ![0, 0] := by decide +kernel
/-- The input gate's bias. -/
theorem index7 : ∀ t : Fin cfg0.N, win0_7.index t = ![0, 0] := by decide +kernel
/-- The decay's parameter. -/
theorem index8 : ∀ t : Fin cfg0.N, win0_8.index t = ![0, 0] := by decide +kernel
/-- The gains. -/
theorem index9 : ∀ t : Fin cfg0.N, win0_9.index t = ![0, 0] := by decide +kernel

/-- The branch's weights: the second layer's. -/
def wts (c : Dev nD) : RecRow.Wts where
  w := fun k e => m ((c : Thread nD τ).loc main_arg2) (ix3 1 k e)
  cb := fun e => m ((c : Thread nD τ).loc main_arg3) (ix2 1 e)
  mr := fun k i j => m ((c : Thread nD τ).loc main_arg4) (ix4 1 k i j)
  mi := fun k i j => m ((c : Thread nD τ).loc main_arg6) (ix4 1 k i j)
  br := fun e => m ((c : Thread nD τ).loc main_arg5) (ix2 1 e)
  bi := fun e => m ((c : Thread nD τ).loc main_arg7) (ix2 1 e)
  L := fun e => m ((c : Thread nD τ).loc main_arg8) (ix2 1 e)

/-- The input, by batch, row and channel. -/
abbrev xs (c : Dev nD) : Fin 4 → Fin 8208 → Fin 512 → EReal := fun b s j => m ((c : Thread nD τ).loc main_arg0) (ix3 b s j)
/-- The gate, by batch, row and channel. -/
abbrev gt (c : Dev nD) : Fin 4 → Fin 8208 → Fin 512 → EReal := fun b s j => m ((c : Thread nD τ).loc main_arg1) (ix3 b s j)
/-- The second layer's gains. -/
abbrev ks (c : Dev nD) : Fin 512 → EReal := fun e => m ((c : Thread nD τ).loc main_arg9) (ix2 1 e)

/-- The input's block. -/
theorem block0 (c : Dev nD) (t : Fin cfg0.N) (r : Fin 640) (j : Fin 512) :
    iblk m c 0 t (ix3 0 r j) = InTile.padded (xs m c) (bat t) (InTile.at_ (til t) r) j := by
  refine Eq.trans ?_ (input_entry m c (bat t) (InTile.at_ (til t) r) j)
  blk_ext [iblk, index0 t]

/-- The gate's block. -/
theorem block1 (c : Dev nD) (t : Fin cfg0.N) (r : Fin 640) (j : Fin 512) :
    iblk m c 1 t (ix3 0 r j) = InTile.padded (gt m c) (bat t) (InTile.at_ (til t) r) j := by
  refine Eq.trans ?_ (gate_entry m c (bat t) (InTile.at_ (til t) r) j)
  blk_ext [iblk, index1 t]

/-- The taps' block. -/
theorem block2 (c : Dev nD) (t : Fin cfg0.N) (k : Fin 4) (j : Fin 512) : iblk m c 2 t (ix2 k j) = (wts m c).w k j := by
  refine Eq.trans ?_ (taps_entry m c k j)
  blk_ext [iblk, index2 t]

/-- The block of the taps' bias. -/
theorem block3 (c : Dev nD) (t : Fin cfg0.N) (j : Fin 512) : iblk m c 3 t (ix2 0 j) = (wts m c).cb j := by
  refine Eq.trans ?_ (bias_entry m c j)
  blk_ext [iblk, index3 t]

/-- The recurrence gate's bias block. -/
theorem block6 (c : Dev nD) (t : Fin cfg0.N) (j : Fin 512) : iblk m c 6 t (ix2 0 j) = (wts m c).br j := by
  refine Eq.trans ?_ (rbias_entry m c j)
  blk_ext [iblk, index6 t]

/-- The input gate's bias block. -/
theorem block7 (c : Dev nD) (t : Fin cfg0.N) (j : Fin 512) : iblk m c 7 t (ix2 0 j) = (wts m c).bi j := by
  refine Eq.trans ?_ (ibias_entry m c j)
  blk_ext [iblk, index7 t]

/-- The decay's parameter block. -/
theorem block8 (c : Dev nD) (t : Fin cfg0.N) (j : Fin 512) : iblk m c 8 t (ix2 0 j) = (wts m c).L j := by
  refine Eq.trans ?_ (rate_entry m c j)
  blk_ext [iblk, index8 t]

/-- The gains block. -/
theorem block9 (c : Dev nD) (t : Fin cfg0.N) (j : Fin 512) : iblk m c 9 t (ix2 0 j) = ks m c j := by
  refine Eq.trans ?_ (gain_entry m c j)
  blk_ext [iblk, index9 t]

/-- The block of the recurrence gate's weights. -/
theorem block4 (c : Dev nD) (t : Fin cfg0.N) (k : Fin 2) (i j : Fin 256) : iblk m c 4 t (ix3 k i j)
    = if i.val / 64 = j.val / 64 then (wts m c).mr ⟨4 * k.val + i.val / 64, by omega⟩ ⟨i.val % 64, by omega⟩ ⟨j.val % 64, by omega⟩ else (0 : EReal) := by
  refine Eq.trans ?_ (rhalf_entry m c k i j)
  blk_ext [iblk, index4 t]

/-- The block of the input gate's weights. -/
theorem block5 (c : Dev nD) (t : Fin cfg0.N) (k : Fin 2) (i j : Fin 256) : iblk m c 5 t (ix3 k i j)
    = if i.val / 64 = j.val / 64 then (wts m c).mi ⟨4 * k.val + i.val / 64, by omega⟩ ⟨i.val % 64, by omega⟩ ⟨j.val % 64, by omega⟩ else (0 : EReal) := by
  refine Eq.trans ?_ (ihalf_entry m c k i j)
  blk_ext [iblk, index5 t]

/-- The buffer's rows, when its first eight are the eight rows before the tile. -/
theorem buf_at (t : Fin cfg0.N) (c : Dev nD) (h : Vec Ideal S8x512 .f32)
    (hh : ∀ (k : Fin 8) (e : Fin 512), h (ix2 k e) = ahead (xs m c) (bat t) (640 * (til t).val + k.val) e) (j : Fin 648) (e : Fin 512) :
    buf h (iblk m c 0 t) (ix2 j e) = ahead (xs m c) (bat t) (640 * (til t).val + j.val) e := by
  unfold buf
  by_cases hj : j.val < 8
  · rw [dif_pos (show ((ix2 j e : S648x512.Idx) 0).val < 8 from hj)]
    exact hh ⟨j.val, hj⟩ e
  · rw [dif_neg (show ¬((ix2 j e : S648x512.Idx) 0).val < 8 from hj)]
    refine (block0 m c t ⟨j.val - 8, by omega⟩ e).trans ((padded_ahead _ _ _ _).trans (congrArg (fun q => ahead (xs m c) (bat t) q e) ?_))
    show 640 * (t.val % 13) + (j.val - 8) + 8 = 640 * (t.val % 13) + j.val
    omega

/-- What a grid point leaves: the result, the tile's last eight rows in front of the buffer, the last state. -/
def Left (c : Dev nD) (t : Fin cfg0.N) (o : Vec Ideal S1x640x512 .bf16 × Vec Ideal S648x512 .f32 × Vec Ideal S1x512 .f32) : Prop :=
  (∀ (r : Fin 640) (e : Fin 512), o.1 (ix3 0 r e) = RecRow.fin (RecRow.state (wts m c) (ahead (xs m c) (bat t)) (640 * (til t).val + r.val))
      (fun e => InTile.padded (gt m c) (bat t) (InTile.at_ (til t) r) e) (ks m c) e)
  ∧ (∀ (k : Fin 8) (e : Fin 512), head o.2.1 (ix2 k e) = ahead (xs m c) (bat t) (640 * ((til t).val + 1) + k.val) e)
  ∧ ∀ e : Fin 512, o.2.2 (ix2 0 e) = RecRow.state (wts m c) (ahead (xs m c) (bat t)) (640 * ((til t).val + 1) - 1) e

/-- What a grid point leaves, from the rows and the state before its tile. -/
theorem left_of (c : Dev nD) (t : Fin cfg0.N) (h8 : Vec Ideal S8x512 .f32) (h : Vec Ideal S1x512 .f32)
    (hh8 : ∀ (k : Fin 8) (e : Fin 512), h8 (ix2 k e) = ahead (xs m c) (bat t) (640 * (til t).val + k.val) e)
    (hh : ∀ e : Fin 512, h (ix2 0 e) = if (til t).val = 0 then 0 else RecRow.state (wts m c) (ahead (xs m c) (bat t)) (640 * (til t).val - 1) e)
    (U A : FVec Ideal S640x512 .f32)
    (hA : A = fullA (F := Ideal) (k0_pay13 (F := Ideal) (rgate (F := Ideal) (buf h8 (iblk m c 0 t)) (iblk m c 2 t) (iblk m c 3 t) (iblk m c 4 t) (iblk m c 6 t)) (iblk m c 8 t)))
    (hU : U = fullU (F := Ideal) (k0_pay13 (F := Ideal) (rgate (F := Ideal) (buf h8 (iblk m c 0 t)) (iblk m c 2 t) (iblk m c 3 t) (iblk m c 4 t) (iblk m c 6 t)) (iblk m c 8 t))
      (input (F := Ideal) (BitVec.ofNat 32 (grid0.coords t 1).val) (conv (F := Ideal) (buf h8 (iblk m c 0 t)) (iblk m c 2 t) (iblk m c 3 t))
        (rgate (F := Ideal) (buf h8 (iblk m c 0 t)) (iblk m c 2 t) (iblk m c 3 t) (iblk m c 4 t) (iblk m c 6 t))
        (igate (F := Ideal) (buf h8 (iblk m c 0 t)) (iblk m c 2 t) (iblk m c 3 t) (iblk m c 5 t) (iblk m c 7 t)) (iblk m c 8 t))) :
    Left m c t (k0_pay38 (F := Ideal) U A h (iblk m c 1 t) (iblk m c 9 t), buf (tail (iblk m c 0 t)) (iblk m c 0 t), k0_pay37 (F := Ideal) U A h) := by
  rw [coord1] at hU
  have hs (r : Fin 640) (e : Fin 512) : k0_pay36 (F := Ideal) U A h (ix2 r e) = RecRow.state (wts m c) (ahead (xs m c) (bat t)) (640 * (til t).val + r.val) e := by
    rw [hU, hA]
    exact state_tile (wts m c) (ahead (xs m c) (bat t)) (til t) (buf h8 (iblk m c 0 t)) (iblk m c 2 t) (iblk m c 3 t) (iblk m c 4 t) (iblk m c 5 t) (iblk m c 6 t) (iblk m c 7 t) (iblk m c 8 t)
      (buf_at m t c h8 hh8) (block2 m c t) (block3 m c t) (block4 m c t) (block5 m c t) (block6 m c t) (block7 m c t) (block8 m c t) h hh r e
  refine ⟨fun r e => ?_, fun k e => ?_, fun e => ?_⟩
  · refine (result_at U A h (iblk m c 1 t) (iblk m c 9 t) r e).trans ?_
    rw [funext (hs r), funext (block1 m c t r), funext (block9 m c t)]
  · show buf (tail (iblk m c 0 t)) (iblk m c 0 t) (ix2 ⟨k.val, by omega⟩ e) = _
    unfold buf
    rw [dif_pos (show ((ix2 (⟨k.val, by omega⟩ : Fin 648) e : S648x512.Idx) 0).val < 8 from k.isLt)]
    refine (block0 m c t ⟨632 + k.val, by omega⟩ e).trans ((padded_ahead _ _ _ _).trans (congrArg (fun q => ahead (xs m c) (bat t) q e) ?_))
    show 640 * (t.val % 13) + (632 + k.val) + 8 = 640 * (t.val % 13 + 1) + k.val
    omega
  · refine (last_at U A h e).trans ((hs 639 e).trans (congrArg (fun q => RecRow.state (wts m c) (ahead (xs m c) (bat t)) q e) ?_))
    show 640 * (t.val % 13) + 639 = 640 * (t.val % 13 + 1) - 1
    omega

/-- The rows before a batch's first tile are zero. -/
theorem zero_rows (k : Fin 8) (e : Fin 512) : k0_pay1 (F := Ideal) (ix2 k e) = 0 := by
  unfold k0_pay1
  pointwise

/-- The state before a batch's first tile is zero. -/
theorem zero_state (e : Fin 512) : k0_pay2 (F := Ideal) (ix2 0 e) = 0 := by
  unfold k0_pay2
  pointwise

/-- What a batch's first grid point leaves. -/
theorem left_first (c : Dev nD) (t : Fin cfg0.N) (h0 : t.val % 13 = 0) : Left m c t (outsAt0 m c t.val t.isLt) := by
  rw [outsAt0_A m c t h0, sout0_A_0_eq, sout0_A_1_eq, out0_A_10_eq]
  refine left_of m c t (k0_pay1 (F := Ideal)) (k0_pay2 (F := Ideal)) (fun k e => ?_) (fun e => ?_) _ _ rfl rfl
  · refine (zero_rows k e).trans ?_
    unfold ahead
    rw [dif_neg (by show ¬(120 ≤ 640 * (t.val % 13) + k.val ∧ _); omega)]
  · rw [if_pos h0]
    exact zero_state e

/-- What a later grid point of a batch leaves. -/
theorem left_later (c : Dev nD) (n : ℕ) (hn : n + 1 < cfg0.N) (h0 : ¬(n + 1) % 13 = 0) (hp : Left m c ⟨n, by omega⟩ (outsAt0 m c n (by omega))) :
    Left m c ⟨n + 1, hn⟩ (outsAt0 m c (n + 1) hn) := by
  have e := outsAt0_B m c ⟨n + 1, hn⟩ h0
  rw [sout0_B_0_eq, sout0_B_1_eq, out0_B_10_eq] at e
  refine Eq.subst (motive := Left m c ⟨n + 1, hn⟩) e.symm ?_
  have hb : bat ⟨n + 1, hn⟩ = bat ⟨n, by omega⟩ := Fin.ext (by show (n + 1) / 13 = n / 13; omega)
  have ht : (til ⟨n + 1, hn⟩).val = (til ⟨n, by omega⟩).val + 1 := by show (n + 1) % 13 = n % 13 + 1; omega
  refine left_of m c ⟨n + 1, hn⟩ _ _ (fun k e => ?_) (fun e => ?_) _ _ rfl rfl
  · rw [hb, ht]
    exact hp.2.1 k e
  · rw [if_neg (show ¬(til ⟨n + 1, hn⟩).val = 0 from h0), hb, ht]
    exact hp.2.2 e

/-- What every grid point leaves. -/
theorem left_all (c : Dev nD) (n : ℕ) (hn : n < cfg0.N) : Left m c ⟨n, hn⟩ (outsAt0 m c n hn) := by
  induction n with
  | zero => exact left_first m c ⟨0, hn⟩ rfl
  | succ n ih =>
    by_cases h0 : (n + 1) % 13 = 0
    · exact left_first m c ⟨n + 1, hn⟩ h0
    · exact left_later m c n hn h0 (ih (by omega))

/-- A tile's result is the branch's padded rows. -/
theorem fin_padded (W : RecRow.Wts) (x g : Fin 4 → Fin 8208 → Fin 512 → EReal) (k : Fin 512 → EReal) (b : Fin 4) (p : Fin 13) (r : Fin 640) (e : Fin 512) :
    RecRow.fin (RecRow.state W (ahead x b) (640 * p.val + r.val)) (fun e => InTile.padded g b (InTile.at_ p r) e) k e
      = InTile.padded (branch W x g k) b (InTile.at_ p r) e := by
  by_cases h : 112 ≤ 640 * p.val + r.val
  · have hr : InTile.padded (branch W x g k) b (InTile.at_ p r) e = branch W x g k b ⟨640 * p.val + r.val - 112, by omega⟩ e := dif_pos h
    have hg : (fun e => InTile.padded g b (InTile.at_ p r) e) = g b ⟨640 * p.val + r.val - 112, by omega⟩ := funext fun e => dif_pos h
    rw [hr, hg]
    unfold branch
    have ho : 112 + (640 * p.val + r.val - 112) = 640 * p.val + r.val := by omega
    rw [show 112 + (⟨640 * p.val + r.val - 112, by omega⟩ : Fin 8208).val = 640 * p.val + r.val from ho]
  · have hr : InTile.padded (branch W x g k) b (InTile.at_ p r) e = 0 := dif_neg h
    rw [hr]
    exact RecRow.fin_zero _ _ _ (fun c => RecRow.state_zero _ _ (by omega) c) e

/-- The whole result array. -/
theorem array10 (c : Dev nD) : (dats m 0 c).arrAt 10 cfg0.N = fun y : S4x8320x512.Idx => InTile.padded (branch (wts m c) (xs m c) (gt m c) (ks m c)) (y 0) (y 1) (y 2) := by
  refine (dats m 0 c).arrAt_eq_of_covers 10 _ (by decide +kernel) fun t hf y => ?_
  change (dats m 0 c).flushed 10 t y = _
  rw [Value.flushed10]
  have hy0 : (y 0).val < 1 := (y 0).isLt
  have hy : ix3 0 (y 1) (y 2) = y := by
    funext a
    match a with
    | ⟨0, _⟩ => exact Fin.ext (by show 0 = (y 0).val; omega)
    | ⟨1, _⟩ => rfl
    | ⟨2, _⟩ => rfl
  have h := ((left_all m c t.val t.isLt).1 (y 1) (y 2)).trans (fin_padded (wts m c) (xs m c) (gt m c) (ks m c) (bat t) (til t) (y 1) (y 2))
  refine ((congrArg _ hy).symm.trans h).trans (InTile.padded_at (n := 512) _ ?_ ?_ ?_)
  · blk_simp [index10 t]
  · refine Eq.trans (b := 640 * (t.val % 13) + (y 1).val) rfl ?_
    blk_simp [index10 t]
    omega
  · blk_simp [index10 t]

end Cert.Rec

end
-- ==== Proof.RecLoop.lean ====
/- What the reference's scan leaves: a row for each step, the recurrence over the decays and the inputs. -/
module

public import proofs.«01_k».proof.Proof.Gen.Reference5Ideal.Run
public import proofs.«01_k».proof.Proof.Gen.Reference5Ideal.Step
public import proofs.«01_k».proof.Proof.RecScan
public import Idealize.ShloMosaic.Lib.Tactic
public import Idealize.ShloMosaic.Lib.WordCmp

@[expose] public section

noncomputable section

namespace Cert.RecRef

open Idealize.ShloMosaic Idealize.ShloMosaic.TcCoe Idealize.SL.Sem Idealize.ShloMosaic.StableHlo
open Cert.Reference5Ideal Cert.Reference5Ideal.Gen Cert.Reference5Ideal.Value

/-- One channel of one batch over the steps. -/
def line (A : FVec Ideal S8208x4x512 .f32) (b : Fin 4) (c : Fin 512) (t : ℕ) : EReal :=
  if h : t < 8208 then A (ix3 ⟨t, h⟩ b c) else 0

/-- A line at one of the array's rows. -/
theorem line_at (A : FVec Ideal S8208x4x512 .f32) (b : Fin 4) (c : Fin 512) (t : Fin 8208) : line A b c t.val = A (ix3 t b c) := by
  unfold line
  rw [dif_pos t.isLt]

/-- What the loop carries before step `k`, of the decays and the inputs it starts with. -/
structure Before (V : Valuation τ sig (Elt Ideal)) (A U : FVec Ideal S8208x4x512 .f32) (k : ℕ) : Prop where
  decay : V (Proc.devRef .tc main_v105_0) = A
  input : V (Proc.devRef .tc main_v105_1) = U
  number : V (Proc.devRef .tc main_v105_2) = constantI S_ 32 (BitVec.ofNat 32 k)
  state : ∀ b c, (V (Proc.devRef .tc main_v105_3) : FVec Ideal S4x512 .f32) (ix2 b c) = if k = 0 then 0 else RecScan.run (line A b c) (line U b c) 0 (k - 1)
  rows : ∀ t b c, t.val < k → (V (Proc.devRef .tc main_v105_4) : FVec Ideal S8208x4x512 .f32) (ix3 t b c) = RecScan.run (line A b c) (line U b c) 0 t.val

/-- The number of a step, as the body's slices read it. -/
theorem number_int (k : ℕ) (hk : k < 8208) : (BitVec.ofNat 32 k).toInt = (k : ℤ) := by
  rw [BitVec.toInt_eq_toNat_of_lt (by rw [BitVec.toNat_ofNat]; omega), BitVec.toNat_ofNat]
  omega

/-- A row of a carried array as the body takes it. -/
theorem slice_at (A : FVec Ideal S8208x4x512 .f32) (k : Fin 8208) (n : (⟨S_, .i32⟩ : BufTy).Contents (Elt Ideal)) (hn : n = constantI S_ 32 (BitVec.ofNat 32 k.val)) (b : Fin 4) (c : Fin 512) :
    shapeCast S4x512 (Host.dynamicSlice S1x4x512 A (fun a => (((![n, constantI S_ 32 0#32, constantI S_ 32 0#32] : Fin 3 → (⟨S_, .i32⟩ : BufTy).Contents (Elt Ideal))) a (Shape.Idx.first h_S_)).toInt) sliceFits_S8208x4x512_S1x4x512) shapeCasts_S1x4x512_S4x512 (ix2 b c)
      = A (ix3 k b c) := by
  have hs : S8208x4x512.Slices ![k.val, 0, 0] S1x4x512 := ⟨rfl, fun a => by
    match a with
    | ⟨0, _⟩ => show k.val + 1 ≤ 8208; omega
    | ⟨1, _⟩ => show 0 + 4 ≤ 4; omega
    | ⟨2, _⟩ => show 0 + 512 ≤ 512; omega⟩
  rw [WordCmp.dynamicSlice_eq_extract S1x4x512 A _ sliceFits_S8208x4x512_S1x4x512 ![k.val, 0, 0] hs (fun a => by
    subst hn
    match a with
    | ⟨0, _⟩ => exact number_int k.val k.isLt
    | ⟨1, _⟩ => rfl
    | ⟨2, _⟩ => rfl)]
  pointwise

/-- The state a step makes. -/
theorem made {V : Valuation τ sig (Elt Ideal)} {A U : FVec Ideal S8208x4x512 .f32} {k : ℕ} (hk : k < 8208) (h : Before V A U k) (b : Fin 4) (c : Fin 512) :
    (res_main_while0b_v141 V : FVec Ideal S4x512 .f32) (ix2 b c) = RecScan.run (line A b c) (line U b c) 0 k := by
  have e1 := slice_at A ⟨k, hk⟩ _ h.number b c
  have e2 := slice_at U ⟨k, hk⟩ _ h.number b c
  have e3 := h.state b c
  have e : (res_main_while0b_v141 V : FVec Ideal S4x512 .f32) (ix2 b c) = A (ix3 ⟨k, hk⟩ b c) * (if k = 0 then 0 else RecScan.run (line A b c) (line U b c) 0 (k - 1)) + U (ix3 ⟨k, hk⟩ b c) := by
    rw [← e1, ← e2, ← e3, ← h.decay, ← h.input]
    unfold res_main_while0b_v141
    rfl
  rw [e, ← line_at A b c ⟨k, hk⟩, ← line_at U b c ⟨k, hk⟩]
  cases k with
  | zero => rfl
  | succ n => rfl

/-- A row of the results after a step. -/
theorem update_at (Y : FVec Ideal S8208x4x512 .f32) (x : FVec Ideal S4x512 .f32) (k : Fin 8208) (n : (⟨S_, .i32⟩ : BufTy).Contents (Elt Ideal)) (hn : n = constantI S_ 32 (BitVec.ofNat 32 k.val)) (t : Fin 8208) (b : Fin 4) (c : Fin 512) :
    Host.dynamicUpdateSlice Y (broadcastInDim S1x4x512 ![1, 2] bcast_S4x512_S1x4x512_1_2 x) (fun a => (((![n, constantI S_ 32 0#32, constantI S_ 32 0#32] : Fin 3 → (⟨S_, .i32⟩ : BufTy).Contents (Elt Ideal))) a (Shape.Idx.first h_S_)).toInt) updateFits_S8208x4x512_S1x4x512 (ix3 t b c)
      = if t = k then x (ix2 b c) else Y (ix3 t b c) := by
  have hs : S8208x4x512.Slices ![k.val, 0, 0] S1x4x512 := ⟨rfl, fun a => by
    match a with
    | ⟨0, _⟩ => show k.val + 1 ≤ 8208; omega
    | ⟨1, _⟩ => show 0 + 4 ≤ 4; omega
    | ⟨2, _⟩ => show 0 + 512 ≤ 512; omega⟩
  rw [WordCmp.dynamicUpdateSlice_eq_update Y _ _ updateFits_S8208x4x512_S1x4x512 ![k.val, 0, 0] hs (fun a => by
    subst hn
    match a with
    | ⟨0, _⟩ => exact number_int k.val k.isLt
    | ⟨1, _⟩ => rfl
    | ⟨2, _⟩ => rfl)]
  unfold updateSlice
  by_cases ht : t = k
  · rw [if_pos ht, dif_pos (fun a => by
      subst ht
      match a with
      | ⟨0, _⟩ => exact ⟨le_rfl, show t.val < t.val + 1 by omega⟩
      | ⟨1, _⟩ => exact ⟨Nat.zero_le _, show b.val < 0 + 4 by omega⟩
      | ⟨2, _⟩ => exact ⟨Nat.zero_le _, show c.val < 0 + 512 by omega⟩)]
    refine congrArg x (funext fun a => Fin.ext ?_)
    match a with
    | ⟨0, _⟩ => rfl
    | ⟨1, _⟩ => rfl
  · rw [if_neg ht, dif_neg (fun hh => ht (Fin.ext (by
      have := hh 0
      have h1 : k.val ≤ t.val := this.1
      have h2 : t.val < k.val + 1 := this.2
      omega)))]

/-- One step keeps the description. -/
theorem next {V : Valuation τ sig (Elt Ideal)} {A U : FVec Ideal S8208x4x512 .f32} {k : ℕ} (hk : k < 8208) (h : Before V A U k) : Before (STEP V) A U (k + 1) where
  decay := (STEP_main_v105_0 V).trans h.decay
  input := (STEP_main_v105_1 V).trans h.input
  number := by
    refine (STEP_main_v105_2 V).trans ?_
    unfold step_main_v105_2
    rw [h.number]
    funext i
    show BitVec.ofNat 32 k + 1#32 = BitVec.ofNat 32 (k + 1)
    simp only [BitVec.ofNat_add]
  state b c := by
    rw [if_neg (by omega), show k + 1 - 1 = k from rfl, ← made hk h b c]
    exact congrFun (STEP_main_v105_3 V) _
  rows t b c ht := by
    refine (congrFun (STEP_main_v105_4 V) _).trans ?_
    refine (update_at (V (Proc.devRef .tc main_v105_4)) (res_main_while0b_v141 V) ⟨k, hk⟩ _ h.number t b c).trans ?_
    by_cases e : t = ⟨k, hk⟩
    · rw [if_pos e, made hk h b c, e]
    · rw [if_neg e]
      exact h.rows t b c (by have : t.val ≠ k := fun hh => e (Fin.ext hh); omega)

/-- What the loop carries before every step. -/
theorem steps {V : Valuation τ sig (Elt Ideal)} {A U : FVec Ideal S8208x4x512 .f32} (h : Before V A U 0) : ∀ k, k ≤ 8208 → Before (STEP^[k] V) A U k
  | 0, _ => h
  | k + 1, hk => by
    rw [Function.iterate_succ_apply']
    exact next (by omega) (steps h k (by omega))

variable (m : (ℓ : Loc nD τ sig) → Buf (Elt Ideal) ℓ) (c : Dev nD)

/-- The decays the loop starts with, time first. -/
def decays : FVec Ideal S8208x4x512 .f32 := entryContents preI m c (Proc.devRef .tc main_v105_0)

/-- The inputs the loop starts with, time first. -/
def inputs : FVec Ideal S8208x4x512 .f32 := entryContents preI m c (Proc.devRef .tc main_v105_1)

set_option maxRecDepth 65536 in
set_option maxHeartbeats 800000 in
/-- What the loop starts with. -/
theorem start : Before (entryContents preI m c) (decays m c) (inputs m c) 0 where
  decay := rfl
  input := rfl
  number := by
    simp only [entryContents, afterL_cons, afterL_nil]
    after_reads_simp
    rfl
  state b d := by
    rw [if_pos rfl]
    simp only [entryContents, afterL_cons, afterL_nil]
    after_reads_simp
    exact Ideal.ofBits_zero_f32
  rows t _ _ ht := absurd ht (Nat.not_lt_zero _)

/-- The rows the loop leaves. -/
theorem rows_at (t : Fin 8208) (b : Fin 4) (d : Fin 512) :
    (STEP^[8208] (entryContents preI m c) (Proc.devRef .tc main_v105_4) : FVec Ideal S8208x4x512 .f32) (ix3 t b d)
      = RecScan.run (line (decays m c) b d) (line (inputs m c) b d) 0 t.val :=
  (steps (start m c) 8208 le_rfl).rows t b d t.isLt

end Cert.RecRef

end
-- ==== Proof.RecRef.lean ====
/- The elements of what the reference's scan starts with, and of what the operations after it make. -/
module

public import proofs.«01_k».proof.Proof.RecArray
public import proofs.«01_k».proof.Proof.RecLoop

@[expose] public section

noncomputable section

namespace Cert.RecRef

open Idealize.ShloMosaic Idealize.ShloMosaic.TcCoe Idealize.SL.Sem Idealize.ShloMosaic.StableHlo
open Cert.Reference5Ideal Cert.Reference5Ideal.Gen Cert.Reference5Ideal.Value Cert.Reference5Ideal.Step
open Cert.Rec (ahead branch)
open scoped BigOperators

section
variable (x : FVec Ideal S4x8208x512 .f32) (a2 : FVec Ideal S2x4x512 .f32) (a3 : FVec Ideal S2x512 .f32) (a4 : FVec Ideal S2x8x64x64 .f32) (a5 : FVec Ideal S2x512 .f32) (a6 : FVec Ideal S2x8x64x64 .f32) (a7 : FVec Ideal S2x512 .f32) (a8 : FVec Ideal S2x512 .f32)

/-- The branch's weights: the second layer's. -/
def wts : RecRow.Wts where
  w := fun k e => a2 (ix3 1 k e)
  cb := fun e => a3 (ix2 1 e)
  mr := fun k i j => a4 (ix4 1 k i j)
  mi := fun k i j => a6 (ix4 1 k i j)
  br := fun e => a5 (ix2 1 e)
  bi := fun e => a7 (ix2 1 e)
  L := fun e => a8 (ix2 1 e)

/-- The input, by batch, row and channel. -/
def inp (b : Fin 4) (s : Fin 8208) (e : Fin 512) : EReal := x (ix3 b s e)

/-- The input with three rows of zeros in front. -/
theorem padded_at (b : Fin 4) (s : Fin 8211) (e : Fin 512) : A_main_v0 (F := Ideal) x a2 a3 a4 a5 a6 a7 a8 (ix3 b s e) = ahead (inp x) b (117 + s.val) e := by
  unfold A_main_v0 K_main_call0_v0 K_main_c
  pointwise
  unfold ahead
  have hs : s.val - 3 < 8208 := by omega
  by_cases h : 3 ≤ s.val
  · rw [dif_pos (show 120 ≤ 117 + s.val ∧ 117 + s.val < 8328 by omega)]
    first
      | rw [dif_pos ⟨h, hs⟩]
      | rw [dif_pos h]
    refine congrArg (fun q => inp x b q e) (Fin.ext ?_)
    show s.val - 3 = 117 + s.val - 120
    omega
  · rw [dif_neg (show ¬(120 ≤ 117 + s.val ∧ 117 + s.val < 8328) by omega)]
    first
      | rw [dif_neg (fun e => h e.1)]
      | rw [dif_neg h]
    simp [FloatOps.sitofp]

/-- The convolution. -/
theorem conv_at (b : Fin 4) (s : Fin 8208) (e : Fin 512) : A_main_v42 (F := Ideal) x a2 a3 a4 a5 a6 a7 a8 (ix3 b s e)
    = RecRow.conv (wts a2 a3 a4 a5 a6 a7 a8) (ahead (inp x) b) (112 + s.val) e := by
  unfold A_main_v42 A_main_v41 A_main_v40 A_main_v39 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v8 A_main_v7 A_main_v6 A_main_v5 A_main_v4 A_main_v3 A_main_v2 A_main_v1 K_main_v9 K_main_cst
  pointwise
  simp only [padded_at]
  have h1 : 117 + (1 + s.val) = 112 + s.val + 6 := by omega
  have h2 : 117 + (2 + s.val) = 112 + s.val + 7 := by omega
  have h3 : 117 + (3 + s.val) = 112 + s.val + 8 := by omega
  have h0 : 117 + s.val = 112 + s.val + 5 := by omega
  rw [h1, h2, h3, h0]
  unfold RecRow.conv wts
  simp only [mul_comm (ahead _ _ _ _)]
  rw [add_comm _ (a3 _)]
  simp only [← add_assoc]

/-- The recurrence gate. -/
theorem rgate_at (b : Fin 4) (s : Fin 8208) (e : Fin 512) : A_main_v59 (F := Ideal) x a2 a3 a4 a5 a6 a7 a8 (ix3 b s e)
    = RecRow.gate (wts a2 a3 a4 a5 a6 a7 a8).mr (wts a2 a3 a4 a5 a6 a7 a8).br (RecRow.conv (wts a2 a3 a4 a5 a6 a7 a8) (ahead (inp x) b) (112 + s.val)) e := by
  unfold A_main_v59 A_main_v57 A_main_v55 A_main_v54 A_main_v53 A_main_v52 A_main_v51 A_main_v50 A_main_v49 A_main_v48 A_main_v47 A_main_v46 A_main_v45 A_main_v44 A_main_v43 K_main_v58 K_main_cst_1 K_main_v56 K_main_cst_0
  pointwise
  simp only [conv_at]
  unfold RecRow.gate
  refine congrArg (fun q => Ideal.logistic (q + a5 (ix2 1 e))) (Finset.sum_congr rfl fun d _ => (mul_comm _ _).trans ?_)
  refine congrArg (fun q => RecRow.conv (wts a2 a3 a4 a5 a6 a7 a8) (ahead (inp x) b) (112 + s.val) q * _) (Fin.ext ?_)
  show e.val / 64 * 64 + d.val = 64 * (e.val / 64) + d.val
  omega

/-- The input gate. -/
theorem igate_at (b : Fin 4) (s : Fin 8208) (e : Fin 512) : A_main_v75 (F := Ideal) x a2 a3 a4 a5 a6 a7 a8 (ix3 b s e)
    = RecRow.gate (wts a2 a3 a4 a5 a6 a7 a8).mi (wts a2 a3 a4 a5 a6 a7 a8).bi (RecRow.conv (wts a2 a3 a4 a5 a6 a7 a8) (ahead (inp x) b) (112 + s.val)) e := by
  unfold A_main_v75 A_main_v73 A_main_v71 A_main_v70 A_main_v69 A_main_v68 A_main_v67 A_main_v66 A_main_v65 A_main_v64 A_main_v63 A_main_v62 A_main_v61 A_main_v60 A_main_v43 K_main_v74 K_main_cst_3 K_main_v72 K_main_cst_2
  pointwise
  simp only [conv_at]
  unfold RecRow.gate
  refine congrArg (fun q => Ideal.logistic (q + a7 (ix2 1 e))) (Finset.sum_congr rfl fun d _ => (mul_comm _ _).trans ?_)
  refine congrArg (fun q => RecRow.conv (wts a2 a3 a4 a5 a6 a7 a8) (ahead (inp x) b) (112 + s.val) q * _) (Fin.ext ?_)
  show e.val / 64 * 64 + d.val = 64 * (e.val / 64) + d.val
  omega

/-- The decay's exponent. -/
theorem rate_at (b : Fin 4) (s : Fin 8208) (e : Fin 512) : A_main_v85 (F := Ideal) x a2 a3 a4 a5 a6 a7 a8 (ix3 b s e)
    = RecRow.rate (wts a2 a3 a4 a5 a6 a7 a8) (ahead (inp x) b) (112 + s.val) e := by
  unfold A_main_v85 A_main_v84 A_main_v83 A_main_v82 A_main_v81 A_main_call1_v11 A_main_call1_v10 A_main_call1_v9 A_main_call1_v8 A_main_call1_v7 A_main_call1_v6 A_main_call1_v4 A_main_call1_v3 A_main_call1_v1 A_main_v80 A_main_v79 A_main_v78 A_main_v77 K_main_call1_v5 K_main_call1_v2 K_main_call1_v0 K_main_call1_cst K_main_v76 K_main_cst_4
  pointwise
  rw [rgate_at]
  rw [if_neg (not_not.mpr rfl)]
  rfl

/-- The decay. -/
theorem decay_at (b : Fin 4) (s : Fin 8208) (e : Fin 512) : A_main_v102 (F := Ideal) x a2 a3 a4 a5 a6 a7 a8 (ix3 s b e)
    = RecRow.decay (wts a2 a3 a4 a5 a6 a7 a8) (ahead (inp x) b) (112 + s.val) e := by
  unfold A_main_v102 A_main_v86
  pointwise
  rw [rate_at]
  rfl

/-- The first row's number, compared. -/
theorem first_row (s : Fin 8208) (p q : EReal) :
    Scalar.select (IntOp.cmpi CmpIPredicate.eq (BitVec.ofNat 32 s.val) 0#32) p q = if s.val = 0 then p else q := by
  have e : (BitVec.ofNat 32 s.val = 0#32) ↔ s.val = 0 := by
    constructor
    · intro h
      have h' := congrArg BitVec.toNat h
      simp only [BitVec.toNat_ofNat] at h'
      omega
    · intro h
      rw [h]
  by_cases h : s.val = 0
  · simp [Scalar.select, IntOp.cmpi, h]
  · have hb : (BitVec.ofNat 32 s.val == 0#32) = false := beq_eq_false_iff_ne.mpr fun q => h (e.mp q)
    simp [Scalar.select, IntOp.cmpi, h, hb]

/-- The factor of an input, from the decay's exponent. -/
theorem factor_at (la : EReal) :
    Ideal.sqrt (max (-(Ideal.exp (Ideal.ofBits FTy.f32 1073741824#32 * la) - 1)) 0) = RecRow.factor la := by
  have e : Ideal.ofBits FTy.f32 1073741824#32 = ((2 : ℝ) : EReal) := by
    simp [Ideal.ofBits, Ideal.ieee, -EReal.coe_mul]
    norm_num
  unfold RecRow.factor
  rw [e, RecScan.scale_eq]

/-- What a row adds to the state. -/
theorem input_at (b : Fin 4) (s : Fin 8208) (e : Fin 512) : A_main_v103 (F := Ideal) x a2 a3 a4 a5 a6 a7 a8 (ix3 s b e)
    = RecRow.inp (wts a2 a3 a4 a5 a6 a7 a8) (ahead (inp x) b) (112 + s.val) e := by
  unfold A_main_v103 A_main_v100 A_main_v99 A_main_v98 A_main_v93 A_main_v92 A_main_v90 A_main_v89 A_main_v88 K_main_call2_v2 K_main_call2_v1 K_main_call2_v0 K_main_cst_8 K_main_v97 K_main_v96 K_main_c_7 K_main_v95 K_main_v94 K_main_v91 K_main_cst_6 K_main_v87 K_main_cst_5
  pointwise
  rw [rate_at, igate_at, conv_at]
  rw [first_row, factor_at]
  unfold RecRow.inp
  rw [if_pos (show 112 ≤ 112 + s.val by omega)]
  by_cases h : s.val = 0
  · rw [if_pos h, if_pos (show 112 + s.val = 112 by omega)]
    refine congrArg (fun q => q * _ * _) ?_
    exact Ideal.ofBits_one_f32
  · rw [if_neg h, if_neg (show ¬ 112 + s.val = 112 by omega)]
end

variable (m : (ℓ : Loc nD τ sig) → Buf (Elt Ideal) ℓ) (c : Dev nD)

set_option maxRecDepth 65536 in
set_option maxHeartbeats 800000 in
/-- The decays the scan starts with. -/
theorem decays_eq : decays m c = A_main_v102 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold decays
  simp only [entryContents, afterL_cons, afterL_nil]
  after_reads_simp
  rfl

set_option maxRecDepth 65536 in
set_option maxHeartbeats 800000 in
/-- The inputs the scan starts with. -/
theorem inputs_eq : inputs m c = A_main_v103 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold inputs
  simp only [entryContents, afterL_cons, afterL_nil]
  after_reads_simp
  rfl

/-- The operations after the scan, at an element. -/
theorem out_at (V0 : Valuation τ sig (Elt Ideal)) (H : FVec Ideal S8208x4x512 .f32) (g : FVec Ideal S4x8208x512 .f32) (k : FVec Ideal S2x512 .f32)
    (hH : V0 (Proc.devRef .tc main_v105_4) = H) (hg : V0 (Proc.devRef .tc main_arg1) = g) (hk : V0 (Proc.devRef .tc main_arg9) = k)
    (b : Fin 4) (s : Fin 8320) (e : Fin 512) : (out_main_v137 V0 : FVec Ideal S4x8320x512 .bf16) (ix3 b s e)
      = InTile.padded (fun b s e => RecRow.fin (fun j => H (ix3 s b j)) (fun j => g (ix3 b s j)) (fun j => k (ix2 1 j)) e) b s e := by
  unfold out_main_v137
  rw [hH, hg, hk]
  unfold InTile.padded RecRow.fin RecRow.gelu
  pointwise
  simp only [mul_assoc (g _) (g _) (g _)]
  have hs : s.val - 112 < 8208 := by omega
  by_cases h : 112 ≤ s.val
  · rw [dif_pos h]
    first
      | rw [dif_pos ⟨h, hs⟩]
      | rw [dif_pos h]
  · rw [dif_neg h]
    first
      | rw [dif_neg (fun e => h e.1)]
      | rw [dif_neg h]
    simp [FloatOps.sitofp]

/-- The scan's decays at a row. -/
theorem line_decays (b : Fin 4) (e : Fin 512) (t : Nat) (h : t < 8208) : line (decays m c) b e t
    = RecRow.decay (wts (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ahead (inp (m ((c.tc : Thread nD τ).loc main_arg0))) b) (112 + t) e := by
  unfold line
  rw [dif_pos h, decays_eq]
  exact decay_at _ _ _ _ _ _ _ _ b ⟨t, h⟩ e

/-- The scan's inputs at a row. -/
theorem line_inputs (b : Fin 4) (e : Fin 512) (t : Nat) (h : t < 8208) : line (inputs m c) b e t
    = RecRow.inp (wts (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ahead (inp (m ((c.tc : Thread nD τ).loc main_arg0))) b) (112 + t) e := by
  unfold line
  rw [dif_pos h, inputs_eq]
  exact input_at _ _ _ _ _ _ _ _ b ⟨t, h⟩ e

/-- What the scan leaves is the state of the recurrence. -/
theorem scan_at (t : Fin 8208) (b : Fin 4) (e : Fin 512) :
    (STEP^[8208] (entryContents preI m c) (Proc.devRef .tc main_v105_4) : FVec Ideal S8208x4x512 .f32) (ix3 t b e)
      = RecRow.state (wts (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ahead (inp (m ((c.tc : Thread nD τ).loc main_arg0))) b) (112 + t.val) e := by
  rw [rows_at, RecRow.state_from]
  exact RecScan.run_congr (fun r hr => line_decays m c b e r (by omega)) (fun r hr => line_inputs m c b e r (by omega))

/-- The reference's result. -/
theorem result_eq : (out_main_v137 (STEP^[8208] (entryContents preI m c)) : FVec Ideal S4x8320x512 .bf16)
    = fun y => InTile.padded (branch (wts (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (inp (m ((c.tc : Thread nD τ).loc main_arg0)))
        (inp (m ((c.tc : Thread nD τ).loc main_arg1))) (fun e => (m ((c.tc : Thread nD τ).loc main_arg9) : FVec Ideal S2x512 .f32) (ix2 1 e))) (y 0) (y 1) (y 2) := by
  funext y
  obtain ⟨b, s, e, rfl⟩ : ∃ (b : Fin 4) (s : Fin 8320) (e : Fin 512), y = ix3 b s e := ⟨y 0, y 1, y 2, ValueIdx.eq_ix3 y⟩
  refine (out_at _ _ _ _ rfl (iter_main_arg1 m c _) (iter_main_arg9 m c _) _ _ _).trans ?_
  refine congrFun (congrFun (congrFun (congrArg InTile.padded ?_) _) _) _
  funext b s e
  unfold branch
  exact congrArg (fun q => RecRow.fin q _ _ e) (funext fun j => scan_at m c s b j)

end Cert.RecRef

end
-- ==== Proof.RecClaim.lean ====
/- The second layer's recurrent branch and its reference compute the same extended reals. -/
module

public import proofs.«01_k».proof.Proof.RecArray
public import proofs.«01_k».proof.Proof.RecRef
public import proofs.«01_k».proof.Defs
public import Idealize.ShloMosaic.Lib.Claim
public import Idealize.ShloMosaic.Adequacy
public import Idealize.ShloMosaic.Init

@[expose] public section

noncomputable section

namespace Cert.Rec

open Idealize.ShloMosaic Idealize.SL.Sem

/-- The algebraic claim: both runs leave the same array, 112 rows of zeros in front of every batch. -/
theorem algebraic : algebraic_Kernel5Ideal_Reference5Ideal := by
  pair_intro
  · run_from Cert.Kernel5Ideal.Value.run_blocks m g
  · run_from Cert.Reference5Ideal.Value.run m' g'
    obtain ⟨h0, h1, h2, h3, h4, h5, h6, h7, h8, h9⟩ := hagree c
    rw [array10 m c]
    refine (RecRef.result_eq m' c).trans ?_
    rw [h0, h1, h2, h3, h4, h5, h6, h7, h8, h9]
    rfl

end Cert.Rec

end
-- ==== Proof.lean ====
/- The certificate's claims assembled: the generated frames of the kernels, their idealizations and the references, and
   the algebraic claims of LastClaim.lean, MidClaim.lean, InClaim.lean, SecClaim.lean and RecClaim.lean. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.LastClaim
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.MidClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.InClaim
public import proofs.«01_k».proof.Proof.SecClaim
public import proofs.«01_k».proof.Proof.RecClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Step
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

/-- The reference runs, leaves its arguments as they were and every semaphore counter at zero. -/
theorem reference_frame : quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- So does the first layer's reference. -/
theorem reference2_frame : quiescent_Reference2Ideal := by
  intro m g _
  exact (θ_run Cert.Reference2Ideal.defs _ _).mono (fun r h => ⟨fun c => (h c).2, sem_eq_zero_of_no_sems (by decide) r.2⟩)
    (Cert.Reference2Ideal.Value.run m g)

/-- So does the first input projection's reference. -/
theorem reference3_frame : quiescent_Reference3Ideal := by
  intro m g _
  exact (θ_run Cert.Reference3Ideal.defs _ _).mono
    (fun r h => ⟨fun c => (h c).2.2.2.2.2.2, sem_eq_zero_of_no_sems (by decide) r.2⟩) (Cert.Reference3Ideal.Value.run m g)

/-- So does the second layer's. -/
theorem reference4_frame : quiescent_Reference4Ideal := by
  intro m g _
  exact (θ_run Cert.Reference4Ideal.defs _ _).mono
    (fun r h => ⟨fun c => (h c).2.2.2.2.2, sem_eq_zero_of_no_sems (by decide) r.2⟩) (Cert.Reference4Ideal.Value.run m g)

/-- So does the second layer's recurrent branch's. -/
theorem reference5_frame : quiescent_Reference5Ideal := by
  intro m g _
  exact (θ_run Cert.Reference5Ideal.defs _ _).mono (fun r h => ⟨fun c => (h c).2, sem_eq_zero_of_no_sems (by decide) r.2⟩)
    (Cert.Reference5Ideal.Value.run m g)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    trivial, Cert.Last.algebraic, trivial, Cert.Mid.algebraic, trivial, Cert.In.algebraic,
    trivial, Cert.Sec.algebraic, trivial, Cert.Rec.algebraic⟩

end Cert.Proof

end
